-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_in_cells [hPre_offsets_in_cells : Cert.Pre_offsets_in_cells.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_in_cells.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_in_cells [hPre_offsets_in_cells : Cert.Pre_offsets_in_cells.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_in_cells.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_offsets_in_cells [hKernelIdeal : Cert.KernelIdeal.Facts] [hPre_offsets_in_cells : Cert.Pre_offsets_in_cells.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_in_cells m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_offsets_in_cells [hReferenceIdeal : Cert.ReferenceIdeal.Facts] [hPre_offsets_in_cells : Cert.Pre_offsets_in_cells.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_in_cells m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_offsets_in_cells [hKernelIdeal : Cert.KernelIdeal.Facts] [hReferenceIdeal : Cert.ReferenceIdeal.Facts] [hPre_offsets_in_cells : Cert.Pre_offsets_in_cells.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_in_cells m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_offsets_in_cells : Cert.Pre_offsets_in_cells.Facts),
    quiescent_Kernel (hKernel := hKernel)
    ∧ quiescent_KernelIdeal (hKernelIdeal := hKernelIdeal)
    ∧ quiescent_KernelIdeal_pre_offsets_in_cells (hKernelIdeal := hKernelIdeal) (hPre_offsets_in_cells := hPre_offsets_in_cells)
    ∧ quiescent_ReferenceIdeal (hReferenceIdeal := hReferenceIdeal)
    ∧ quiescent_ReferenceIdeal_pre_offsets_in_cells (hReferenceIdeal := hReferenceIdeal) (hPre_offsets_in_cells := hPre_offsets_in_cells)
    ∧ preserves_Kernel_KernelIdeal
    ∧ algebraic_KernelIdeal_ReferenceIdeal_pre_offsets_in_cells (hKernelIdeal := hKernelIdeal) (hReferenceIdeal := hReferenceIdeal) (hPre_offsets_in_cells := hPre_offsets_in_cells)
-- ==== Pre_offsets_in_cells.lean ====
abbrev S4x8x4x32x32 : Shape := ⟨5, ![4, 8, 4, 32, 32]⟩
abbrev S4x2x4x4x32x32 : Shape := ⟨6, ![4, 2, 4, 4, 32, 32]⟩
abbrev S4x2x3x4x32x32 : Shape := ⟨6, ![4, 2, 3, 4, 32, 32]⟩
abbrev S_ : Shape := ⟨0, ![]⟩

class Facts : Prop where
  shapeCasts_S4x8x4x32x32_S4x2x4x4x32x32 : S4x8x4x32x32.ShapeCasts S4x2x4x4x32x32
  slices_S4x2x4x4x32x32_S4x2x3x4x32x32_0_0_1_0_0_0 : S4x2x4x4x32x32.Slices ![0, 0, 1, 0, 0, 0] S4x2x3x4x32x32
  bcast_S_S4x2x3x4x32x32 : S_.BroadcastsInDim S4x2x3x4x32x32 (![] : Fin 0 → Fin S4x2x3x4x32x32.rank)

variable [Facts]

def fn {F : FTy → Type} [FloatOps F] (main_arg0 : FVec F S4x8x4x32x32 .f32) (main_arg1 : FVec F S4x8x4x32x32 .f32) : IVec S4x2x3x4x32x32 1 :=
  let main_v0 : FVec F S4x2x4x4x32x32 .f32 := shapeCast S4x2x4x4x32x32 main_arg0 shapeCasts_S4x8x4x32x32_S4x2x4x4x32x32
  let main_v1 : FVec F S4x2x3x4x32x32 .f32 := (extractStridedSlice S4x2x3x4x32x32 ![0, 0, 1, 0, 0, 0] · slices_S4x2x4x4x32x32_S4x2x3x4x32x32_0_0_1_0_0_0) main_v0
  let main_v2 : FVec F S4x2x4x4x32x32 .f32 := shapeCast S4x2x4x4x32x32 main_arg1 shapeCasts_S4x8x4x32x32_S4x2x4x4x32x32
  let main_v3 : FVec F S4x2x3x4x32x32 .f32 := (extractStridedSlice S4x2x3x4x32x32 ![0, 0, 1, 0, 0, 0] · slices_S4x2x4x4x32x32_S4x2x3x4x32x32_0_0_1_0_0_0) main_v2
  let main_cst : FVec F S_ .f32 := constant S_ .f32 0x00000000#32
  let main_v4 : FVec F S4x2x3x4x32x32 .f32 := broadcastInDim S4x2x3x4x32x32 ![] bcast_S_S4x2x3x4x32x32 main_cst
  let main_v5 : IVec S4x2x3x4x32x32 1 := cmpf .oge main_v1 main_v4
  let main_cst_0 : FVec F S_ .f32 := constant S_ .f32 0x3F800000#32
  let main_v6 : FVec F S4x2x3x4x32x32 .f32 := broadcastInDim S4x2x3x4x32x32 ![] bcast_S_S4x2x3x4x32x32 main_cst_0
  let main_v7 : IVec S4x2x3x4x32x32 1 := cmpf .ole main_v1 main_v6
  let main_v8 : IVec S4x2x3x4x32x32 1 := andi main_v5 main_v7
  let main_cst_1 : FVec F S_ .f32 := constant S_ .f32 0x00000000#32
  let main_v9 : FVec F S4x2x3x4x32x32 .f32 := broadcastInDim S4x2x3x4x32x32 ![] bcast_S_S4x2x3x4x32x32 main_cst_1
  let main_v10 : IVec S4x2x3x4x32x32 1 := cmpf .oge main_v3 main_v9
  let main_v11 : IVec S4x2x3x4x32x32 1 := andi main_v8 main_v10
  let main_cst_2 : FVec F S_ .f32 := constant S_ .f32 0x3F800000#32
  let main_v12 : FVec F S4x2x3x4x32x32 .f32 := broadcastInDim S4x2x3x4x32x32 ![] bcast_S_S4x2x3x4x32x32 main_cst_2
  let main_v13 : IVec S4x2x3x4x32x32 1 := cmpf .ole main_v3 main_v12
  let main_v14 : IVec S4x2x3x4x32x32 1 := andi main_v11 main_v13
  main_v14
-- ==== Kernel.lean ====
abbrev S4x8x4x32x32 : Shape := ⟨5, ![4, 8, 4, 32, 32]⟩
abbrev S4x2x4x4x32x32 : Shape := ⟨6, ![4, 2, 4, 4, 32, 32]⟩
abbrev S2x4x4x32x4x32 : Shape := ⟨6, ![2, 4, 4, 32, 4, 32]⟩
abbrev S8x4x32x128 : Shape := ⟨4, ![8, 4, 32, 128]⟩
abbrev S_ : Shape := ⟨0, ![]⟩
abbrev S8x4x40x384 : Shape := ⟨4, ![8, 4, 40, 384]⟩
abbrev S8x128 : Shape := ⟨2, ![8, 128]⟩
abbrev S8x5x8x40x384 : Shape := ⟨5, ![8, 5, 8, 40, 384]⟩
abbrev S8x40x384 : Shape := ⟨3, ![8, 40, 384]⟩
abbrev S5x8x40x384 : Shape := ⟨4, ![5, 8, 40, 384]⟩
abbrev S5x8x32x128 : Shape := ⟨4, ![5, 8, 32, 128]⟩
abbrev S40x384 : Shape := ⟨2, ![40, 384]⟩
abbrev S4x128 : Shape := ⟨2, ![4, 128]⟩
abbrev S8x1x40x384 : Shape := ⟨4, ![8, 1, 40, 384]⟩
abbrev S1x40x384 : Shape := ⟨3, ![1, 40, 384]⟩
abbrev S8x32x384 : Shape := ⟨3, ![8, 32, 384]⟩
abbrev S1x1x8x32x384 : Shape := ⟨5, ![1, 1, 8, 32, 384]⟩
abbrev S4x40x384 : Shape := ⟨3, ![4, 40, 384]⟩
abbrev S4x32x128 : Shape := ⟨3, ![4, 32, 128]⟩
abbrev S1x1x4x32x128 : Shape := ⟨5, ![1, 1, 4, 32, 128]⟩
abbrev S1x4x32x128 : Shape := ⟨4, ![1, 4, 32, 128]⟩
abbrev S1x8x32x384 : Shape := ⟨4, ![1, 8, 32, 384]⟩
abbrev S4x32 : Shape := ⟨2, ![4, 32]⟩
abbrev S4 : Shape := ⟨1, ![4]⟩
abbrev S4x1 : Shape := ⟨2, ![4, 1]⟩
abbrev S8x3 : Shape := ⟨2, ![8, 3]⟩
abbrev S2x4x3 : Shape := ⟨3, ![2, 4, 3]⟩
abbrev S4x2x3 : Shape := ⟨3, ![4, 2, 3]⟩

abbrev nBuf : Space → Nat
  | .hbm => 18
  | .vmem => 9
  | .smem => 0
  | _ => 0

abbrev bufTy : (tb : Table) → Fin (tcTables nBuf tb) → BufTy
  | .hbm, ⟨0, _⟩ => ⟨S4x8x4x32x32, .f32⟩
  | .hbm, ⟨1, _⟩ => ⟨S4x8x4x32x32, .f32⟩
  | .hbm, ⟨2, _⟩ => ⟨S4x2x4x4x32x32, .f32⟩
  | .hbm, ⟨3, _⟩ => ⟨S2x4x4x32x4x32, .f32⟩
  | .hbm, ⟨4, _⟩ => ⟨S8x4x32x128, .f32⟩
  | .hbm, ⟨5, _⟩ => ⟨S_, .f32⟩
  | .hbm, ⟨6, _⟩ => ⟨S_, .f32⟩
  | .hbm, ⟨7, _⟩ => ⟨S8x4x40x384, .f32⟩
  | .hbm, ⟨8, _⟩ => ⟨S4x2x4x4x32x32, .f32⟩
  | .hbm, ⟨9, _⟩ => ⟨S2x4x4x32x4x32, .f32⟩
  | .hbm, ⟨10, _⟩ => ⟨S8x4x32x128, .f32⟩
  | .hbm, ⟨11, _⟩ => ⟨S_, .f32⟩
  | .hbm, ⟨12, _⟩ => ⟨S_, .f32⟩
  | .hbm, ⟨13, _⟩ => ⟨S8x4x40x384, .f32⟩
  | .hbm, ⟨14, _⟩ => ⟨S8x128, .f32⟩
  | .hbm, ⟨15, _⟩ => ⟨S8x3, .f32⟩
  | .hbm, ⟨16, _⟩ => ⟨S2x4x3, .f32⟩
  | .hbm, ⟨17, _⟩ => ⟨S4x2x3, .f32⟩
  | .local _ .vmem, ⟨0, _⟩ => ⟨S8x4x40x384, .f32⟩
  | .local _ .vmem, ⟨1, _⟩ => ⟨S8x4x40x384, .f32⟩
  | .local _ .vmem, ⟨2, _⟩ => ⟨S8x128, .f32⟩
  | .local _ .vmem, ⟨3, _⟩ => ⟨S8x5x8x40x384, .f32⟩
  | .local _ .vmem, ⟨4, _⟩ => ⟨S8x40x384, .f32⟩
  | .local _ .vmem, ⟨5, _⟩ => ⟨S8x40x384, .f32⟩
  | .local _ .vmem, ⟨6, _⟩ => ⟨S5x8x40x384, .f32⟩
  | .local _ .vmem, ⟨7, _⟩ => ⟨S5x8x40x384, .f32⟩
  | .local _ .vmem, ⟨8, _⟩ => ⟨S5x8x32x128, .i32⟩
  | _, _ => ⟨S4x8x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c1_i32_211 : BitVec 32 := 1#32
  let c3_i32 : BitVec 32 := 3#32
  let v273 : BitVec 32 := Scalar.addi c1_i32_211 c3_i32
  let c1_i32_212 : BitVec 32 := 1#32
  ⟨c1_i32_211, v273, c1_i32_212⟩
def k0_off1 (k0_t1 : Fin k0_t1_loop.trips) : Fin 5 → Nat :=
  let c0_354 : Index := 0#32
  let c1_i32_211 : BitVec 32 := 1#32
  let c1_i32_212 : BitVec 32 := 1#32
  let arg9 : BitVec 32 := Scf.iv c1_i32_211 c1_i32_212 k0_t1
  let v444 : Index := Scalar.indexCast arg9
  let c0_355 : Index := 0#32
  let c4_356 : Index := 4#32
  let c63 : Index := 63#32
  ![0, v444.toNat, 0, 4, 63]
def k0_off2 (k0_t1 : Fin k0_t1_loop.trips) : Fin 5 → Nat :=
  let c1_357 : Index := 1#32
  let c1_i32_211 : BitVec 32 := 1#32
  let c1_i32_212 : BitVec 32 := 1#32
  let arg9 : BitVec 32 := Scf.iv c1_i32_211 c1_i32_212 k0_t1
  let v447 : Index := Scalar.indexCast arg9
  let c0_358 : Index := 0#32
  let c4_359 : Index := 4#32
  let c63_360 : Index := 63#32
  ![1, v447.toNat, 0, 4, 63]
def k0_off3 (k0_t1 : Fin k0_t1_loop.trips) : Fin 5 → Nat :=
  let c2_361 : Index := 2#32
  let c1_i32_211 : BitVec 32 := 1#32
  let c1_i32_212 : BitVec 32 := 1#32
  let arg9 : BitVec 32 := Scf.iv c1_i32_211 c1_i32_212 k0_t1
  let v452 : Index := Scalar.indexCast arg9
  let c0_362 : Index := 0#32
  let c4_363 : Index := 4#32
  let c63_364 : Index := 63#32
  ![2, v452.toNat, 0, 4, 63]
def k0_off4 (k0_t1 : Fin k0_t1_loop.trips) : Fin 5 → Nat :=
  let c3_365 : Index := 3#32
  let c1_i32_211 : BitVec 32 := 1#32
  let c1_i32_212 : BitVec 32 := 1#32
  let arg9 : BitVec 32 := Scf.iv c1_i32_211 c1_i32_212 k0_t1
  let v458 : Index := Scalar.indexCast arg9
  let c0_366 : Index := 0#32
  let c4_367 : Index := 4#32
  let c63_368 : Index := 63#32
  ![3, v458.toNat, 0, 4, 63]
def k0_off5 (k0_t1 : Fin k0_t1_loop.trips) : Fin 5 → Nat :=
  let c0_372 : Index := 0#32
  let c1_i32_211 : BitVec 32 := 1#32
  let c1_i32_212 : BitVec 32 := 1#32
  let arg9 : BitVec 32 := Scf.iv c1_i32_211 c1_i32_212 k0_t1
  let v478 : Index := Scalar.indexCast arg9
  let c0_373 : Index := 0#32
  let c4_374 : Index := 4#32
  let c64 : Index := 64#32
  ![0, v478.toNat, 0, 4, 64]
def k0_off6 (k0_t1 : Fin k0_t1_loop.trips) : Fin 5 → Nat :=
  let c1_375 : Index := 1#32
  let c1_i32_211 : BitVec 32 := 1#32
  let c1_i32_212 : BitVec 32 := 1#32
  let arg9 : BitVec 32 := Scf.iv c1_i32_211 c1_i32_212 k0_t1
  let v481 : Index := Scalar.indexCast arg9
  let c0_376 : Index := 0#32
  let c4_377 : Index := 4#32
  let c64_378 : Index := 64#32
  ![1, v481.toNat, 0, 4, 64]
def k0_off7 (k0_t1 : Fin k0_t1_loop.trips) : Fin 5 → Nat :=
  let c2_379 : Index := 2#32
  let c1_i32_211 : BitVec 32 := 1#32
  let c1_i32_212 : BitVec 32 := 1#32
  let arg9 : BitVec 32 := Scf.iv c1_i32_211 c1_i32_212 k0_t1
  let v486 : Index := Scalar.indexCast arg9
  let c0_380 : Index := 0#32
  let c4_381 : Index := 4#32
  let c64_382 : Index := 64#32
  ![2, v486.toNat, 0, 4, 64]
def k0_off8 (k0_t1 : Fin k0_t1_loop.trips) : Fin 5 → Nat :=
  let c3_383 : Index := 3#32
  let c1_i32_211 : BitVec 32 := 1#32
  let c1_i32_212 : BitVec 32 := 1#32
  let arg9 : BitVec 32 := Scf.iv c1_i32_211 c1_i32_212 k0_t1
  let v492 : Index := Scalar.indexCast arg9
  let c0_384 : Index := 0#32
  let c4_385 : Index := 4#32
  let c64_386 : Index := 64#32
  ![3, v492.toNat, 0, 4, 64]
def k0_off9 (k0_t1 : Fin k0_t1_loop.trips) : Fin 5 → Nat :=
  let c0_390 : Index := 0#32
  let c1_i32_211 : BitVec 32 := 1#32
  let c1_i32_212 : BitVec 32 := 1#32
  let arg9 : BitVec 32 := Scf.iv c1_i32_211 c1_i32_212 k0_t1
  let v512 : Index := Scalar.indexCast arg9
  let c0_391 : Index := 0#32
  let c4_392 : Index := 4#32
  let c65 : Index := 65#32
  ![0, v512.toNat, 0, 4, 65]
def k0_off10 (k0_t1 : Fin k0_t1_loop.trips) : Fin 5 → Nat :=
  let c1_393 : Index := 1#32
  let c1_i32_211 : BitVec 32 := 1#32
  let c1_i32_212 : BitVec 32 := 1#32
  let arg9 : BitVec 32 := Scf.iv c1_i32_211 c1_i32_212 k0_t1
  let v515 : Index := Scalar.indexCast arg9
  let c0_394 : Index := 0#32
  let c4_395 : Index := 4#32
  let c65_396 : Index := 65#32
  ![1, v515.toNat, 0, 4, 65]
def k0_off11 (k0_t1 : Fin k0_t1_loop.trips) : Fin 5 → Nat :=
  let c2_397 : Index := 2#32
  let c1_i32_211 : BitVec 32 := 1#32
  let c1_i32_212 : BitVec 32 := 1#32
  let arg9 : BitVec 32 := Scf.iv c1_i32_211 c1_i32_212 k0_t1
  let v520 : Index := Scalar.indexCast arg9
  let c0_398 : Index := 0#32
  let c4_399 : Index := 4#32
  let c65_400 : Index := 65#32
  ![2, v520.toNat, 0, 4, 65]
def k0_off12 (k0_t1 : Fin k0_t1_loop.trips) : Fin 5 → Nat :=
  let c3_401 : Index := 3#32
  let c1_i32_211 : BitVec 32 := 1#32
  let c1_i32_212 : BitVec 32 := 1#32
  let arg9 : BitVec 32 := Scf.iv c1_i32_211 c1_i32_212 k0_t1
  let v526 : Index := Scalar.indexCast arg9
  let c0_402 : Index := 0#32
  let c4_403 : Index := 4#32
  let c65_404 : Index := 65#32
  ![3, v526.toNat, 0, 4, 65]
def k0_off13 (k0_t1 : Fin k0_t1_loop.trips) : Fin 5 → Nat :=
  let c0_408 : Index := 0#32
  let c1_i32_211 : BitVec 32 := 1#32
  let c1_i32_212 : BitVec 32 := 1#32
  let arg9 : BitVec 32 := Scf.iv c1_i32_211 c1_i32_212 k0_t1
  let v546 : Index := Scalar.indexCast arg9
  let c0_409 : Index := 0#32
  let c4_410 : Index := 4#32
  let c94 : Index := 94#32
  ![0, v546.toNat, 0, 4, 94]
def k0_off14 (k0_t1 : Fin k0_t1_loop.trips) : Fin 5 → Nat :=
  let c1_411 : Index := 1#32
  let c1_i32_211 : BitVec 32 := 1#32
  let c1_i32_212 : BitVec 32 := 1#32
  let arg9 : BitVec 32 := Scf.iv c1_i32_211 c1_i32_212 k0_t1
  let v549 : Index := Scalar.indexCast arg9
  let c0_412 : Index := 0#32
  let c4_413 : Index := 4#32
  let c94_414 : Index := 94#32
  ![1, v549.toNat, 0, 4, 94]
def k0_off15 (k0_t1 : Fin k0_t1_loop.trips) : Fin 5 → Nat :=
  let c2_415 : Index := 2#32
  let c1_i32_211 : BitVec 32 := 1#32
  let c1_i32_212 : BitVec 32 := 1#32
  let arg9 : BitVec 32 := Scf.iv c1_i32_211 c1_i32_212 k0_t1
  let v554 : Index := Scalar.indexCast arg9
  let c0_416 : Index := 0#32
  let c4_417 : Index := 4#32
  let c94_418 : Index := 94#32
  ![2, v554.toNat, 0, 4, 94]
def k0_off16 (k0_t1 : Fin k0_t1_loop.trips) : Fin 5 → Nat :=
  let c3_419 : Index := 3#32
  let c1_i32_211 : BitVec 32 := 1#32
  let c1_i32_212 : BitVec 32 := 1#32
  let arg9 : BitVec 32 := Scf.iv c1_i32_211 c1_i32_212 k0_t1
  let v560 : Index := Scalar.indexCast arg9
  let c0_420 : Index := 0#32
  let c4_421 : Index := 4#32
  let c94_422 : Index := 94#32
  ![3, v560.toNat, 0, 4, 94]
def k0_off17 (k0_t1 : Fin k0_t1_loop.trips) : Fin 5 → Nat :=
  let c0_426 : Index := 0#32
  let c1_i32_211 : BitVec 32 := 1#32
  let c1_i32_212 : BitVec 32 := 1#32
  let arg9 : BitVec 32 := Scf.iv c1_i32_211 c1_i32_212 k0_t1
  let v580 : Index := Scalar.indexCast arg9
  let c0_427 : Index := 0#32
  let c4_428 : Index := 4#32
  let c95 : Index := 95#32
  ![0, v580.toNat, 0, 4, 95]
def k0_off18 (k0_t1 : Fin k0_t1_loop.trips) : Fin 5 → Nat :=
  let c1_429 : Index := 1#32
  let c1_i32_211 : BitVec 32 := 1#32
  let c1_i32_212 : BitVec 32 := 1#32
  let arg9 : BitVec 32 := Scf.iv c1_i32_211 c1_i32_212 k0_t1
  let v583 : Index := Scalar.indexCast arg9
  let c0_430 : Index := 0#32
  let c4_431 : Index := 4#32
  let c95_432 : Index := 95#32
  ![1, v583.toNat, 0, 4, 95]
def k0_off19 (k0_t1 : Fin k0_t1_loop.trips) : Fin 5 → Nat :=
  let c2_433 : Index := 2#32
  let c1_i32_211 : BitVec 32 := 1#32
  let c1_i32_212 : BitVec 32 := 1#32
  let arg9 : BitVec 32 := Scf.iv c1_i32_211 c1_i32_212 k0_t1
  let v588 : Index := Scalar.indexCast arg9
  let c0_434 : Index := 0#32
  let c4_435 : Index := 4#32
  let c95_436 : Index := 95#32
  ![2, v588.toNat, 0, 4, 95]
def k0_off20 (k0_t1 : Fin k0_t1_loop.trips) : Fin 5 → Nat :=
  let c3_437 : Index := 3#32
  let c1_i32_211 : BitVec 32 := 1#32
  let c1_i32_212 : BitVec 32 := 1#32
  let arg9 : BitVec 32 := Scf.iv c1_i32_211 c1_i32_212 k0_t1
  let v594 : Index := Scalar.indexCast arg9
  let c0_438 : Index := 0#32
  let c4_439 : Index := 4#32
  let c95_440 : Index := 95#32
  ![3, v594.toNat, 0, 4, 95]
def k0_off21 (k0_t1 : Fin k0_t1_loop.trips) : Fin 5 → Nat :=
  let c0_443 : Index := 0#32
  let c1_i32_211 : BitVec 32 := 1#32
  let c1_i32_212 : BitVec 32 := 1#32
  let arg9 : BitVec 32 := Scf.iv c1_i32_211 c1_i32_212 k0_t1
  let v614 : Index := Scalar.indexCast arg9
  let c0_444 : Index := 0#32
  let c4_445 : Index := 4#32
  let c96 : Index := 96#32
  ![0, v614.toNat, 0, 4, 96]
def k0_off22 (k0_t1 : Fin k0_t1_loop.trips) : Fin 5 → Nat :=
  let c1_446 : Index := 1#32
  let c1_i32_211 : BitVec 32 := 1#32
  let c1_i32_212 : BitVec 32 := 1#32
  let arg9 : BitVec 32 := Scf.iv c1_i32_211 c1_i32_212 k0_t1
  let v617 : Index := Scalar.indexCast arg9
  let c0_447 : Index := 0#32
  let c4_448 : Index := 4#32
  let c96_449 : Index := 96#32
  ![1, v617.toNat, 0, 4, 96]
def k0_off23 (k0_t1 : Fin k0_t1_loop.trips) : Fin 5 → Nat :=
  let c2_450 : Index := 2#32
  let c1_i32_211 : BitVec 32 := 1#32
  let c1_i32_212 : BitVec 32 := 1#32
  let arg9 : BitVec 32 := Scf.iv c1_i32_211 c1_i32_212 k0_t1
  let v622 : Index := Scalar.indexCast arg9
  let c0_451 : Index := 0#32
  let c4_452 : Index := 4#32
  let c96_453 : Index := 96#32
  ![2, v622.toNat, 0, 4, 96]
def k0_off24 (k0_t1 : Fin k0_t1_loop.trips) : Fin 5 → Nat :=
  let c3_454 : Index := 3#32
  let c1_i32_211 : BitVec 32 := 1#32
  let c1_i32_212 : BitVec 32 := 1#32
  let arg9 : BitVec 32 := Scf.iv c1_i32_211 c1_i32_212 k0_t1
  let v628 : Index := Scalar.indexCast arg9
  let c0_455 : Index := 0#32
  let c4_456 : Index := 4#32
  let c96_457 : Index := 96#32
  ![3, v628.toNat, 0, 4, 96]
def k0_off25 (k0_t1 : Fin k0_t1_loop.trips) : Fin 5 → Nat :=
  let c0_461 : Index := 0#32
  let c1_i32_211 : BitVec 32 := 1#32
  let c1_i32_212 : BitVec 32 := 1#32
  let arg9 : BitVec 32 := Scf.iv c1_i32_211 c1_i32_212 k0_t1
  let v648 : Index := Scalar.indexCast arg9
  let c0_462 : Index := 0#32
  let c4_463 : Index := 4#32
  let c97 : Index := 97#32
  ![0, v648.toNat, 0, 4, 97]
def k0_off26 (k0_t1 : Fin k0_t1_loop.trips) : Fin 5 → Nat :=
  let c1_464 : Index := 1#32
  let c1_i32_211 : BitVec 32 := 1#32
  let c1_i32_212 : BitVec 32 := 1#32
  let arg9 : BitVec 32 := Scf.iv c1_i32_211 c1_i32_212 k0_t1
  let v651 : Index := Scalar.indexCast arg9
  let c0_465 : Index := 0#32
  let c4_466 : Index := 4#32
  let c97_467 : Index := 97#32
  ![1, v651.toNat, 0, 4, 97]
def k0_off27 (k0_t1 : Fin k0_t1_loop.trips) : Fin 5 → Nat :=
  let c2_468 : Index := 2#32
  let c1_i32_211 : BitVec 32 := 1#32
  let c1_i32_212 : BitVec 32 := 1#32
  let arg9 : BitVec 32 := Scf.iv c1_i32_211 c1_i32_212 k0_t1
  let v656 : Index := Scalar.indexCast arg9
  let c0_469 : Index := 0#32
  let c4_470 : Index := 4#32
  let c97_471 : Index := 97#32
  ![2, v656.toNat, 0, 4, 97]
def k0_off28 (k0_t1 : Fin k0_t1_loop.trips) : Fin 5 → Nat :=
  let c3_472 : Index := 3#32
  let c1_i32_211 : BitVec 32 := 1#32
  let c1_i32_212 : BitVec 32 := 1#32
  let arg9 : BitVec 32 := Scf.iv c1_i32_211 c1_i32_212 k0_t1
  let v662 : Index := Scalar.indexCast arg9
  let c0_473 : Index := 0#32
  let c4_474 : Index := 4#32
  let c97_475 : Index := 97#32
  ![3, v662.toNat, 0, 4, 97]
def k0_off29 (k0_t1 : Fin k0_t1_loop.trips) : Fin 5 → Nat :=
  let c0_478 : Index := 0#32
  let c1_i32_211 : BitVec 32 := 1#32
  let c1_i32_212 : BitVec 32 := 1#32
  let arg9 : BitVec 32 := Scf.iv c1_i32_211 c1_i32_212 k0_t1
  let v682 : Index := Scalar.indexCast arg9
  let c0_479 : Index := 0#32
  let c4_480 : Index := 4#32
  let c98 : Index := 98#32
  ![0, v682.toNat, 0, 4, 98]
def k0_off30 (k0_t1 : Fin k0_t1_loop.trips) : Fin 5 → Nat :=
  let c1_481 : Index := 1#32
  let c1_i32_211 : BitVec 32 := 1#32
  let c1_i32_212 : BitVec 32 := 1#32
  let arg9 : BitVec 32 := Scf.iv c1_i32_211 c1_i32_212 k0_t1
  let v685 : Index := Scalar.indexCast arg9
  let c0_482 : Index := 0#32
  let c4_483 : Index := 4#32
  let c98_484 : Index := 98#32
  ![1, v685.toNat, 0, 4, 98]
def k0_off31 (k0_t1 : Fin k0_t1_loop.trips) : Fin 5 → Nat :=
  let c2_485 : Index := 2#32
  let c1_i32_211 : BitVec 32 := 1#32
  let c1_i32_212 : BitVec 32 := 1#32
  let arg9 : BitVec 32 := Scf.iv c1_i32_211 c1_i32_212 k0_t1
  let v690 : Index := Scalar.indexCast arg9
  let c0_486 : Index := 0#32
  let c4_487 : Index := 4#32
  let c98_488 : Index := 98#32
  ![2, v690.toNat, 0, 4, 98]
def k0_off32 (k0_t1 : Fin k0_t1_loop.trips) : Fin 5 → Nat :=
  let c3_489 : Index := 3#32
  let c1_i32_211 : BitVec 32 := 1#32
  let c1_i32_212 : BitVec 32 := 1#32
  let arg9 : BitVec 32 := Scf.iv c1_i32_211 c1_i32_212 k0_t1
  let v696 : Index := Scalar.indexCast arg9
  let c0_490 : Index := 0#32
  let c4_491 : Index := 4#32
  let c98_492 : Index := 98#32
  ![3, v696.toNat, 0, 4, 98]
def k0_off33 (k0_t1 : Fin k0_t1_loop.trips) : Fin 5 → Nat :=
  let c0_496 : Index := 0#32
  let c1_i32_211 : BitVec 32 := 1#32
  let c1_i32_212 : BitVec 32 := 1#32
  let arg9 : BitVec 32 := Scf.iv c1_i32_211 c1_i32_212 k0_t1
  let v716 : Index := Scalar.indexCast arg9
  let c0_497 : Index := 0#32
  let c4_498 : Index := 4#32
  let c126 : Index := 126#32
  ![0, v716.toNat, 0, 4, 126]
def k0_off34 (k0_t1 : Fin k0_t1_loop.trips) : Fin 5 → Nat :=
  let c1_499 : Index := 1#32
  let c1_i32_211 : BitVec 32 := 1#32
  let c1_i32_212 : BitVec 32 := 1#32
  let arg9 : BitVec 32 := Scf.iv c1_i32_211 c1_i32_212 k0_t1
  let v719 : Index := Scalar.indexCast arg9
  let c0_500 : Index := 0#32
  let c4_501 : Index := 4#32
  let c126_502 : Index := 126#32
  ![1, v719.toNat, 0, 4, 126]
def k0_off35 (k0_t1 : Fin k0_t1_loop.trips) : Fin 5 → Nat :=
  let c2_503 : Index := 2#32
  let c1_i32_211 : BitVec 32 := 1#32
  let c1_i32_212 : BitVec 32 := 1#32
  let arg9 : BitVec 32 := Scf.iv c1_i32_211 c1_i32_212 k0_t1
  let v724 : Index := Scalar.indexCast arg9
  let c0_504 : Index := 0#32
  let c4_505 : Index := 4#32
  let c126_506 : Index := 126#32
  ![2, v724.toNat, 0, 4, 126]
def k0_off36 (k0_t1 : Fin k0_t1_loop.trips) : Fin 5 → Nat :=
  let c3_507 : Index := 3#32
  let c1_i32_211 : BitVec 32 := 1#32
  let c1_i32_212 : BitVec 32 := 1#32
  let arg9 : BitVec 32 := Scf.iv c1_i32_211 c1_i32_212 k0_t1
  let v730 : Index := Scalar.indexCast arg9
  let c0_508 : Index := 0#32
  let c4_509 : Index := 4#32
  let c126_510 : Index := 126#32
  ![3, v730.toNat, 0, 4, 126]
def k0_off37 (k0_t1 : Fin k0_t1_loop.trips) : Fin 5 → Nat :=
  let c0_516 : Index := 0#32
  let c1_i32_211 : BitVec 32 := 1#32
  let c1_i32_212 : BitVec 32 := 1#32
  let arg9 : BitVec 32 := Scf.iv c1_i32_211 c1_i32_212 k0_t1
  let v758 : Index := Scalar.indexCast arg9
  let c0_517 : Index := 0#32
  let c4_518 : Index := 4#32
  let c127 : Index := 127#32
  ![0, v758.toNat, 0, 4, 127]
def k0_off38 (k0_t1 : Fin k0_t1_loop.trips) : Fin 5 → Nat :=
  let c1_519 : Index := 1#32
  let c1_i32_211 : BitVec 32 := 1#32
  let c1_i32_212 : BitVec 32 := 1#32
  let arg9 : BitVec 32 := Scf.iv c1_i32_211 c1_i32_212 k0_t1
  let v761 : Index := Scalar.indexCast arg9
  let c0_520 : Index := 0#32
  let c4_521 : Index := 4#32
  let c127_522 : Index := 127#32
  ![1, v761.toNat, 0, 4, 127]
def k0_off39 (k0_t1 : Fin k0_t1_loop.trips) : Fin 5 → Nat :=
  let c2_523 : Index := 2#32
  let c1_i32_211 : BitVec 32 := 1#32
  let c1_i32_212 : BitVec 32 := 1#32
  let arg9 : BitVec 32 := Scf.iv c1_i32_211 c1_i32_212 k0_t1
  let v766 : Index := Scalar.indexCast arg9
  let c0_524 : Index := 0#32
  let c4_525 : Index := 4#32
  let c127_526 : Index := 127#32
  ![2, v766.toNat, 0, 4, 127]
def k0_off40 (k0_t1 : Fin k0_t1_loop.trips) : Fin 5 → Nat :=
  let c3_527 : Index := 3#32
  let c1_i32_211 : BitVec 32 := 1#32
  let c1_i32_212 : BitVec 32 := 1#32
  let arg9 : BitVec 32 := Scf.iv c1_i32_211 c1_i32_212 k0_t1
  let v772 : Index := Scalar.indexCast arg9
  let c0_528 : Index := 0#32
  let c4_529 : Index := 4#32
  let c127_530 : Index := 127#32
  ![3, v772.toNat, 0, 4, 127]
def k0_off41 (k0_t1 : Fin k0_t1_loop.trips) : Fin 5 → Nat :=
  let c0_536 : Index := 0#32
  let c1_i32_211 : BitVec 32 := 1#32
  let c1_i32_212 : BitVec 32 := 1#32
  let arg9 : BitVec 32 := Scf.iv c1_i32_211 c1_i32_212 k0_t1
  let v800 : Index := Scalar.indexCast arg9
  let c0_537 : Index := 0#32
  let c4_538 : Index := 4#32
  let c128_539 : Index := 128#32
  ![0, v800.toNat, 0, 4, 128]
def k0_off42 (k0_t1 : Fin k0_t1_loop.trips) : Fin 5 → Nat :=
  let c1_540 : Index := 1#32
  let c1_i32_211 : BitVec 32 := 1#32
  let c1_i32_212 : BitVec 32 := 1#32
  let arg9 : BitVec 32 := Scf.iv c1_i32_211 c1_i32_212 k0_t1
  let v803 : Index := Scalar.indexCast arg9
  let c0_541 : Index := 0#32
  let c4_542 : Index := 4#32
  let c128_543 : Index := 128#32
  ![1, v803.toNat, 0, 4, 128]
def k0_off43 (k0_t1 : Fin k0_t1_loop.trips) : Fin 5 → Nat :=
  let c2_544 : Index := 2#32
  let c1_i32_211 : BitVec 32 := 1#32
  let c1_i32_212 : BitVec 32 := 1#32
  let arg9 : BitVec 32 := Scf.iv c1_i32_211 c1_i32_212 k0_t1
  let v808 : Index := Scalar.indexCast arg9
  let c0_545 : Index := 0#32
  let c4_546 : Index := 4#32
  let c128_547 : Index := 128#32
  ![2, v808.toNat, 0, 4, 128]
def k0_off44 (k0_t1 : Fin k0_t1_loop.trips) : Fin 5 → Nat :=
  let c3_548 : Index := 3#32
  let c1_i32_211 : BitVec 32 := 1#32
  let c1_i32_212 : BitVec 32 := 1#32
  let arg9 : BitVec 32 := Scf.iv c1_i32_211 c1_i32_212 k0_t1
  let v814 : Index := Scalar.indexCast arg9
  let c0_549 : Index := 0#32
  let c4_550 : Index := 4#32
  let c128_551 : Index := 128#32
  ![3, v814.toNat, 0, 4, 128]
def k0_off45 (k0_t1 : Fin k0_t1_loop.trips) : Fin 5 → Nat :=
  let c0_558 : Index := 0#32
  let c1_i32_211 : BitVec 32 := 1#32
  let c1_i32_212 : BitVec 32 := 1#32
  let arg9 : BitVec 32 := Scf.iv c1_i32_211 c1_i32_212 k0_t1
  let v842 : Index := Scalar.indexCast arg9
  let c0_559 : Index := 0#32
  let c4_560 : Index := 4#32
  let c129 : Index := 129#32
  ![0, v842.toNat, 0, 4, 129]
def k0_off46 (k0_t1 : Fin k0_t1_loop.trips) : Fin 5 → Nat :=
  let c1_561 : Index := 1#32
  let c1_i32_211 : BitVec 32 := 1#32
  let c1_i32_212 : BitVec 32 := 1#32
  let arg9 : BitVec 32 := Scf.iv c1_i32_211 c1_i32_212 k0_t1
  let v845 : Index := Scalar.indexCast arg9
  let c0_562 : Index := 0#32
  let c4_563 : Index := 4#32
  let c129_564 : Index := 129#32
  ![1, v845.toNat, 0, 4, 129]
def k0_off47 (k0_t1 : Fin k0_t1_loop.trips) : Fin 5 → Nat :=
  let c2_565 : Index := 2#32
  let c1_i32_211 : BitVec 32 := 1#32
  let c1_i32_212 : BitVec 32 := 1#32
  let arg9 : BitVec 32 := Scf.iv c1_i32_211 c1_i32_212 k0_t1
  let v850 : Index := Scalar.indexCast arg9
  let c0_566 : Index := 0#32
  let c4_567 : Index := 4#32
  let c129_568 : Index := 129#32
  ![2, v850.toNat, 0, 4, 129]
def k0_off48 (k0_t1 : Fin k0_t1_loop.trips) : Fin 5 → Nat :=
  let c3_569 : Index := 3#32
  let c1_i32_211 : BitVec 32 := 1#32
  let c1_i32_212 : BitVec 32 := 1#32
  let arg9 : BitVec 32 := Scf.iv c1_i32_211 c1_i32_212 k0_t1
  let v856 : Index := Scalar.indexCast arg9
  let c0_570 : Index := 0#32
  let c4_571 : Index := 4#32
  let c129_572 : Index := 129#32
  ![3, v856.toNat, 0, 4, 129]
def k0_off49 (k0_t1 : Fin k0_t1_loop.trips) : Fin 5 → Nat :=
  let c0_579 : Index := 0#32
  let c1_i32_211 : BitVec 32 := 1#32
  let c1_i32_212 : BitVec 32 := 1#32
  let arg9 : BitVec 32 := Scf.iv c1_i32_211 c1_i32_212 k0_t1
  let v884 : Index := Scalar.indexCast arg9
  let c0_580 : Index := 0#32
  let c4_581 : Index := 4#32
  let c130 : Index := 130#32
  ![0, v884.toNat, 0, 4, 130]
def k0_off50 (k0_t1 : Fin k0_t1_loop.trips) : Fin 5 → Nat :=
  let c1_582 : Index := 1#32
  let c1_i32_211 : BitVec 32 := 1#32
  let c1_i32_212 : BitVec 32 := 1#32
  let arg9 : BitVec 32 := Scf.iv c1_i32_211 c1_i32_212 k0_t1
  let v887 : Index := Scalar.indexCast arg9
  let c0_583 : Index := 0#32
  let c4_584 : Index := 4#32
  let c130_585 : Index := 130#32
  ![1, v887.toNat, 0, 4, 130]
def k0_off51 (k0_t1 : Fin k0_t1_loop.trips) : Fin 5 → Nat :=
  let c2_586 : Index := 2#32
  let c1_i32_211 : BitVec 32 := 1#32
  let c1_i32_212 : BitVec 32 := 1#32
  let arg9 : BitVec 32 := Scf.iv c1_i32_211 c1_i32_212 k0_t1
  let v892 : Index := Scalar.indexCast arg9
  let c0_587 : Index := 0#32
  let c4_588 : Index := 4#32
  let c130_589 : Index := 130#32
  ![2, v892.toNat, 0, 4, 130]
def k0_off52 (k0_t1 : Fin k0_t1_loop.trips) : Fin 5 → Nat :=
  let c3_590 : Index := 3#32
  let c1_i32_211 : BitVec 32 := 1#32
  let c1_i32_212 : BitVec 32 := 1#32
  let arg9 : BitVec 32 := Scf.iv c1_i32_211 c1_i32_212 k0_t1
  let v898 : Index := Scalar.indexCast arg9
  let c0_591 : Index := 0#32
  let c4_592 : Index := 4#32
  let c130_593 : Index := 130#32
  ![3, v898.toNat, 0, 4, 130]
def k0_off53 (k0_t1 : Fin k0_t1_loop.trips) : Fin 5 → Nat :=
  let c0_600 : Index := 0#32
  let c1_i32_211 : BitVec 32 := 1#32
  let c1_i32_212 : BitVec 32 := 1#32
  let arg9 : BitVec 32 := Scf.iv c1_i32_211 c1_i32_212 k0_t1
  let v926 : Index := Scalar.indexCast arg9
  let c0_601 : Index := 0#32
  let c4_602 : Index := 4#32
  let c158 : Index := 158#32
  ![0, v926.toNat, 0, 4, 158]
def k0_off54 (k0_t1 : Fin k0_t1_loop.trips) : Fin 5 → Nat :=
  let c1_603 : Index := 1#32
  let c1_i32_211 : BitVec 32 := 1#32
  let c1_i32_212 : BitVec 32 := 1#32
  let arg9 : BitVec 32 := Scf.iv c1_i32_211 c1_i32_212 k0_t1
  let v929 : Index := Scalar.indexCast arg9
  let c0_604 : Index := 0#32
  let c4_605 : Index := 4#32
  let c158_606 : Index := 158#32
  ![1, v929.toNat, 0, 4, 158]
def k0_off55 (k0_t1 : Fin k0_t1_loop.trips) : Fin 5 → Nat :=
  let c2_607 : Index := 2#32
  let c1_i32_211 : BitVec 32 := 1#32
  let c1_i32_212 : BitVec 32 := 1#32
  let arg9 : BitVec 32 := Scf.iv c1_i32_211 c1_i32_212 k0_t1
  let v934 : Index := Scalar.indexCast arg9
  let c0_608 : Index := 0#32
  let c4_609 : Index := 4#32
  let c158_610 : Index := 158#32
  ![2, v934.toNat, 0, 4, 158]
def k0_off56 (k0_t1 : Fin k0_t1_loop.trips) : Fin 5 → Nat :=
  let c3_611 : Index := 3#32
  let c1_i32_211 : BitVec 32 := 1#32
  let c1_i32_212 : BitVec 32 := 1#32
  let arg9 : BitVec 32 := Scf.iv c1_i32_211 c1_i32_212 k0_t1
  let v940 : Index := Scalar.indexCast arg9
  let c0_612 : Index := 0#32
  let c4_613 : Index := 4#32
  let c158_614 : Index := 158#32
  ![3, v940.toNat, 0, 4, 158]
def k0_off57 (k0_t1 : Fin k0_t1_loop.trips) : Fin 5 → Nat :=
  let c0_617 : Index := 0#32
  let c1_i32_211 : BitVec 32 := 1#32
  let c1_i32_212 : BitVec 32 := 1#32
  let arg9 : BitVec 32 := Scf.iv c1_i32_211 c1_i32_212 k0_t1
  let v960 : Index := Scalar.indexCast arg9
  let c0_618 : Index := 0#32
  let c4_619 : Index := 4#32
  let c159 : Index := 159#32
  ![0, v960.toNat, 0, 4, 159]
def k0_off58 (k0_t1 : Fin k0_t1_loop.trips) : Fin 5 → Nat :=
  let c1_620 : Index := 1#32
  let c1_i32_211 : BitVec 32 := 1#32
  let c1_i32_212 : BitVec 32 := 1#32
  let arg9 : BitVec 32 := Scf.iv c1_i32_211 c1_i32_212 k0_t1
  let v963 : Index := Scalar.indexCast arg9
  let c0_621 : Index := 0#32
  let c4_622 : Index := 4#32
  let c159_623 : Index := 159#32
  ![1, v963.toNat, 0, 4, 159]
def k0_off59 (k0_t1 : Fin k0_t1_loop.trips) : Fin 5 → Nat :=
  let c2_624 : Index := 2#32
  let c1_i32_211 : BitVec 32 := 1#32
  let c1_i32_212 : BitVec 32 := 1#32
  let arg9 : BitVec 32 := Scf.iv c1_i32_211 c1_i32_212 k0_t1
  let v968 : Index := Scalar.indexCast arg9
  let c0_625 : Index := 0#32
  let c4_626 : Index := 4#32
  let c159_627 : Index := 159#32
  ![2, v968.toNat, 0, 4, 159]
def k0_off60 (k0_t1 : Fin k0_t1_loop.trips) : Fin 5 → Nat :=
  let c3_628 : Index := 3#32
  let c1_i32_211 : BitVec 32 := 1#32
  let c1_i32_212 : BitVec 32 := 1#32
  let arg9 : BitVec 32 := Scf.iv c1_i32_211 c1_i32_212 k0_t1
  let v974 : Index := Scalar.indexCast arg9
  let c0_629 : Index := 0#32
  let c4_630 : Index := 4#32
  let c159_631 : Index := 159#32
  ![3, v974.toNat, 0, 4, 159]
def k0_off61 (k0_t1 : Fin k0_t1_loop.trips) : Fin 5 → Nat :=
  let c0_634 : Index := 0#32
  let c1_i32_211 : BitVec 32 := 1#32
  let c1_i32_212 : BitVec 32 := 1#32
  let arg9 : BitVec 32 := Scf.iv c1_i32_211 c1_i32_212 k0_t1
  let v994 : Index := Scalar.indexCast arg9
  let c0_635 : Index := 0#32
  let c4_636 : Index := 4#32
  let c160 : Index := 160#32
  ![0, v994.toNat, 0, 4, 160]
def k0_off62 (k0_t1 : Fin k0_t1_loop.trips) : Fin 5 → Nat :=
  let c1_637 : Index := 1#32
  let c1_i32_211 : BitVec 32 := 1#32
  let c1_i32_212 : BitVec 32 := 1#32
  let arg9 : BitVec 32 := Scf.iv c1_i32_211 c1_i32_212 k0_t1
  let v997 : Index := Scalar.indexCast arg9
  let c0_638 : Index := 0#32
  let c4_639 : Index := 4#32
  let c160_640 : Index := 160#32
  ![1, v997.toNat, 0, 4, 160]
def k0_off63 (k0_t1 : Fin k0_t1_loop.trips) : Fin 5 → Nat :=
  let c2_641 : Index := 2#32
  let c1_i32_211 : BitVec 32 := 1#32
  let c1_i32_212 : BitVec 32 := 1#32
  let arg9 : BitVec 32 := Scf.iv c1_i32_211 c1_i32_212 k0_t1
  let v1002 : Index := Scalar.indexCast arg9
  let c0_642 : Index := 0#32
  let c4_643 : Index := 4#32
  let c160_644 : Index := 160#32
  ![2, v1002.toNat, 0, 4, 160]
def k0_off64 (k0_t1 : Fin k0_t1_loop.trips) : Fin 5 → Nat :=
  let c3_645 : Index := 3#32
  let c1_i32_211 : BitVec 32 := 1#32
  let c1_i32_212 : BitVec 32 := 1#32
  let arg9 : BitVec 32 := Scf.iv c1_i32_211 c1_i32_212 k0_t1
  let v1008 : Index := Scalar.indexCast arg9
  let c0_646 : Index := 0#32
  let c4_647 : Index := 4#32
  let c160_648 : Index := 160#32
  ![3, v1008.toNat, 0, 4, 160]
def k0_off65 (k0_t1 : Fin k0_t1_loop.trips) : Fin 5 → Nat :=
  let c0_651 : Index := 0#32
  let c1_i32_211 : BitVec 32 := 1#32
  let c1_i32_212 : BitVec 32 := 1#32
  let arg9 : BitVec 32 := Scf.iv c1_i32_211 c1_i32_212 k0_t1
  let v1028 : Index := Scalar.indexCast arg9
  let c0_652 : Index := 0#32
  let c4_653 : Index := 4#32
  let c161 : Index := 161#32
  ![0, v1028.toNat, 0, 4, 161]
def k0_off66 (k0_t1 : Fin k0_t1_loop.trips) : Fin 5 → Nat :=
  let c1_654 : Index := 1#32
  let c1_i32_211 : BitVec 32 := 1#32
  let c1_i32_212 : BitVec 32 := 1#32
  let arg9 : BitVec 32 := Scf.iv c1_i32_211 c1_i32_212 k0_t1
  let v1031 : Index := Scalar.indexCast arg9
  let c0_655 : Index := 0#32
  let c4_656 : Index := 4#32
  let c161_657 : Index := 161#32
  ![1, v1031.toNat, 0, 4, 161]
def k0_off67 (k0_t1 : Fin k0_t1_loop.trips) : Fin 5 → Nat :=
  let c2_658 : Index := 2#32
  let c1_i32_211 : BitVec 32 := 1#32
  let c1_i32_212 : BitVec 32 := 1#32
  let arg9 : BitVec 32 := Scf.iv c1_i32_211 c1_i32_212 k0_t1
  let v1036 : Index := Scalar.indexCast arg9
  let c0_659 : Index := 0#32
  let c4_660 : Index := 4#32
  let c161_661 : Index := 161#32
  ![2, v1036.toNat, 0, 4, 161]
def k0_off68 (k0_t1 : Fin k0_t1_loop.trips) : Fin 5 → Nat :=
  let c3_662 : Index := 3#32
  let c1_i32_211 : BitVec 32 := 1#32
  let c1_i32_212 : BitVec 32 := 1#32
  let arg9 : BitVec 32 := Scf.iv c1_i32_211 c1_i32_212 k0_t1
  let v1042 : Index := Scalar.indexCast arg9
  let c0_663 : Index := 0#32
  let c4_664 : Index := 4#32
  let c161_665 : Index := 161#32
  ![3, v1042.toNat, 0, 4, 161]
def k0_off69 (k0_t1 : Fin k0_t1_loop.trips) : Fin 5 → Nat :=
  let c0_668 : Index := 0#32
  let c1_i32_211 : BitVec 32 := 1#32
  let c1_i32_212 : BitVec 32 := 1#32
  let arg9 : BitVec 32 := Scf.iv c1_i32_211 c1_i32_212 k0_t1
  let v1062 : Index := Scalar.indexCast arg9
  let c0_669 : Index := 0#32
  let c4_670 : Index := 4#32
  let c162 : Index := 162#32
  ![0, v1062.toNat, 0, 4, 162]
def k0_off70 (k0_t1 : Fin k0_t1_loop.trips) : Fin 5 → Nat :=
  let c1_671 : Index := 1#32
  let c1_i32_211 : BitVec 32 := 1#32
  let c1_i32_212 : BitVec 32 := 1#32
  let arg9 : BitVec 32 := Scf.iv c1_i32_211 c1_i32_212 k0_t1
  let v1065 : Index := Scalar.indexCast arg9
  let c0_672 : Index := 0#32
  let c4_673 : Index := 4#32
  let c162_674 : Index := 162#32
  ![1, v1065.toNat, 0, 4, 162]
def k0_off71 (k0_t1 : Fin k0_t1_loop.trips) : Fin 5 → Nat :=
  let c2_675 : Index := 2#32
  let c1_i32_211 : BitVec 32 := 1#32
  let c1_i32_212 : BitVec 32 := 1#32
  let arg9 : BitVec 32 := Scf.iv c1_i32_211 c1_i32_212 k0_t1
  let v1070 : Index := Scalar.indexCast arg9
  let c0_676 : Index := 0#32
  let c4_677 : Index := 4#32
  let c162_678 : Index := 162#32
  ![2, v1070.toNat, 0, 4, 162]
def k0_off72 (k0_t1 : Fin k0_t1_loop.trips) : Fin 5 → Nat :=
  let c3_679 : Index := 3#32
  let c1_i32_211 : BitVec 32 := 1#32
  let c1_i32_212 : BitVec 32 := 1#32
  let arg9 : BitVec 32 := Scf.iv c1_i32_211 c1_i32_212 k0_t1
  let v1076 : Index := Scalar.indexCast arg9
  let c0_680 : Index := 0#32
  let c4_681 : Index := 4#32
  let c162_682 : Index := 162#32
  ![3, v1076.toNat, 0, 4, 162]
def k0_off73 (k0_t1 : Fin k0_t1_loop.trips) : Fin 5 → Nat :=
  let c0_685 : Index := 0#32
  let c1_i32_211 : BitVec 32 := 1#32
  let c1_i32_212 : BitVec 32 := 1#32
  let arg9 : BitVec 32 := Scf.iv c1_i32_211 c1_i32_212 k0_t1
  let v1096 : Index := Scalar.indexCast arg9
  let c0_686 : Index := 0#32
  let c4_687 : Index := 4#32
  let c191 : Index := 191#32
  ![0, v1096.toNat, 0, 4, 191]
def k0_off74 (k0_t1 : Fin k0_t1_loop.trips) : Fin 5 → Nat :=
  let c1_688 : Index := 1#32
  let c1_i32_211 : BitVec 32 := 1#32
  let c1_i32_212 : BitVec 32 := 1#32
  let arg9 : BitVec 32 := Scf.iv c1_i32_211 c1_i32_212 k0_t1
  let v1099 : Index := Scalar.indexCast arg9
  let c0_689 : Index := 0#32
  let c4_690 : Index := 4#32
  let c191_691 : Index := 191#32
  ![1, v1099.toNat, 0, 4, 191]
def k0_off75 (k0_t1 : Fin k0_t1_loop.trips) : Fin 5 → Nat :=
  let c2_692 : Index := 2#32
  let c1_i32_211 : BitVec 32 := 1#32
  let c1_i32_212 : BitVec 32 := 1#32
  let arg9 : BitVec 32 := Scf.iv c1_i32_211 c1_i32_212 k0_t1
  let v1104 : Index := Scalar.indexCast arg9
  let c0_693 : Index := 0#32
  let c4_694 : Index := 4#32
  let c191_695 : Index := 191#32
  ![2, v1104.toNat, 0, 4, 191]
def k0_off76 (k0_t1 : Fin k0_t1_loop.trips) : Fin 5 → Nat :=
  let c3_696 : Index := 3#32
  let c1_i32_211 : BitVec 32 := 1#32
  let c1_i32_212 : BitVec 32 := 1#32
  let arg9 : BitVec 32 := Scf.iv c1_i32_211 c1_i32_212 k0_t1
  let v1110 : Index := Scalar.indexCast arg9
  let c0_697 : Index := 0#32
  let c4_698 : Index := 4#32
  let c191_699 : Index := 191#32
  ![3, v1110.toNat, 0, 4, 191]
def k0_off77 (k0_t1 : Fin k0_t1_loop.trips) : Fin 5 → Nat :=
  let c0_702 : Index := 0#32
  let c1_i32_211 : BitVec 32 := 1#32
  let c1_i32_212 : BitVec 32 := 1#32
  let arg9 : BitVec 32 := Scf.iv c1_i32_211 c1_i32_212 k0_t1
  let v1130 : Index := Scalar.indexCast arg9
  let c0_703 : Index := 0#32
  let c4_704 : Index := 4#32
  let c192 : Index := 192#32
  ![0, v1130.toNat, 0, 4, 192]
def k0_off78 (k0_t1 : Fin k0_t1_loop.trips) : Fin 5 → Nat :=
  let c1_705 : Index := 1#32
  let c1_i32_211 : BitVec 32 := 1#32
  let c1_i32_212 : BitVec 32 := 1#32
  let arg9 : BitVec 32 := Scf.iv c1_i32_211 c1_i32_212 k0_t1
  let v1133 : Index := Scalar.indexCast arg9
  let c0_706 : Index := 0#32
  let c4_707 : Index := 4#32
  let c192_708 : Index := 192#32
  ![1, v1133.toNat, 0, 4, 192]
def k0_off79 (k0_t1 : Fin k0_t1_loop.trips) : Fin 5 → Nat :=
  let c2_709 : Index := 2#32
  let c1_i32_211 : BitVec 32 := 1#32
  let c1_i32_212 : BitVec 32 := 1#32
  let arg9 : BitVec 32 := Scf.iv c1_i32_211 c1_i32_212 k0_t1
  let v1138 : Index := Scalar.indexCast arg9
  let c0_710 : Index := 0#32
  let c4_711 : Index := 4#32
  let c192_712 : Index := 192#32
  ![2, v1138.toNat, 0, 4, 192]
def k0_off80 (k0_t1 : Fin k0_t1_loop.trips) : Fin 5 → Nat :=
  let c3_713 : Index := 3#32
  let c1_i32_211 : BitVec 32 := 1#32
  let c1_i32_212 : BitVec 32 := 1#32
  let arg9 : BitVec 32 := Scf.iv c1_i32_211 c1_i32_212 k0_t1
  let v1144 : Index := Scalar.indexCast arg9
  let c0_714 : Index := 0#32
  let c4_715 : Index := 4#32
  let c192_716 : Index := 192#32
  ![3, v1144.toNat, 0, 4, 192]
def k0_off81 (k0_t1 : Fin k0_t1_loop.trips) : Fin 5 → Nat :=
  let c0_719 : Index := 0#32
  let c1_i32_211 : BitVec 32 := 1#32
  let c1_i32_212 : BitVec 32 := 1#32
  let arg9 : BitVec 32 := Scf.iv c1_i32_211 c1_i32_212 k0_t1
  let v1164 : Index := Scalar.indexCast arg9
  let c0_720 : Index := 0#32
  let c4_721 : Index := 4#32
  let c193 : Index := 193#32
  ![0, v1164.toNat, 0, 4, 193]
def k0_off82 (k0_t1 : Fin k0_t1_loop.trips) : Fin 5 → Nat :=
  let c1_722 : Index := 1#32
  let c1_i32_211 : BitVec 32 := 1#32
  let c1_i32_212 : BitVec 32 := 1#32
  let arg9 : BitVec 32 := Scf.iv c1_i32_211 c1_i32_212 k0_t1
  let v1167 : Index := Scalar.indexCast arg9
  let c0_723 : Index := 0#32
  let c4_724 : Index := 4#32
  let c193_725 : Index := 193#32
  ![1, v1167.toNat, 0, 4, 193]
def k0_off83 (k0_t1 : Fin k0_t1_loop.trips) : Fin 5 → Nat :=
  let c2_726 : Index := 2#32
  let c1_i32_211 : BitVec 32 := 1#32
  let c1_i32_212 : BitVec 32 := 1#32
  let arg9 : BitVec 32 := Scf.iv c1_i32_211 c1_i32_212 k0_t1
  let v1172 : Index := Scalar.indexCast arg9
  let c0_727 : Index := 0#32
  let c4_728 : Index := 4#32
  let c193_729 : Index := 193#32
  ![2, v1172.toNat, 0, 4, 193]
def k0_off84 (k0_t1 : Fin k0_t1_loop.trips) : Fin 5 → Nat :=
  let c3_730 : Index := 3#32
  let c1_i32_211 : BitVec 32 := 1#32
  let c1_i32_212 : BitVec 32 := 1#32
  let arg9 : BitVec 32 := Scf.iv c1_i32_211 c1_i32_212 k0_t1
  let v1178 : Index := Scalar.indexCast arg9
  let c0_731 : Index := 0#32
  let c4_732 : Index := 4#32
  let c193_733 : Index := 193#32
  ![3, v1178.toNat, 0, 4, 193]
def k0_off85 (k0_t1 : Fin k0_t1_loop.trips) : Fin 4 → Nat :=
  let c1_i32_211 : BitVec 32 := 1#32
  let c1_i32_212 : BitVec 32 := 1#32
  let arg9 : BitVec 32 := Scf.iv c1_i32_211 c1_i32_212 k0_t1
  let v1198 : Index := Scalar.indexCast arg9
  let c0_736 : Index := 0#32
  let c0_737 : Index := 0#32
  let c0_738 : Index := 0#32
  ![v1198.toNat, 0, 0, 0]
@[reducible] def k0_t2_loop : Scf.Loop 32 :=
  let c0_i32_215 : BitVec 32 := 0#32
  let c2_i32 : BitVec 32 := 2#32
  let v275 : BitVec 32 := Scalar.addi c0_i32_215 c2_i32
  let c1_i32_216 : BitVec 32 := 1#32
  ⟨c0_i32_215, v275, c1_i32_216⟩
def k0_off86 (k0_t2 : Fin k0_t2_loop.trips) : Fin 5 → Nat :=
  let c0_355 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v445 : Index := Scalar.indexCast v442
  let c0_356 : Index := 0#32
  let c4_357 : Index := 4#32
  let c95 : Index := 95#32
  ![0, v445.toNat, 0, 4, 95]
def k0_off87 (k0_t2 : Fin k0_t2_loop.trips) : Fin 5 → Nat :=
  let c1_358 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v448 : Index := Scalar.indexCast v442
  let c0_359 : Index := 0#32
  let c4_360 : Index := 4#32
  let c95_361 : Index := 95#32
  ![1, v448.toNat, 0, 4, 95]
def k0_off88 (k0_t2 : Fin k0_t2_loop.trips) : Fin 5 → Nat :=
  let c2_362 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v453 : Index := Scalar.indexCast v442
  let c0_363 : Index := 0#32
  let c4_364 : Index := 4#32
  let c95_365 : Index := 95#32
  ![2, v453.toNat, 0, 4, 95]
def k0_off89 (k0_t2 : Fin k0_t2_loop.trips) : Fin 5 → Nat :=
  let c3_366 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v459 : Index := Scalar.indexCast v442
  let c0_367 : Index := 0#32
  let c4_368 : Index := 4#32
  let c95_369 : Index := 95#32
  ![3, v459.toNat, 0, 4, 95]
def k0_off90 (k0_t2 : Fin k0_t2_loop.trips) : Fin 5 → Nat :=
  let c0_373 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v479 : Index := Scalar.indexCast v442
  let c0_374 : Index := 0#32
  let c4_375 : Index := 4#32
  let c96 : Index := 96#32
  ![0, v479.toNat, 0, 4, 96]
def k0_off91 (k0_t2 : Fin k0_t2_loop.trips) : Fin 5 → Nat :=
  let c1_376 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v482 : Index := Scalar.indexCast v442
  let c0_377 : Index := 0#32
  let c4_378 : Index := 4#32
  let c96_379 : Index := 96#32
  ![1, v482.toNat, 0, 4, 96]
def k0_off92 (k0_t2 : Fin k0_t2_loop.trips) : Fin 5 → Nat :=
  let c2_380 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v487 : Index := Scalar.indexCast v442
  let c0_381 : Index := 0#32
  let c4_382 : Index := 4#32
  let c96_383 : Index := 96#32
  ![2, v487.toNat, 0, 4, 96]
def k0_off93 (k0_t2 : Fin k0_t2_loop.trips) : Fin 5 → Nat :=
  let c3_384 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v493 : Index := Scalar.indexCast v442
  let c0_385 : Index := 0#32
  let c4_386 : Index := 4#32
  let c96_387 : Index := 96#32
  ![3, v493.toNat, 0, 4, 96]
def k0_off94 (k0_t2 : Fin k0_t2_loop.trips) : Fin 5 → Nat :=
  let c0_391 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v513 : Index := Scalar.indexCast v442
  let c0_392 : Index := 0#32
  let c4_393 : Index := 4#32
  let c97 : Index := 97#32
  ![0, v513.toNat, 0, 4, 97]
def k0_off95 (k0_t2 : Fin k0_t2_loop.trips) : Fin 5 → Nat :=
  let c1_394 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v516 : Index := Scalar.indexCast v442
  let c0_395 : Index := 0#32
  let c4_396 : Index := 4#32
  let c97_397 : Index := 97#32
  ![1, v516.toNat, 0, 4, 97]
def k0_off96 (k0_t2 : Fin k0_t2_loop.trips) : Fin 5 → Nat :=
  let c2_398 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v521 : Index := Scalar.indexCast v442
  let c0_399 : Index := 0#32
  let c4_400 : Index := 4#32
  let c97_401 : Index := 97#32
  ![2, v521.toNat, 0, 4, 97]
def k0_off97 (k0_t2 : Fin k0_t2_loop.trips) : Fin 5 → Nat :=
  let c3_402 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v527 : Index := Scalar.indexCast v442
  let c0_403 : Index := 0#32
  let c4_404 : Index := 4#32
  let c97_405 : Index := 97#32
  ![3, v527.toNat, 0, 4, 97]
def k0_off98 (k0_t2 : Fin k0_t2_loop.trips) : Fin 5 → Nat :=
  let c0_409 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v547 : Index := Scalar.indexCast v442
  let c0_410 : Index := 0#32
  let c4_411 : Index := 4#32
  let c127 : Index := 127#32
  ![0, v547.toNat, 0, 4, 127]
def k0_off99 (k0_t2 : Fin k0_t2_loop.trips) : Fin 5 → Nat :=
  let c1_412 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v550 : Index := Scalar.indexCast v442
  let c0_413 : Index := 0#32
  let c4_414 : Index := 4#32
  let c127_415 : Index := 127#32
  ![1, v550.toNat, 0, 4, 127]
def k0_off100 (k0_t2 : Fin k0_t2_loop.trips) : Fin 5 → Nat :=
  let c2_416 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v555 : Index := Scalar.indexCast v442
  let c0_417 : Index := 0#32
  let c4_418 : Index := 4#32
  let c127_419 : Index := 127#32
  ![2, v555.toNat, 0, 4, 127]
def k0_off101 (k0_t2 : Fin k0_t2_loop.trips) : Fin 5 → Nat :=
  let c3_420 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v561 : Index := Scalar.indexCast v442
  let c0_421 : Index := 0#32
  let c4_422 : Index := 4#32
  let c127_423 : Index := 127#32
  ![3, v561.toNat, 0, 4, 127]
def k0_off102 (k0_t2 : Fin k0_t2_loop.trips) : Fin 5 → Nat :=
  let c0_430 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v589 : Index := Scalar.indexCast v442
  let c0_431 : Index := 0#32
  let c4_432 : Index := 4#32
  let c128_433 : Index := 128#32
  ![0, v589.toNat, 0, 4, 128]
def k0_off103 (k0_t2 : Fin k0_t2_loop.trips) : Fin 5 → Nat :=
  let c1_434 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v592 : Index := Scalar.indexCast v442
  let c0_435 : Index := 0#32
  let c4_436 : Index := 4#32
  let c128_437 : Index := 128#32
  ![1, v592.toNat, 0, 4, 128]
def k0_off104 (k0_t2 : Fin k0_t2_loop.trips) : Fin 5 → Nat :=
  let c2_438 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v597 : Index := Scalar.indexCast v442
  let c0_439 : Index := 0#32
  let c4_440 : Index := 4#32
  let c128_441 : Index := 128#32
  ![2, v597.toNat, 0, 4, 128]
def k0_off105 (k0_t2 : Fin k0_t2_loop.trips) : Fin 5 → Nat :=
  let c3_442 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v603 : Index := Scalar.indexCast v442
  let c0_443 : Index := 0#32
  let c4_444 : Index := 4#32
  let c128_445 : Index := 128#32
  ![3, v603.toNat, 0, 4, 128]
def k0_off106 (k0_t2 : Fin k0_t2_loop.trips) : Fin 5 → Nat :=
  let c0_452 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v631 : Index := Scalar.indexCast v442
  let c0_453 : Index := 0#32
  let c4_454 : Index := 4#32
  let c129 : Index := 129#32
  ![0, v631.toNat, 0, 4, 129]
def k0_off107 (k0_t2 : Fin k0_t2_loop.trips) : Fin 5 → Nat :=
  let c1_455 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v634 : Index := Scalar.indexCast v442
  let c0_456 : Index := 0#32
  let c4_457 : Index := 4#32
  let c129_458 : Index := 129#32
  ![1, v634.toNat, 0, 4, 129]
def k0_off108 (k0_t2 : Fin k0_t2_loop.trips) : Fin 5 → Nat :=
  let c2_459 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v639 : Index := Scalar.indexCast v442
  let c0_460 : Index := 0#32
  let c4_461 : Index := 4#32
  let c129_462 : Index := 129#32
  ![2, v639.toNat, 0, 4, 129]
def k0_off109 (k0_t2 : Fin k0_t2_loop.trips) : Fin 5 → Nat :=
  let c3_463 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v645 : Index := Scalar.indexCast v442
  let c0_464 : Index := 0#32
  let c4_465 : Index := 4#32
  let c129_466 : Index := 129#32
  ![3, v645.toNat, 0, 4, 129]
def k0_off110 (k0_t2 : Fin k0_t2_loop.trips) : Fin 5 → Nat :=
  let c0_474 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v673 : Index := Scalar.indexCast v442
  let c0_475 : Index := 0#32
  let c4_476 : Index := 4#32
  let c159 : Index := 159#32
  ![0, v673.toNat, 0, 4, 159]
def k0_off111 (k0_t2 : Fin k0_t2_loop.trips) : Fin 5 → Nat :=
  let c1_477 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v676 : Index := Scalar.indexCast v442
  let c0_478 : Index := 0#32
  let c4_479 : Index := 4#32
  let c159_480 : Index := 159#32
  ![1, v676.toNat, 0, 4, 159]
def k0_off112 (k0_t2 : Fin k0_t2_loop.trips) : Fin 5 → Nat :=
  let c2_481 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v681 : Index := Scalar.indexCast v442
  let c0_482 : Index := 0#32
  let c4_483 : Index := 4#32
  let c159_484 : Index := 159#32
  ![2, v681.toNat, 0, 4, 159]
def k0_off113 (k0_t2 : Fin k0_t2_loop.trips) : Fin 5 → Nat :=
  let c3_485 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v687 : Index := Scalar.indexCast v442
  let c0_486 : Index := 0#32
  let c4_487 : Index := 4#32
  let c159_488 : Index := 159#32
  ![3, v687.toNat, 0, 4, 159]
def k0_off114 (k0_t2 : Fin k0_t2_loop.trips) : Fin 5 → Nat :=
  let c0_491 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v707 : Index := Scalar.indexCast v442
  let c0_492 : Index := 0#32
  let c4_493 : Index := 4#32
  let c160 : Index := 160#32
  ![0, v707.toNat, 0, 4, 160]
def k0_off115 (k0_t2 : Fin k0_t2_loop.trips) : Fin 5 → Nat :=
  let c1_494 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v710 : Index := Scalar.indexCast v442
  let c0_495 : Index := 0#32
  let c4_496 : Index := 4#32
  let c160_497 : Index := 160#32
  ![1, v710.toNat, 0, 4, 160]
def k0_off116 (k0_t2 : Fin k0_t2_loop.trips) : Fin 5 → Nat :=
  let c2_498 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v715 : Index := Scalar.indexCast v442
  let c0_499 : Index := 0#32
  let c4_500 : Index := 4#32
  let c160_501 : Index := 160#32
  ![2, v715.toNat, 0, 4, 160]
def k0_off117 (k0_t2 : Fin k0_t2_loop.trips) : Fin 5 → Nat :=
  let c3_502 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v721 : Index := Scalar.indexCast v442
  let c0_503 : Index := 0#32
  let c4_504 : Index := 4#32
  let c160_505 : Index := 160#32
  ![3, v721.toNat, 0, 4, 160]
def k0_off118 (k0_t2 : Fin k0_t2_loop.trips) : Fin 5 → Nat :=
  let c0_509 : Index := 0#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v741 : Index := Scalar.indexCast v442
  let c0_510 : Index := 0#32
  let c4_511 : Index := 4#32
  let c161 : Index := 161#32
  ![0, v741.toNat, 0, 4, 161]
def k0_off119 (k0_t2 : Fin k0_t2_loop.trips) : Fin 5 → Nat :=
  let c1_512 : Index := 1#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v744 : Index := Scalar.indexCast v442
  let c0_513 : Index := 0#32
  let c4_514 : Index := 4#32
  let c161_515 : Index := 161#32
  ![1, v744.toNat, 0, 4, 161]
def k0_off120 (k0_t2 : Fin k0_t2_loop.trips) : Fin 5 → Nat :=
  let c2_516 : Index := 2#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v749 : Index := Scalar.indexCast v442
  let c0_517 : Index := 0#32
  let c4_518 : Index := 4#32
  let c161_519 : Index := 161#32
  ![2, v749.toNat, 0, 4, 161]
def k0_off121 (k0_t2 : Fin k0_t2_loop.trips) : Fin 5 → Nat :=
  let c3_520 : Index := 3#32
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v755 : Index := Scalar.indexCast v442
  let c0_521 : Index := 0#32
  let c4_522 : Index := 4#32
  let c161_523 : Index := 161#32
  ![3, v755.toNat, 0, 4, 161]
def k0_off122 (k0_t2 : Fin k0_t2_loop.trips) : Fin 4 → Nat :=
  let c0_i32_215 : BitVec 32 := 0#32
  let c1_i32_216 : BitVec 32 := 1#32
  let arg9 : BitVec 32 := Scf.iv c0_i32_215 c1_i32_216 k0_t2
  let c4_i32_352 : BitVec 32 := 4#32
  let v442 : BitVec 32 := Scalar.muli arg9 c4_i32_352
  let v775 : Index := Scalar.indexCast v442
  let c0_526 : Index := 0#32
  let c0_527 : Index := 0#32
  let c0_528 : Index := 0#32
  ![v775.toNat, 0, 0, 0]
@[reducible] def k0_t3_loop : Scf.Loop 32 :=
  let c1_i32_223 : BitVec 32 := 1#32
  let c3_i32_224 : BitVec 32 := 3#32
  let v286 : BitVec 32 := Scalar.addi c1_i32_223 c3_i32_224
  let c1_i32_225 : BitVec 32 := 1#32
  ⟨c1_i32_223, v286, c1_i32_225⟩
def k0_off123 (k0_t3 : Fin k0_t3_loop.trips) : Fin 5 → Nat :=
  let c0_354 : Index := 0#32
  let c1_i32_223 : BitVec 32 := 1#32
  let c1_i32_225 : BitVec 32 := 1#32
  let arg9 : BitVec 32 := Scf.iv c1_i32_223 c1_i32_225 k0_t3
  let v444 : Index := Scalar.indexCast arg9
  let c4_355 : Index := 4#32
  let c4_356 : Index := 4#32
  let c95 : Index := 95#32
  ![0, v444.toNat, 4, 4, 95]
def k0_off124 (k0_t3 : Fin k0_t3_loop.trips) : Fin 5 → Nat :=
  let c1_357 : Index := 1#32
  let c1_i32_223 : BitVec 32 := 1#32
  let c1_i32_225 : BitVec 32 := 1#32
  let arg9 : BitVec 32 := Scf.iv c1_i32_223 c1_i32_225 k0_t3
  let v447 : Index := Scalar.indexCast arg9
  let c4_358 : Index := 4#32
  let c4_359 : Index := 4#32
  let c95_360 : Index := 95#32
  ![1, v447.toNat, 4, 4, 95]
def k0_off125 (k0_t3 : Fin k0_t3_loop.trips) : Fin 5 → Nat :=
  let c2_361 : Index := 2#32
  let c1_i32_223 : BitVec 32 := 1#32
  let c1_i32_225 : BitVec 32 := 1#32
  let arg9 : BitVec 32 := Scf.iv c1_i32_223 c1_i32_225 k0_t3
  let v452 : Index := Scalar.indexCast arg9
  let c4_362 : Index := 4#32
  let c4_363 : Index := 4#32
  let c95_364 : Index := 95#32
  ![2, v452.toNat, 4, 4, 95]
def k0_off126 (k0_t3 : Fin k0_t3_loop.trips) : Fin 5 → Nat :=
  let c3_365 : Index := 3#32
  let c1_i32_223 : BitVec 32 := 1#32
  let c1_i32_225 : BitVec 32 := 1#32
  let arg9 : BitVec 32 := Scf.iv c1_i32_223 c1_i32_225 k0_t3
  let v458 : Index := Scalar.indexCast arg9
  let c4_366 : Index := 4#32
  let c4_367 : Index := 4#32
  let c95_368 : Index := 95#32
  ![3, v458.toNat, 4, 4, 95]
def k0_off127 (k0_t3 : Fin k0_t3_loop.trips) : Fin 5 → Nat :=
  let c0_372 : Index := 0#32
  let c1_i32_223 : BitVec 32 := 1#32
  let c1_i32_225 : BitVec 32 := 1#32
  let arg9 : BitVec 32 := Scf.iv c1_i32_223 c1_i32_225 k0_t3
  let v478 : Index := Scalar.indexCast arg9
  let c4_373 : Index := 4#32
  let c4_374 : Index := 4#32
  let c96 : Index := 96#32
  ![0, v478.toNat, 4, 4, 96]
def k0_off128 (k0_t3 : Fin k0_t3_loop.trips) : Fin 5 → Nat :=
  let c1_375 : Index := 1#32
  let c1_i32_223 : BitVec 32 := 1#32
  let c1_i32_225 : BitVec 32 := 1#32
  let arg9 : BitVec 32 := Scf.iv c1_i32_223 c1_i32_225 k0_t3
  let v481 : Index := Scalar.indexCast arg9
  let c4_376 : Index := 4#32
  let c4_377 : Index := 4#32
  let c96_378 : Index := 96#32
  ![1, v481.toNat, 4, 4, 96]
def k0_off129 (k0_t3 : Fin k0_t3_loop.trips) : Fin 5 → Nat :=
  let c2_379 : Index := 2#32
  let c1_i32_223 : BitVec 32 := 1#32
  let c1_i32_225 : BitVec 32 := 1#32
  let arg9 : BitVec 32 := Scf.iv c1_i32_223 c1_i32_225 k0_t3
  let v486 : Index := Scalar.indexCast arg9
  let c4_380 : Index := 4#32
  let c4_381 : Index := 4#32
  let c96_382 : Index := 96#32
  ![2, v486.toNat, 4, 4, 96]
def k0_off130 (k0_t3 : Fin k0_t3_loop.trips) : Fin 5 → Nat :=
  let c3_383 : Index := 3#32
  let c1_i32_223 : BitVec 32 := 1#32
  let c1_i32_225 : BitVec 32 := 1#32
  let arg9 : BitVec 32 := Scf.iv c1_i32_223 c1_i32_225 k0_t3
  let v492 : Index := Scalar.indexCast arg9
  let c4_384 : Index := 4#32
  let c4_385 : Index := 4#32
  let c96_386 : Index := 96#32
  ![3, v492.toNat, 4, 4, 96]
def k0_off131 (k0_t3 : Fin k0_t3_loop.trips) : Fin 5 → Nat :=
  let c0_390 : Index := 0#32
  let c1_i32_223 : BitVec 32 := 1#32
  let c1_i32_225 : BitVec 32 := 1#32
  let arg9 : BitVec 32 := Scf.iv c1_i32_223 c1_i32_225 k0_t3
  let v512 : Index := Scalar.indexCast arg9
  let c4_391 : Index := 4#32
  let c4_392 : Index := 4#32
  let c97 : Index := 97#32
  ![0, v512.toNat, 4, 4, 97]
def k0_off132 (k0_t3 : Fin k0_t3_loop.trips) : Fin 5 → Nat :=
  let c1_393 : Index := 1#32
  let c1_i32_223 : BitVec 32 := 1#32
  let c1_i32_225 : BitVec 32 := 1#32
  let arg9 : BitVec 32 := Scf.iv c1_i32_223 c1_i32_225 k0_t3
  let v515 : Index := Scalar.indexCast arg9
  let c4_394 : Index := 4#32
  let c4_395 : Index := 4#32
  let c97_396 : Index := 97#32
  ![1, v515.toNat, 4, 4, 97]
def k0_off133 (k0_t3 : Fin k0_t3_loop.trips) : Fin 5 → Nat :=
  let c2_397 : Index := 2#32
  let c1_i32_223 : BitVec 32 := 1#32
  let c1_i32_225 : BitVec 32 := 1#32
  let arg9 : BitVec 32 := Scf.iv c1_i32_223 c1_i32_225 k0_t3
  let v520 : Index := Scalar.indexCast arg9
  let c4_398 : Index := 4#32
  let c4_399 : Index := 4#32
  let c97_400 : Index := 97#32
  ![2, v520.toNat, 4, 4, 97]
def k0_off134 (k0_t3 : Fin k0_t3_loop.trips) : Fin 5 → Nat :=
  let c3_401 : Index := 3#32
  let c1_i32_223 : BitVec 32 := 1#32
  let c1_i32_225 : BitVec 32 := 1#32
  let arg9 : BitVec 32 := Scf.iv c1_i32_223 c1_i32_225 k0_t3
  let v526 : Index := Scalar.indexCast arg9
  let c4_402 : Index := 4#32
  let c4_403 : Index := 4#32
  let c97_404 : Index := 97#32
  ![3, v526.toNat, 4, 4, 97]
def k0_off135 (k0_t3 : Fin k0_t3_loop.trips) : Fin 5 → Nat :=
  let c0_408 : Index := 0#32
  let c1_i32_223 : BitVec 32 := 1#32
  let c1_i32_225 : BitVec 32 := 1#32
  let arg9 : BitVec 32 := Scf.iv c1_i32_223 c1_i32_225 k0_t3
  let v546 : Index := Scalar.indexCast arg9
  let c4_409 : Index := 4#32
  let c4_410 : Index := 4#32
  let c127 : Index := 127#32
  ![0, v546.toNat, 4, 4, 127]
def k0_off136 (k0_t3 : Fin k0_t3_loop.trips) : Fin 5 → Nat :=
  let c1_411 : Index := 1#32
  let c1_i32_223 : BitVec 32 := 1#32
  let c1_i32_225 : BitVec 32 := 1#32
  let arg9 : BitVec 32 := Scf.iv c1_i32_223 c1_i32_225 k0_t3
  let v549 : Index := Scalar.indexCast arg9
  let c4_412 : Index := 4#32
  let c4_413 : Index := 4#32
  let c127_414 : Index := 127#32
  ![1, v549.toNat, 4, 4, 127]
def k0_off137 (k0_t3 : Fin k0_t3_loop.trips) : Fin 5 → Nat :=
  let c2_415 : Index := 2#32
  let c1_i32_223 : BitVec 32 := 1#32
  let c1_i32_225 : BitVec 32 := 1#32
  let arg9 : BitVec 32 := Scf.iv c1_i32_223 c1_i32_225 k0_t3
  let v554 : Index := Scalar.indexCast arg9
  let c4_416 : Index := 4#32
  let c4_417 : Index := 4#32
  let c127_418 : Index := 127#32
  ![2, v554.toNat, 4, 4, 127]
def k0_off138 (k0_t3 : Fin k0_t3_loop.trips) : Fin 5 → Nat :=
  let c3_419 : Index := 3#32
  let c1_i32_223 : BitVec 32 := 1#32
  let c1_i32_225 : BitVec 32 := 1#32
  let arg9 : BitVec 32 := Scf.iv c1_i32_223 c1_i32_225 k0_t3
  let v560 : Index := Scalar.indexCast arg9
  let c4_420 : Index := 4#32
  let c4_421 : Index := 4#32
  let c127_422 : Index := 127#32
  ![3, v560.toNat, 4, 4, 127]
def k0_off139 (k0_t3 : Fin k0_t3_loop.trips) : Fin 5 → Nat :=
  let c0_429 : Index := 0#32
  let c1_i32_223 : BitVec 32 := 1#32
  let c1_i32_225 : BitVec 32 := 1#32
  let arg9 : BitVec 32 := Scf.iv c1_i32_223 c1_i32_225 k0_t3
  let v588 : Index := Scalar.indexCast arg9
  let c4_430 : Index := 4#32
  let c4_431 : Index := 4#32
  let c128_432 : Index := 128#32
  ![0, v588.toNat, 4, 4, 128]
def k0_off140 (k0_t3 : Fin k0_t3_loop.trips) : Fin 5 → Nat :=
  let c1_433 : Index := 1#32
  let c1_i32_223 : BitVec 32 := 1#32
  let c1_i32_225 : BitVec 32 := 1#32
  let arg9 : BitVec 32 := Scf.iv c1_i32_223 c1_i32_225 k0_t3
  let v591 : Index := Scalar.indexCast arg9
  let c4_434 : Index := 4#32
  let c4_435 : Index := 4#32
  let c128_436 : Index := 128#32
  ![1, v591.toNat, 4, 4, 128]
def k0_off141 (k0_t3 : Fin k0_t3_loop.trips) : Fin 5 → Nat :=
  let c2_437 : Index := 2#32
  let c1_i32_223 : BitVec 32 := 1#32
  let c1_i32_225 : BitVec 32 := 1#32
  let arg9 : BitVec 32 := Scf.iv c1_i32_223 c1_i32_225 k0_t3
  let v596 : Index := Scalar.indexCast arg9
  let c4_438 : Index := 4#32
  let c4_439 : Index := 4#32
  let c128_440 : Index := 128#32
  ![2, v596.toNat, 4, 4, 128]
def k0_off142 (k0_t3 : Fin k0_t3_loop.trips) : Fin 5 → Nat :=
  let c3_441 : Index := 3#32
  let c1_i32_223 : BitVec 32 := 1#32
  let c1_i32_225 : BitVec 32 := 1#32
  let arg9 : BitVec 32 := Scf.iv c1_i32_223 c1_i32_225 k0_t3
  let v602 : Index := Scalar.indexCast arg9
  let c4_442 : Index := 4#32
  let c4_443 : Index := 4#32
  let c128_444 : Index := 128#32
  ![3, v602.toNat, 4, 4, 128]
def k0_off143 (k0_t3 : Fin k0_t3_loop.trips) : Fin 5 → Nat :=
  let c0_451 : Index := 0#32
  let c1_i32_223 : BitVec 32 := 1#32
  let c1_i32_225 : BitVec 32 := 1#32
  let arg9 : BitVec 32 := Scf.iv c1_i32_223 c1_i32_225 k0_t3
  let v630 : Index := Scalar.indexCast arg9
  let c4_452 : Index := 4#32
  let c4_453 : Index := 4#32
  let c129 : Index := 129#32
  ![0, v630.toNat, 4, 4, 129]
def k0_off144 (k0_t3 : Fin k0_t3_loop.trips) : Fin 5 → Nat :=
  let c1_454 : Index := 1#32
  let c1_i32_223 : BitVec 32 := 1#32
  let c1_i32_225 : BitVec 32 := 1#32
  let arg9 : BitVec 32 := Scf.iv c1_i32_223 c1_i32_225 k0_t3
  let v633 : Index := Scalar.indexCast arg9
  let c4_455 : Index := 4#32
  let c4_456 : Index := 4#32
  let c129_457 : Index := 129#32
  ![1, v633.toNat, 4, 4, 129]
def k0_off145 (k0_t3 : Fin k0_t3_loop.trips) : Fin 5 → Nat :=
  let c2_458 : Index := 2#32
  let c1_i32_223 : BitVec 32 := 1#32
  let c1_i32_225 : BitVec 32 := 1#32
  let arg9 : BitVec 32 := Scf.iv c1_i32_223 c1_i32_225 k0_t3
  let v638 : Index := Scalar.indexCast arg9
  let c4_459 : Index := 4#32
  let c4_460 : Index := 4#32
  let c129_461 : Index := 129#32
  ![2, v638.toNat, 4, 4, 129]
def k0_off146 (k0_t3 : Fin k0_t3_loop.trips) : Fin 5 → Nat :=
  let c3_462 : Index := 3#32
  let c1_i32_223 : BitVec 32 := 1#32
  let c1_i32_225 : BitVec 32 := 1#32
  let arg9 : BitVec 32 := Scf.iv c1_i32_223 c1_i32_225 k0_t3
  let v644 : Index := Scalar.indexCast arg9
  let c4_463 : Index := 4#32
  let c4_464 : Index := 4#32
  let c129_465 : Index := 129#32
  ![3, v644.toNat, 4, 4, 129]
def k0_off147 (k0_t3 : Fin k0_t3_loop.trips) : Fin 5 → Nat :=
  let c0_473 : Index := 0#32
  let c1_i32_223 : BitVec 32 := 1#32
  let c1_i32_225 : BitVec 32 := 1#32
  let arg9 : BitVec 32 := Scf.iv c1_i32_223 c1_i32_225 k0_t3
  let v672 : Index := Scalar.indexCast arg9
  let c4_474 : Index := 4#32
  let c4_475 : Index := 4#32
  let c159 : Index := 159#32
  ![0, v672.toNat, 4, 4, 159]
def k0_off148 (k0_t3 : Fin k0_t3_loop.trips) : Fin 5 → Nat :=
  let c1_476 : Index := 1#32
  let c1_i32_223 : BitVec 32 := 1#32
  let c1_i32_225 : BitVec 32 := 1#32
  let arg9 : BitVec 32 := Scf.iv c1_i32_223 c1_i32_225 k0_t3
  let v675 : Index := Scalar.indexCast arg9
  let c4_477 : Index := 4#32
  let c4_478 : Index := 4#32
  let c159_479 : Index := 159#32
  ![1, v675.toNat, 4, 4, 159]
def k0_off149 (k0_t3 : Fin k0_t3_loop.trips) : Fin 5 → Nat :=
  let c2_480 : Index := 2#32
  let c1_i32_223 : BitVec 32 := 1#32
  let c1_i32_225 : BitVec 32 := 1#32
  let arg9 : BitVec 32 := Scf.iv c1_i32_223 c1_i32_225 k0_t3
  let v680 : Index := Scalar.indexCast arg9
  let c4_481 : Index := 4#32
  let c4_482 : Index := 4#32
  let c159_483 : Index := 159#32
  ![2, v680.toNat, 4, 4, 159]
def k0_off150 (k0_t3 : Fin k0_t3_loop.trips) : Fin 5 → Nat :=
  let c3_484 : Index := 3#32
  let c1_i32_223 : BitVec 32 := 1#32
  let c1_i32_225 : BitVec 32 := 1#32
  let arg9 : BitVec 32 := Scf.iv c1_i32_223 c1_i32_225 k0_t3
  let v686 : Index := Scalar.indexCast arg9
  let c4_485 : Index := 4#32
  let c4_486 : Index := 4#32
  let c159_487 : Index := 159#32
  ![3, v686.toNat, 4, 4, 159]
def k0_off151 (k0_t3 : Fin k0_t3_loop.trips) : Fin 5 → Nat :=
  let c0_490 : Index := 0#32
  let c1_i32_223 : BitVec 32 := 1#32
  let c1_i32_225 : BitVec 32 := 1#32
  let arg9 : BitVec 32 := Scf.iv c1_i32_223 c1_i32_225 k0_t3
  let v706 : Index := Scalar.indexCast arg9
  let c4_491 : Index := 4#32
  let c4_492 : Index := 4#32
  let c160 : Index := 160#32
  ![0, v706.toNat, 4, 4, 160]
def k0_off152 (k0_t3 : Fin k0_t3_loop.trips) : Fin 5 → Nat :=
  let c1_493 : Index := 1#32
  let c1_i32_223 : BitVec 32 := 1#32
  let c1_i32_225 : BitVec 32 := 1#32
  let arg9 : BitVec 32 := Scf.iv c1_i32_223 c1_i32_225 k0_t3
  let v709 : Index := Scalar.indexCast arg9
  let c4_494 : Index := 4#32
  let c4_495 : Index := 4#32
  let c160_496 : Index := 160#32
  ![1, v709.toNat, 4, 4, 160]
def k0_off153 (k0_t3 : Fin k0_t3_loop.trips) : Fin 5 → Nat :=
  let c2_497 : Index := 2#32
  let c1_i32_223 : BitVec 32 := 1#32
  let c1_i32_225 : BitVec 32 := 1#32
  let arg9 : BitVec 32 := Scf.iv c1_i32_223 c1_i32_225 k0_t3
  let v714 : Index := Scalar.indexCast arg9
  let c4_498 : Index := 4#32
  let c4_499 : Index := 4#32
  let c160_500 : Index := 160#32
  ![2, v714.toNat, 4, 4, 160]
def k0_off154 (k0_t3 : Fin k0_t3_loop.trips) : Fin 5 → Nat :=
  let c3_501 : Index := 3#32
  let c1_i32_223 : BitVec 32 := 1#32
  let c1_i32_225 : BitVec 32 := 1#32
  let arg9 : BitVec 32 := Scf.iv c1_i32_223 c1_i32_225 k0_t3
  let v720 : Index := Scalar.indexCast arg9
  let c4_502 : Index := 4#32
  let c4_503 : Index := 4#32
  let c160_504 : Index := 160#32
  ![3, v720.toNat, 4, 4, 160]
def k0_off155 (k0_t3 : Fin k0_t3_loop.trips) : Fin 5 → Nat :=
  let c0_508 : Index := 0#32
  let c1_i32_223 : BitVec 32 := 1#32
  let c1_i32_225 : BitVec 32 := 1#32
  let arg9 : BitVec 32 := Scf.iv c1_i32_223 c1_i32_225 k0_t3
  let v740 : Index := Scalar.indexCast arg9
  let c4_509 : Index := 4#32
  let c4_510 : Index := 4#32
  let c161 : Index := 161#32
  ![0, v740.toNat, 4, 4, 161]
def k0_off156 (k0_t3 : Fin k0_t3_loop.trips) : Fin 5 → Nat :=
  let c1_511 : Index := 1#32
  let c1_i32_223 : BitVec 32 := 1#32
  let c1_i32_225 : BitVec 32 := 1#32
  let arg9 : BitVec 32 := Scf.iv c1_i32_223 c1_i32_225 k0_t3
  let v743 : Index := Scalar.indexCast arg9
  let c4_512 : Index := 4#32
  let c4_513 : Index := 4#32
  let c161_514 : Index := 161#32
  ![1, v743.toNat, 4, 4, 161]
def k0_off157 (k0_t3 : Fin k0_t3_loop.trips) : Fin 5 → Nat :=
  let c2_515 : Index := 2#32
  let c1_i32_223 : BitVec 32 := 1#32
  let c1_i32_225 : BitVec 32 := 1#32
  let arg9 : BitVec 32 := Scf.iv c1_i32_223 c1_i32_225 k0_t3
  let v748 : Index := Scalar.indexCast arg9
  let c4_516 : Index := 4#32
  let c4_517 : Index := 4#32
  let c161_518 : Index := 161#32
  ![2, v748.toNat, 4, 4, 161]
def k0_off158 (k0_t3 : Fin k0_t3_loop.trips) : Fin 5 → Nat :=
  let c3_519 : Index := 3#32
  let c1_i32_223 : BitVec 32 := 1#32
  let c1_i32_225 : BitVec 32 := 1#32
  let arg9 : BitVec 32 := Scf.iv c1_i32_223 c1_i32_225 k0_t3
  let v754 : Index := Scalar.indexCast arg9
  let c4_520 : Index := 4#32
  let c4_521 : Index := 4#32
  let c161_522 : Index := 161#32
  ![3, v754.toNat, 4, 4, 161]
def k0_off159 (k0_t3 : Fin k0_t3_loop.trips) : Fin 4 → Nat :=
  let c1_i32_223 : BitVec 32 := 1#32
  let c1_i32_225 : BitVec 32 := 1#32
  let arg9 : BitVec 32 := Scf.iv c1_i32_223 c1_i32_225 k0_t3
  let v774 : Index := Scalar.indexCast arg9
  let c4_525 : Index := 4#32
  let c0_526 : Index := 0#32
  let c0_527 : Index := 0#32
  ![v774.toNat, 4, 0, 0]
@[reducible] def k0_t4_loop : Scf.Loop 32 :=
  let c1_i32_266 : BitVec 32 := 1#32
  let c3_i32_267 : BitVec 32 := 3#32
  let v313 : BitVec 32 := Scalar.addi c1_i32_266 c3_i32_267
  let c1_i32_268 : BitVec 32 := 1#32
  ⟨c1_i32_266, v313, c1_i32_268⟩
def k0_off160 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v443 : Index := Scalar.indexCast arg9
  let c0_353 : Index := 0#32
  let c0_354 : Index := 0#32
  let c0_355 : Index := 0#32
  ![v443.toNat, 0, 0, 0]
def k0_off161 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v446 : Index := Scalar.indexCast arg9
  let c0_356 : Index := 0#32
  let c4_357 : Index := 4#32
  let c63 : Index := 63#32
  ![v446.toNat, 0, 4, 63]
def k0_off162 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v459 : Index := Scalar.indexCast arg9
  let c0_361 : Index := 0#32
  let c4_362 : Index := 4#32
  let c64 : Index := 64#32
  ![v459.toNat, 0, 4, 64]
def k0_off163 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v472 : Index := Scalar.indexCast arg9
  let c0_366 : Index := 0#32
  let c4_367 : Index := 4#32
  let c65 : Index := 65#32
  ![v472.toNat, 0, 4, 65]
def k0_off164 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v485 : Index := Scalar.indexCast arg9
  let c0_371 : Index := 0#32
  let c4_372 : Index := 4#32
  let c94 : Index := 94#32
  ![v485.toNat, 0, 4, 94]
def k0_off165 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v498 : Index := Scalar.indexCast arg9
  let c0_376 : Index := 0#32
  let c4_377 : Index := 4#32
  let c95 : Index := 95#32
  ![v498.toNat, 0, 4, 95]
def k0_off166 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v511 : Index := Scalar.indexCast arg9
  let c0_380 : Index := 0#32
  let c4_381 : Index := 4#32
  let c96 : Index := 96#32
  ![v511.toNat, 0, 4, 96]
def k0_off167 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v524 : Index := Scalar.indexCast arg9
  let c0_385 : Index := 0#32
  let c4_386 : Index := 4#32
  let c97 : Index := 97#32
  ![v524.toNat, 0, 4, 97]
def k0_off168 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v537 : Index := Scalar.indexCast arg9
  let c0_389 : Index := 0#32
  let c4_390 : Index := 4#32
  let c98 : Index := 98#32
  ![v537.toNat, 0, 4, 98]
def k0_off169 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v550 : Index := Scalar.indexCast arg9
  let c0_394 : Index := 0#32
  let c4_395 : Index := 4#32
  let c126 : Index := 126#32
  ![v550.toNat, 0, 4, 126]
def k0_off170 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v563 : Index := Scalar.indexCast arg9
  let c0_398 : Index := 0#32
  let c4_399 : Index := 4#32
  let c127 : Index := 127#32
  ![v563.toNat, 0, 4, 127]
def k0_off171 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v576 : Index := Scalar.indexCast arg9
  let c0_402 : Index := 0#32
  let c4_403 : Index := 4#32
  let c128_404 : Index := 128#32
  ![v576.toNat, 0, 4, 128]
def k0_off172 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v589 : Index := Scalar.indexCast arg9
  let c0_407 : Index := 0#32
  let c4_408 : Index := 4#32
  let c129 : Index := 129#32
  ![v589.toNat, 0, 4, 129]
def k0_off173 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v602 : Index := Scalar.indexCast arg9
  let c0_411 : Index := 0#32
  let c4_412 : Index := 4#32
  let c130 : Index := 130#32
  ![v602.toNat, 0, 4, 130]
def k0_off174 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v615 : Index := Scalar.indexCast arg9
  let c0_415 : Index := 0#32
  let c4_416 : Index := 4#32
  let c158 : Index := 158#32
  ![v615.toNat, 0, 4, 158]
def k0_off175 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v628 : Index := Scalar.indexCast arg9
  let c0_419 : Index := 0#32
  let c4_420 : Index := 4#32
  let c159 : Index := 159#32
  ![v628.toNat, 0, 4, 159]
def k0_off176 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v641 : Index := Scalar.indexCast arg9
  let c0_423 : Index := 0#32
  let c4_424 : Index := 4#32
  let c160 : Index := 160#32
  ![v641.toNat, 0, 4, 160]
def k0_off177 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v654 : Index := Scalar.indexCast arg9
  let c0_427 : Index := 0#32
  let c4_428 : Index := 4#32
  let c161 : Index := 161#32
  ![v654.toNat, 0, 4, 161]
def k0_off178 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v667 : Index := Scalar.indexCast arg9
  let c0_431 : Index := 0#32
  let c4_432 : Index := 4#32
  let c162 : Index := 162#32
  ![v667.toNat, 0, 4, 162]
def k0_off179 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v680 : Index := Scalar.indexCast arg9
  let c0_435 : Index := 0#32
  let c4_436 : Index := 4#32
  let c191 : Index := 191#32
  ![v680.toNat, 0, 4, 191]
def k0_off180 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v693 : Index := Scalar.indexCast arg9
  let c0_439 : Index := 0#32
  let c4_440 : Index := 4#32
  let c192 : Index := 192#32
  ![v693.toNat, 0, 4, 192]
def k0_off181 (k0_t4 : Fin k0_t4_loop.trips) : Fin 4 → Nat :=
  let c1_i32_266 : BitVec 32 := 1#32
  let c1_i32_268 : BitVec 32 := 1#32
  let arg9 : BitVec 32 := Scf.iv c1_i32_266 c1_i32_268 k0_t4
  let v706 : Index := Scalar.indexCast arg9
  let c0_443 : Index := 0#32
  let c4_444 : Index := 4#32
  let c193 : Index := 193#32
  ![v706.toNat, 0, 4, 193]
@[reducible] def k0_t5_loop : Scf.Loop 32 :=
  let c0_i32_270 : BitVec 32 := 0#32
  let c2_i32_271 : BitVec 32 := 2#32
  let v315 : BitVec 32 := Scalar.addi c0_i32_270 c2_i32_271
  let c1_i32_272 : BitVec 32 := 1#32
  ⟨c0_i32_270, v315, c1_i32_272⟩
def k0_off182 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v444 : Index := Scalar.indexCast v442
  let c0_354 : Index := 0#32
  let c0_355 : Index := 0#32
  let c0_356 : Index := 0#32
  ![v444.toNat, 0, 0, 0]
def k0_off183 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v447 : Index := Scalar.indexCast v442
  let c0_357 : Index := 0#32
  let c4_358 : Index := 4#32
  let c95 : Index := 95#32
  ![v447.toNat, 0, 4, 95]
def k0_off184 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v460 : Index := Scalar.indexCast v442
  let c0_362 : Index := 0#32
  let c4_363 : Index := 4#32
  let c96 : Index := 96#32
  ![v460.toNat, 0, 4, 96]
def k0_off185 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v473 : Index := Scalar.indexCast v442
  let c0_367 : Index := 0#32
  let c4_368 : Index := 4#32
  let c97 : Index := 97#32
  ![v473.toNat, 0, 4, 97]
def k0_off186 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v486 : Index := Scalar.indexCast v442
  let c0_372 : Index := 0#32
  let c4_373 : Index := 4#32
  let c127 : Index := 127#32
  ![v486.toNat, 0, 4, 127]
def k0_off187 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v499 : Index := Scalar.indexCast v442
  let c0_377 : Index := 0#32
  let c4_378 : Index := 4#32
  let c128_379 : Index := 128#32
  ![v499.toNat, 0, 4, 128]
def k0_off188 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v512 : Index := Scalar.indexCast v442
  let c0_382 : Index := 0#32
  let c4_383 : Index := 4#32
  let c129 : Index := 129#32
  ![v512.toNat, 0, 4, 129]
def k0_off189 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v525 : Index := Scalar.indexCast v442
  let c0_387 : Index := 0#32
  let c4_388 : Index := 4#32
  let c159 : Index := 159#32
  ![v525.toNat, 0, 4, 159]
def k0_off190 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v538 : Index := Scalar.indexCast v442
  let c0_391 : Index := 0#32
  let c4_392 : Index := 4#32
  let c160 : Index := 160#32
  ![v538.toNat, 0, 4, 160]
def k0_off191 (k0_t5 : Fin k0_t5_loop.trips) : Fin 4 → Nat :=
  let c0_i32_270 : BitVec 32 := 0#32
  let c1_i32_272 : BitVec 32 := 1#32
  let arg9 : BitVec 32 := Scf.iv c0_i32_270 c1_i32_272 k0_t5
  let c4_i32_352 : BitVec 32 := 4#32
  let v442 : BitVec 32 := Scalar.muli arg9 c4_i32_352
  let v551 : Index := Scalar.indexCast v442
  let c0_396 : Index := 0#32
  let c4_397 : Index := 4#32
  let c161 : Index := 161#32
  ![v551.toNat, 0, 4, 161]
@[reducible] def k0_t6_loop : Scf.Loop 32 :=
  let c1_i32_279 : BitVec 32 := 1#32
  let c3_i32_280 : BitVec 32 := 3#32
  let v326 : BitVec 32 := Scalar.addi c1_i32_279 c3_i32_280
  let c1_i32_281 : BitVec 32 := 1#32
  ⟨c1_i32_279, v326, c1_i32_281⟩
def k0_off192 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v443 : Index := Scalar.indexCast arg9
  let c4_353 : Index := 4#32
  let c0_354 : Index := 0#32
  let c0_355 : Index := 0#32
  ![v443.toNat, 4, 0, 0]
def k0_off193 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v446 : Index := Scalar.indexCast arg9
  let c4_356 : Index := 4#32
  let c4_357 : Index := 4#32
  let c95 : Index := 95#32
  ![v446.toNat, 4, 4, 95]
def k0_off194 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v459 : Index := Scalar.indexCast arg9
  let c4_361 : Index := 4#32
  let c4_362 : Index := 4#32
  let c96 : Index := 96#32
  ![v459.toNat, 4, 4, 96]
def k0_off195 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v472 : Index := Scalar.indexCast arg9
  let c4_366 : Index := 4#32
  let c4_367 : Index := 4#32
  let c97 : Index := 97#32
  ![v472.toNat, 4, 4, 97]
def k0_off196 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v485 : Index := Scalar.indexCast arg9
  let c4_371 : Index := 4#32
  let c4_372 : Index := 4#32
  let c127 : Index := 127#32
  ![v485.toNat, 4, 4, 127]
def k0_off197 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v498 : Index := Scalar.indexCast arg9
  let c4_376 : Index := 4#32
  let c4_377 : Index := 4#32
  let c128_378 : Index := 128#32
  ![v498.toNat, 4, 4, 128]
def k0_off198 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v511 : Index := Scalar.indexCast arg9
  let c4_381 : Index := 4#32
  let c4_382 : Index := 4#32
  let c129 : Index := 129#32
  ![v511.toNat, 4, 4, 129]
def k0_off199 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v524 : Index := Scalar.indexCast arg9
  let c4_386 : Index := 4#32
  let c4_387 : Index := 4#32
  let c159 : Index := 159#32
  ![v524.toNat, 4, 4, 159]
def k0_off200 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v537 : Index := Scalar.indexCast arg9
  let c4_390 : Index := 4#32
  let c4_391 : Index := 4#32
  let c160 : Index := 160#32
  ![v537.toNat, 4, 4, 160]
def k0_off201 (k0_t6 : Fin k0_t6_loop.trips) : Fin 4 → Nat :=
  let c1_i32_279 : BitVec 32 := 1#32
  let c1_i32_281 : BitVec 32 := 1#32
  let arg9 : BitVec 32 := Scf.iv c1_i32_279 c1_i32_281 k0_t6
  let v550 : Index := Scalar.indexCast arg9
  let c4_395 : Index := 4#32
  let c4_396 : Index := 4#32
  let c161 : Index := 161#32
  ![v550.toNat, 4, 4, 161]
@[reducible] def k0_t7_loop : Scf.Loop 32 :=
  let c0_i32_311 : BitVec 32 := 0#32
  let c3_i32_312 : BitVec 32 := 3#32
  let v352 : BitVec 32 := Scalar.addi c0_i32_311 c3_i32_312
  let c1_i32_313 : BitVec 32 := 1#32
  ⟨c0_i32_311, v352, c1_i32_313⟩
def k0_off202 (k0_t7 : Fin k0_t7_loop.trips) : Fin 5 → Nat :=
  let c1_353 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v443 : Index := Scalar.indexCast v442
  let c0_354 : Index := 0#32
  let c4_355 : Index := 4#32
  let c95 : Index := 95#32
  ![1, v443.toNat, 0, 4, 95]
def k0_off203 (k0_t7 : Fin k0_t7_loop.trips) : Fin 5 → Nat :=
  let c2_356 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v448 : Index := Scalar.indexCast v442
  let c0_357 : Index := 0#32
  let c4_358 : Index := 4#32
  let c95_359 : Index := 95#32
  ![2, v448.toNat, 0, 4, 95]
def k0_off204 (k0_t7 : Fin k0_t7_loop.trips) : Fin 5 → Nat :=
  let c3_360 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v454 : Index := Scalar.indexCast v442
  let c0_361 : Index := 0#32
  let c4_362 : Index := 4#32
  let c95_363 : Index := 95#32
  ![3, v454.toNat, 0, 4, 95]
def k0_off205 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v460 : Index := Scalar.indexCast v442
  let c0_364 : Index := 0#32
  let c4_365 : Index := 4#32
  let c95_366 : Index := 95#32
  ![v460.toNat, 0, 4, 95]
def k0_off206 (k0_t7 : Fin k0_t7_loop.trips) : Fin 5 → Nat :=
  let c5_369 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v471 : Index := Scalar.indexCast v442
  let c0_370 : Index := 0#32
  let c4_371 : Index := 4#32
  let c95_372 : Index := 95#32
  ![5, v471.toNat, 0, 4, 95]
def k0_off207 (k0_t7 : Fin k0_t7_loop.trips) : Fin 5 → Nat :=
  let c6_373 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v476 : Index := Scalar.indexCast v442
  let c0_374 : Index := 0#32
  let c4_375 : Index := 4#32
  let c95_376 : Index := 95#32
  ![6, v476.toNat, 0, 4, 95]
def k0_off208 (k0_t7 : Fin k0_t7_loop.trips) : Fin 5 → Nat :=
  let c7_377 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v482 : Index := Scalar.indexCast v442
  let c0_378 : Index := 0#32
  let c4_379 : Index := 4#32
  let c95_380 : Index := 95#32
  ![7, v482.toNat, 0, 4, 95]
def k0_off209 (k0_t7 : Fin k0_t7_loop.trips) : Fin 5 → Nat :=
  let c4_382 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v490 : Index := Scalar.indexCast v442
  let c0_383 : Index := 0#32
  let c4_384 : Index := 4#32
  let c95_385 : Index := 95#32
  ![4, v490.toNat, 0, 4, 95]
def k0_off210 (k0_t7 : Fin k0_t7_loop.trips) : Fin 5 → Nat :=
  let c1_387 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v499 : Index := Scalar.indexCast v442
  let c0_388 : Index := 0#32
  let c4_389 : Index := 4#32
  let c96 : Index := 96#32
  ![1, v499.toNat, 0, 4, 96]
def k0_off211 (k0_t7 : Fin k0_t7_loop.trips) : Fin 5 → Nat :=
  let c2_390 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v504 : Index := Scalar.indexCast v442
  let c0_391 : Index := 0#32
  let c4_392 : Index := 4#32
  let c96_393 : Index := 96#32
  ![2, v504.toNat, 0, 4, 96]
def k0_off212 (k0_t7 : Fin k0_t7_loop.trips) : Fin 5 → Nat :=
  let c3_394 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v510 : Index := Scalar.indexCast v442
  let c0_395 : Index := 0#32
  let c4_396 : Index := 4#32
  let c96_397 : Index := 96#32
  ![3, v510.toNat, 0, 4, 96]
def k0_off213 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v516 : Index := Scalar.indexCast v442
  let c0_398 : Index := 0#32
  let c4_399 : Index := 4#32
  let c96_400 : Index := 96#32
  ![v516.toNat, 0, 4, 96]
def k0_off214 (k0_t7 : Fin k0_t7_loop.trips) : Fin 5 → Nat :=
  let c5_403 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v527 : Index := Scalar.indexCast v442
  let c0_404 : Index := 0#32
  let c4_405 : Index := 4#32
  let c96_406 : Index := 96#32
  ![5, v527.toNat, 0, 4, 96]
def k0_off215 (k0_t7 : Fin k0_t7_loop.trips) : Fin 5 → Nat :=
  let c6_407 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v532 : Index := Scalar.indexCast v442
  let c0_408 : Index := 0#32
  let c4_409 : Index := 4#32
  let c96_410 : Index := 96#32
  ![6, v532.toNat, 0, 4, 96]
def k0_off216 (k0_t7 : Fin k0_t7_loop.trips) : Fin 5 → Nat :=
  let c7_411 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v538 : Index := Scalar.indexCast v442
  let c0_412 : Index := 0#32
  let c4_413 : Index := 4#32
  let c96_414 : Index := 96#32
  ![7, v538.toNat, 0, 4, 96]
def k0_off217 (k0_t7 : Fin k0_t7_loop.trips) : Fin 5 → Nat :=
  let c4_416 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v546 : Index := Scalar.indexCast v442
  let c0_417 : Index := 0#32
  let c4_418 : Index := 4#32
  let c96_419 : Index := 96#32
  ![4, v546.toNat, 0, 4, 96]
def k0_off218 (k0_t7 : Fin k0_t7_loop.trips) : Fin 5 → Nat :=
  let c1_421 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v555 : Index := Scalar.indexCast v442
  let c0_422 : Index := 0#32
  let c4_423 : Index := 4#32
  let c97 : Index := 97#32
  ![1, v555.toNat, 0, 4, 97]
def k0_off219 (k0_t7 : Fin k0_t7_loop.trips) : Fin 5 → Nat :=
  let c2_424 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v560 : Index := Scalar.indexCast v442
  let c0_425 : Index := 0#32
  let c4_426 : Index := 4#32
  let c97_427 : Index := 97#32
  ![2, v560.toNat, 0, 4, 97]
def k0_off220 (k0_t7 : Fin k0_t7_loop.trips) : Fin 5 → Nat :=
  let c3_428 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v566 : Index := Scalar.indexCast v442
  let c0_429 : Index := 0#32
  let c4_430 : Index := 4#32
  let c97_431 : Index := 97#32
  ![3, v566.toNat, 0, 4, 97]
def k0_off221 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v572 : Index := Scalar.indexCast v442
  let c0_432 : Index := 0#32
  let c4_433 : Index := 4#32
  let c97_434 : Index := 97#32
  ![v572.toNat, 0, 4, 97]
def k0_off222 (k0_t7 : Fin k0_t7_loop.trips) : Fin 5 → Nat :=
  let c5_437 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v583 : Index := Scalar.indexCast v442
  let c0_438 : Index := 0#32
  let c4_439 : Index := 4#32
  let c97_440 : Index := 97#32
  ![5, v583.toNat, 0, 4, 97]
def k0_off223 (k0_t7 : Fin k0_t7_loop.trips) : Fin 5 → Nat :=
  let c6_441 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v588 : Index := Scalar.indexCast v442
  let c0_442 : Index := 0#32
  let c4_443 : Index := 4#32
  let c97_444 : Index := 97#32
  ![6, v588.toNat, 0, 4, 97]
def k0_off224 (k0_t7 : Fin k0_t7_loop.trips) : Fin 5 → Nat :=
  let c7_445 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v594 : Index := Scalar.indexCast v442
  let c0_446 : Index := 0#32
  let c4_447 : Index := 4#32
  let c97_448 : Index := 97#32
  ![7, v594.toNat, 0, 4, 97]
def k0_off225 (k0_t7 : Fin k0_t7_loop.trips) : Fin 5 → Nat :=
  let c4_450 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v602 : Index := Scalar.indexCast v442
  let c0_451 : Index := 0#32
  let c4_452 : Index := 4#32
  let c97_453 : Index := 97#32
  ![4, v602.toNat, 0, 4, 97]
def k0_off226 (k0_t7 : Fin k0_t7_loop.trips) : Fin 5 → Nat :=
  let c1_455 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v611 : Index := Scalar.indexCast v442
  let c0_456 : Index := 0#32
  let c4_457 : Index := 4#32
  let c127 : Index := 127#32
  ![1, v611.toNat, 0, 4, 127]
def k0_off227 (k0_t7 : Fin k0_t7_loop.trips) : Fin 5 → Nat :=
  let c2_458 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v616 : Index := Scalar.indexCast v442
  let c0_459 : Index := 0#32
  let c4_460 : Index := 4#32
  let c127_461 : Index := 127#32
  ![2, v616.toNat, 0, 4, 127]
def k0_off228 (k0_t7 : Fin k0_t7_loop.trips) : Fin 5 → Nat :=
  let c3_462 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v622 : Index := Scalar.indexCast v442
  let c0_463 : Index := 0#32
  let c4_464 : Index := 4#32
  let c127_465 : Index := 127#32
  ![3, v622.toNat, 0, 4, 127]
def k0_off229 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v628 : Index := Scalar.indexCast v442
  let c0_466 : Index := 0#32
  let c4_467 : Index := 4#32
  let c127_468 : Index := 127#32
  ![v628.toNat, 0, 4, 127]
def k0_off230 (k0_t7 : Fin k0_t7_loop.trips) : Fin 5 → Nat :=
  let c5_471 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v639 : Index := Scalar.indexCast v442
  let c0_472 : Index := 0#32
  let c4_473 : Index := 4#32
  let c127_474 : Index := 127#32
  ![5, v639.toNat, 0, 4, 127]
def k0_off231 (k0_t7 : Fin k0_t7_loop.trips) : Fin 5 → Nat :=
  let c6_475 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v644 : Index := Scalar.indexCast v442
  let c0_476 : Index := 0#32
  let c4_477 : Index := 4#32
  let c127_478 : Index := 127#32
  ![6, v644.toNat, 0, 4, 127]
def k0_off232 (k0_t7 : Fin k0_t7_loop.trips) : Fin 5 → Nat :=
  let c7_479 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v650 : Index := Scalar.indexCast v442
  let c0_480 : Index := 0#32
  let c4_481 : Index := 4#32
  let c127_482 : Index := 127#32
  ![7, v650.toNat, 0, 4, 127]
def k0_off233 (k0_t7 : Fin k0_t7_loop.trips) : Fin 5 → Nat :=
  let c4_484 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v658 : Index := Scalar.indexCast v442
  let c0_485 : Index := 0#32
  let c4_486 : Index := 4#32
  let c127_487 : Index := 127#32
  ![4, v658.toNat, 0, 4, 127]
def k0_off234 (k0_t7 : Fin k0_t7_loop.trips) : Fin 5 → Nat :=
  let c1_489 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v667 : Index := Scalar.indexCast v442
  let c0_490 : Index := 0#32
  let c4_491 : Index := 4#32
  let c128_492 : Index := 128#32
  ![1, v667.toNat, 0, 4, 128]
def k0_off235 (k0_t7 : Fin k0_t7_loop.trips) : Fin 5 → Nat :=
  let c2_493 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v672 : Index := Scalar.indexCast v442
  let c0_494 : Index := 0#32
  let c4_495 : Index := 4#32
  let c128_496 : Index := 128#32
  ![2, v672.toNat, 0, 4, 128]
def k0_off236 (k0_t7 : Fin k0_t7_loop.trips) : Fin 5 → Nat :=
  let c3_497 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v678 : Index := Scalar.indexCast v442
  let c0_498 : Index := 0#32
  let c4_499 : Index := 4#32
  let c128_500 : Index := 128#32
  ![3, v678.toNat, 0, 4, 128]
def k0_off237 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v684 : Index := Scalar.indexCast v442
  let c0_501 : Index := 0#32
  let c4_502 : Index := 4#32
  let c128_503 : Index := 128#32
  ![v684.toNat, 0, 4, 128]
def k0_off238 (k0_t7 : Fin k0_t7_loop.trips) : Fin 5 → Nat :=
  let c5_506 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v695 : Index := Scalar.indexCast v442
  let c0_507 : Index := 0#32
  let c4_508 : Index := 4#32
  let c128_509 : Index := 128#32
  ![5, v695.toNat, 0, 4, 128]
def k0_off239 (k0_t7 : Fin k0_t7_loop.trips) : Fin 5 → Nat :=
  let c6_510 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v700 : Index := Scalar.indexCast v442
  let c0_511 : Index := 0#32
  let c4_512 : Index := 4#32
  let c128_513 : Index := 128#32
  ![6, v700.toNat, 0, 4, 128]
def k0_off240 (k0_t7 : Fin k0_t7_loop.trips) : Fin 5 → Nat :=
  let c7_514 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v706 : Index := Scalar.indexCast v442
  let c0_515 : Index := 0#32
  let c4_516 : Index := 4#32
  let c128_517 : Index := 128#32
  ![7, v706.toNat, 0, 4, 128]
def k0_off241 (k0_t7 : Fin k0_t7_loop.trips) : Fin 5 → Nat :=
  let c4_519 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v714 : Index := Scalar.indexCast v442
  let c0_520 : Index := 0#32
  let c4_521 : Index := 4#32
  let c128_522 : Index := 128#32
  ![4, v714.toNat, 0, 4, 128]
def k0_off242 (k0_t7 : Fin k0_t7_loop.trips) : Fin 5 → Nat :=
  let c1_524 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v723 : Index := Scalar.indexCast v442
  let c0_525 : Index := 0#32
  let c4_526 : Index := 4#32
  let c129 : Index := 129#32
  ![1, v723.toNat, 0, 4, 129]
def k0_off243 (k0_t7 : Fin k0_t7_loop.trips) : Fin 5 → Nat :=
  let c2_527 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v728 : Index := Scalar.indexCast v442
  let c0_528 : Index := 0#32
  let c4_529 : Index := 4#32
  let c129_530 : Index := 129#32
  ![2, v728.toNat, 0, 4, 129]
def k0_off244 (k0_t7 : Fin k0_t7_loop.trips) : Fin 5 → Nat :=
  let c3_531 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v734 : Index := Scalar.indexCast v442
  let c0_532 : Index := 0#32
  let c4_533 : Index := 4#32
  let c129_534 : Index := 129#32
  ![3, v734.toNat, 0, 4, 129]
def k0_off245 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v740 : Index := Scalar.indexCast v442
  let c0_535 : Index := 0#32
  let c4_536 : Index := 4#32
  let c129_537 : Index := 129#32
  ![v740.toNat, 0, 4, 129]
def k0_off246 (k0_t7 : Fin k0_t7_loop.trips) : Fin 5 → Nat :=
  let c5_540 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v751 : Index := Scalar.indexCast v442
  let c0_541 : Index := 0#32
  let c4_542 : Index := 4#32
  let c129_543 : Index := 129#32
  ![5, v751.toNat, 0, 4, 129]
def k0_off247 (k0_t7 : Fin k0_t7_loop.trips) : Fin 5 → Nat :=
  let c6_544 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v756 : Index := Scalar.indexCast v442
  let c0_545 : Index := 0#32
  let c4_546 : Index := 4#32
  let c129_547 : Index := 129#32
  ![6, v756.toNat, 0, 4, 129]
def k0_off248 (k0_t7 : Fin k0_t7_loop.trips) : Fin 5 → Nat :=
  let c7_548 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v762 : Index := Scalar.indexCast v442
  let c0_549 : Index := 0#32
  let c4_550 : Index := 4#32
  let c129_551 : Index := 129#32
  ![7, v762.toNat, 0, 4, 129]
def k0_off249 (k0_t7 : Fin k0_t7_loop.trips) : Fin 5 → Nat :=
  let c4_553 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v770 : Index := Scalar.indexCast v442
  let c0_554 : Index := 0#32
  let c4_555 : Index := 4#32
  let c129_556 : Index := 129#32
  ![4, v770.toNat, 0, 4, 129]
def k0_off250 (k0_t7 : Fin k0_t7_loop.trips) : Fin 5 → Nat :=
  let c1_558 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v779 : Index := Scalar.indexCast v442
  let c0_559 : Index := 0#32
  let c4_560 : Index := 4#32
  let c159 : Index := 159#32
  ![1, v779.toNat, 0, 4, 159]
def k0_off251 (k0_t7 : Fin k0_t7_loop.trips) : Fin 5 → Nat :=
  let c2_561 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v784 : Index := Scalar.indexCast v442
  let c0_562 : Index := 0#32
  let c4_563 : Index := 4#32
  let c159_564 : Index := 159#32
  ![2, v784.toNat, 0, 4, 159]
def k0_off252 (k0_t7 : Fin k0_t7_loop.trips) : Fin 5 → Nat :=
  let c3_565 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v790 : Index := Scalar.indexCast v442
  let c0_566 : Index := 0#32
  let c4_567 : Index := 4#32
  let c159_568 : Index := 159#32
  ![3, v790.toNat, 0, 4, 159]
def k0_off253 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v796 : Index := Scalar.indexCast v442
  let c0_569 : Index := 0#32
  let c4_570 : Index := 4#32
  let c159_571 : Index := 159#32
  ![v796.toNat, 0, 4, 159]
def k0_off254 (k0_t7 : Fin k0_t7_loop.trips) : Fin 5 → Nat :=
  let c5_574 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v807 : Index := Scalar.indexCast v442
  let c0_575 : Index := 0#32
  let c4_576 : Index := 4#32
  let c159_577 : Index := 159#32
  ![5, v807.toNat, 0, 4, 159]
def k0_off255 (k0_t7 : Fin k0_t7_loop.trips) : Fin 5 → Nat :=
  let c6_578 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v812 : Index := Scalar.indexCast v442
  let c0_579 : Index := 0#32
  let c4_580 : Index := 4#32
  let c159_581 : Index := 159#32
  ![6, v812.toNat, 0, 4, 159]
def k0_off256 (k0_t7 : Fin k0_t7_loop.trips) : Fin 5 → Nat :=
  let c7_582 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v818 : Index := Scalar.indexCast v442
  let c0_583 : Index := 0#32
  let c4_584 : Index := 4#32
  let c159_585 : Index := 159#32
  ![7, v818.toNat, 0, 4, 159]
def k0_off257 (k0_t7 : Fin k0_t7_loop.trips) : Fin 5 → Nat :=
  let c4_587 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v826 : Index := Scalar.indexCast v442
  let c0_588 : Index := 0#32
  let c4_589 : Index := 4#32
  let c159_590 : Index := 159#32
  ![4, v826.toNat, 0, 4, 159]
def k0_off258 (k0_t7 : Fin k0_t7_loop.trips) : Fin 5 → Nat :=
  let c1_592 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v835 : Index := Scalar.indexCast v442
  let c0_593 : Index := 0#32
  let c4_594 : Index := 4#32
  let c160 : Index := 160#32
  ![1, v835.toNat, 0, 4, 160]
def k0_off259 (k0_t7 : Fin k0_t7_loop.trips) : Fin 5 → Nat :=
  let c2_595 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v840 : Index := Scalar.indexCast v442
  let c0_596 : Index := 0#32
  let c4_597 : Index := 4#32
  let c160_598 : Index := 160#32
  ![2, v840.toNat, 0, 4, 160]
def k0_off260 (k0_t7 : Fin k0_t7_loop.trips) : Fin 5 → Nat :=
  let c3_599 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v846 : Index := Scalar.indexCast v442
  let c0_600 : Index := 0#32
  let c4_601 : Index := 4#32
  let c160_602 : Index := 160#32
  ![3, v846.toNat, 0, 4, 160]
def k0_off261 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v852 : Index := Scalar.indexCast v442
  let c0_603 : Index := 0#32
  let c4_604 : Index := 4#32
  let c160_605 : Index := 160#32
  ![v852.toNat, 0, 4, 160]
def k0_off262 (k0_t7 : Fin k0_t7_loop.trips) : Fin 5 → Nat :=
  let c5_608 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v863 : Index := Scalar.indexCast v442
  let c0_609 : Index := 0#32
  let c4_610 : Index := 4#32
  let c160_611 : Index := 160#32
  ![5, v863.toNat, 0, 4, 160]
def k0_off263 (k0_t7 : Fin k0_t7_loop.trips) : Fin 5 → Nat :=
  let c6_612 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v868 : Index := Scalar.indexCast v442
  let c0_613 : Index := 0#32
  let c4_614 : Index := 4#32
  let c160_615 : Index := 160#32
  ![6, v868.toNat, 0, 4, 160]
def k0_off264 (k0_t7 : Fin k0_t7_loop.trips) : Fin 5 → Nat :=
  let c7_616 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v874 : Index := Scalar.indexCast v442
  let c0_617 : Index := 0#32
  let c4_618 : Index := 4#32
  let c160_619 : Index := 160#32
  ![7, v874.toNat, 0, 4, 160]
def k0_off265 (k0_t7 : Fin k0_t7_loop.trips) : Fin 5 → Nat :=
  let c4_621 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v882 : Index := Scalar.indexCast v442
  let c0_622 : Index := 0#32
  let c4_623 : Index := 4#32
  let c160_624 : Index := 160#32
  ![4, v882.toNat, 0, 4, 160]
def k0_off266 (k0_t7 : Fin k0_t7_loop.trips) : Fin 5 → Nat :=
  let c1_626 : Index := 1#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v891 : Index := Scalar.indexCast v442
  let c0_627 : Index := 0#32
  let c4_628 : Index := 4#32
  let c161 : Index := 161#32
  ![1, v891.toNat, 0, 4, 161]
def k0_off267 (k0_t7 : Fin k0_t7_loop.trips) : Fin 5 → Nat :=
  let c2_629 : Index := 2#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v896 : Index := Scalar.indexCast v442
  let c0_630 : Index := 0#32
  let c4_631 : Index := 4#32
  let c161_632 : Index := 161#32
  ![2, v896.toNat, 0, 4, 161]
def k0_off268 (k0_t7 : Fin k0_t7_loop.trips) : Fin 5 → Nat :=
  let c3_633 : Index := 3#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v902 : Index := Scalar.indexCast v442
  let c0_634 : Index := 0#32
  let c4_635 : Index := 4#32
  let c161_636 : Index := 161#32
  ![3, v902.toNat, 0, 4, 161]
def k0_off269 (k0_t7 : Fin k0_t7_loop.trips) : Fin 4 → Nat :=
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v908 : Index := Scalar.indexCast v442
  let c0_637 : Index := 0#32
  let c4_638 : Index := 4#32
  let c161_639 : Index := 161#32
  ![v908.toNat, 0, 4, 161]
def k0_off270 (k0_t7 : Fin k0_t7_loop.trips) : Fin 5 → Nat :=
  let c5_642 : Index := 5#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v919 : Index := Scalar.indexCast v442
  let c0_643 : Index := 0#32
  let c4_644 : Index := 4#32
  let c161_645 : Index := 161#32
  ![5, v919.toNat, 0, 4, 161]
def k0_off271 (k0_t7 : Fin k0_t7_loop.trips) : Fin 5 → Nat :=
  let c6_646 : Index := 6#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v924 : Index := Scalar.indexCast v442
  let c0_647 : Index := 0#32
  let c4_648 : Index := 4#32
  let c161_649 : Index := 161#32
  ![6, v924.toNat, 0, 4, 161]
def k0_off272 (k0_t7 : Fin k0_t7_loop.trips) : Fin 5 → Nat :=
  let c7_650 : Index := 7#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v930 : Index := Scalar.indexCast v442
  let c0_651 : Index := 0#32
  let c4_652 : Index := 4#32
  let c161_653 : Index := 161#32
  ![7, v930.toNat, 0, 4, 161]
def k0_off273 (k0_t7 : Fin k0_t7_loop.trips) : Fin 5 → Nat :=
  let c4_655 : Index := 4#32
  let c0_i32_311 : BitVec 32 := 0#32
  let c1_i32_313 : BitVec 32 := 1#32
  let arg9 : BitVec 32 := Scf.iv c0_i32_311 c1_i32_313 k0_t7
  let c1_i32_352 : BitVec 32 := 1#32
  let v442 : BitVec 32 := Scalar.addi arg9 c1_i32_352
  let v938 : Index := Scalar.indexCast v442
  let c0_656 : Index := 0#32
  let c4_657 : Index := 4#32
  let c161_658 : Index := 161#32
  ![4, v938.toNat, 0, 4, 161]
@[reducible] def k0_t8_loop : Scf.Loop 32 :=
  let c0_i32_333 : BitVec 32 := 0#32
  let c3_i32_334 : BitVec 32 := 3#32
  let v399 : BitVec 32 := Scalar.addi c0_i32_333 c3_i32_334
  let c1_i32_335 : BitVec 32 := 1#32
  ⟨c0_i32_333, v399, c1_i32_335⟩
def k0_off274 (k0_t8 : Fin k0_t8_loop.trips) : Fin 5 → Nat :=
  let c1_353 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v443 : Index := Scalar.indexCast v442
  let c4_354 : Index := 4#32
  let c4_355 : Index := 4#32
  let c95 : Index := 95#32
  ![1, v443.toNat, 4, 4, 95]
def k0_off275 (k0_t8 : Fin k0_t8_loop.trips) : Fin 5 → Nat :=
  let c2_356 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v448 : Index := Scalar.indexCast v442
  let c4_357 : Index := 4#32
  let c4_358 : Index := 4#32
  let c95_359 : Index := 95#32
  ![2, v448.toNat, 4, 4, 95]
def k0_off276 (k0_t8 : Fin k0_t8_loop.trips) : Fin 5 → Nat :=
  let c3_360 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v454 : Index := Scalar.indexCast v442
  let c4_361 : Index := 4#32
  let c4_362 : Index := 4#32
  let c95_363 : Index := 95#32
  ![3, v454.toNat, 4, 4, 95]
def k0_off277 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v460 : Index := Scalar.indexCast v442
  let c4_364 : Index := 4#32
  let c4_365 : Index := 4#32
  let c95_366 : Index := 95#32
  ![v460.toNat, 4, 4, 95]
def k0_off278 (k0_t8 : Fin k0_t8_loop.trips) : Fin 5 → Nat :=
  let c5_369 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v471 : Index := Scalar.indexCast v442
  let c4_370 : Index := 4#32
  let c4_371 : Index := 4#32
  let c95_372 : Index := 95#32
  ![5, v471.toNat, 4, 4, 95]
def k0_off279 (k0_t8 : Fin k0_t8_loop.trips) : Fin 5 → Nat :=
  let c6_373 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v476 : Index := Scalar.indexCast v442
  let c4_374 : Index := 4#32
  let c4_375 : Index := 4#32
  let c95_376 : Index := 95#32
  ![6, v476.toNat, 4, 4, 95]
def k0_off280 (k0_t8 : Fin k0_t8_loop.trips) : Fin 5 → Nat :=
  let c7_377 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v482 : Index := Scalar.indexCast v442
  let c4_378 : Index := 4#32
  let c4_379 : Index := 4#32
  let c95_380 : Index := 95#32
  ![7, v482.toNat, 4, 4, 95]
def k0_off281 (k0_t8 : Fin k0_t8_loop.trips) : Fin 5 → Nat :=
  let c4_382 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v490 : Index := Scalar.indexCast v442
  let c4_383 : Index := 4#32
  let c4_384 : Index := 4#32
  let c95_385 : Index := 95#32
  ![4, v490.toNat, 4, 4, 95]
def k0_off282 (k0_t8 : Fin k0_t8_loop.trips) : Fin 5 → Nat :=
  let c1_387 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v499 : Index := Scalar.indexCast v442
  let c4_388 : Index := 4#32
  let c4_389 : Index := 4#32
  let c96 : Index := 96#32
  ![1, v499.toNat, 4, 4, 96]
def k0_off283 (k0_t8 : Fin k0_t8_loop.trips) : Fin 5 → Nat :=
  let c2_390 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v504 : Index := Scalar.indexCast v442
  let c4_391 : Index := 4#32
  let c4_392 : Index := 4#32
  let c96_393 : Index := 96#32
  ![2, v504.toNat, 4, 4, 96]
def k0_off284 (k0_t8 : Fin k0_t8_loop.trips) : Fin 5 → Nat :=
  let c3_394 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v510 : Index := Scalar.indexCast v442
  let c4_395 : Index := 4#32
  let c4_396 : Index := 4#32
  let c96_397 : Index := 96#32
  ![3, v510.toNat, 4, 4, 96]
def k0_off285 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v516 : Index := Scalar.indexCast v442
  let c4_398 : Index := 4#32
  let c4_399 : Index := 4#32
  let c96_400 : Index := 96#32
  ![v516.toNat, 4, 4, 96]
def k0_off286 (k0_t8 : Fin k0_t8_loop.trips) : Fin 5 → Nat :=
  let c5_403 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v527 : Index := Scalar.indexCast v442
  let c4_404 : Index := 4#32
  let c4_405 : Index := 4#32
  let c96_406 : Index := 96#32
  ![5, v527.toNat, 4, 4, 96]
def k0_off287 (k0_t8 : Fin k0_t8_loop.trips) : Fin 5 → Nat :=
  let c6_407 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v532 : Index := Scalar.indexCast v442
  let c4_408 : Index := 4#32
  let c4_409 : Index := 4#32
  let c96_410 : Index := 96#32
  ![6, v532.toNat, 4, 4, 96]
def k0_off288 (k0_t8 : Fin k0_t8_loop.trips) : Fin 5 → Nat :=
  let c7_411 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v538 : Index := Scalar.indexCast v442
  let c4_412 : Index := 4#32
  let c4_413 : Index := 4#32
  let c96_414 : Index := 96#32
  ![7, v538.toNat, 4, 4, 96]
def k0_off289 (k0_t8 : Fin k0_t8_loop.trips) : Fin 5 → Nat :=
  let c4_416 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v546 : Index := Scalar.indexCast v442
  let c4_417 : Index := 4#32
  let c4_418 : Index := 4#32
  let c96_419 : Index := 96#32
  ![4, v546.toNat, 4, 4, 96]
def k0_off290 (k0_t8 : Fin k0_t8_loop.trips) : Fin 5 → Nat :=
  let c1_421 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v555 : Index := Scalar.indexCast v442
  let c4_422 : Index := 4#32
  let c4_423 : Index := 4#32
  let c97 : Index := 97#32
  ![1, v555.toNat, 4, 4, 97]
def k0_off291 (k0_t8 : Fin k0_t8_loop.trips) : Fin 5 → Nat :=
  let c2_424 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v560 : Index := Scalar.indexCast v442
  let c4_425 : Index := 4#32
  let c4_426 : Index := 4#32
  let c97_427 : Index := 97#32
  ![2, v560.toNat, 4, 4, 97]
def k0_off292 (k0_t8 : Fin k0_t8_loop.trips) : Fin 5 → Nat :=
  let c3_428 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v566 : Index := Scalar.indexCast v442
  let c4_429 : Index := 4#32
  let c4_430 : Index := 4#32
  let c97_431 : Index := 97#32
  ![3, v566.toNat, 4, 4, 97]
def k0_off293 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v572 : Index := Scalar.indexCast v442
  let c4_432 : Index := 4#32
  let c4_433 : Index := 4#32
  let c97_434 : Index := 97#32
  ![v572.toNat, 4, 4, 97]
def k0_off294 (k0_t8 : Fin k0_t8_loop.trips) : Fin 5 → Nat :=
  let c5_437 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v583 : Index := Scalar.indexCast v442
  let c4_438 : Index := 4#32
  let c4_439 : Index := 4#32
  let c97_440 : Index := 97#32
  ![5, v583.toNat, 4, 4, 97]
def k0_off295 (k0_t8 : Fin k0_t8_loop.trips) : Fin 5 → Nat :=
  let c6_441 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v588 : Index := Scalar.indexCast v442
  let c4_442 : Index := 4#32
  let c4_443 : Index := 4#32
  let c97_444 : Index := 97#32
  ![6, v588.toNat, 4, 4, 97]
def k0_off296 (k0_t8 : Fin k0_t8_loop.trips) : Fin 5 → Nat :=
  let c7_445 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v594 : Index := Scalar.indexCast v442
  let c4_446 : Index := 4#32
  let c4_447 : Index := 4#32
  let c97_448 : Index := 97#32
  ![7, v594.toNat, 4, 4, 97]
def k0_off297 (k0_t8 : Fin k0_t8_loop.trips) : Fin 5 → Nat :=
  let c4_450 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v602 : Index := Scalar.indexCast v442
  let c4_451 : Index := 4#32
  let c4_452 : Index := 4#32
  let c97_453 : Index := 97#32
  ![4, v602.toNat, 4, 4, 97]
def k0_off298 (k0_t8 : Fin k0_t8_loop.trips) : Fin 5 → Nat :=
  let c1_455 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v611 : Index := Scalar.indexCast v442
  let c4_456 : Index := 4#32
  let c4_457 : Index := 4#32
  let c127 : Index := 127#32
  ![1, v611.toNat, 4, 4, 127]
def k0_off299 (k0_t8 : Fin k0_t8_loop.trips) : Fin 5 → Nat :=
  let c2_458 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v616 : Index := Scalar.indexCast v442
  let c4_459 : Index := 4#32
  let c4_460 : Index := 4#32
  let c127_461 : Index := 127#32
  ![2, v616.toNat, 4, 4, 127]
def k0_off300 (k0_t8 : Fin k0_t8_loop.trips) : Fin 5 → Nat :=
  let c3_462 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v622 : Index := Scalar.indexCast v442
  let c4_463 : Index := 4#32
  let c4_464 : Index := 4#32
  let c127_465 : Index := 127#32
  ![3, v622.toNat, 4, 4, 127]
def k0_off301 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v628 : Index := Scalar.indexCast v442
  let c4_466 : Index := 4#32
  let c4_467 : Index := 4#32
  let c127_468 : Index := 127#32
  ![v628.toNat, 4, 4, 127]
def k0_off302 (k0_t8 : Fin k0_t8_loop.trips) : Fin 5 → Nat :=
  let c5_471 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v639 : Index := Scalar.indexCast v442
  let c4_472 : Index := 4#32
  let c4_473 : Index := 4#32
  let c127_474 : Index := 127#32
  ![5, v639.toNat, 4, 4, 127]
def k0_off303 (k0_t8 : Fin k0_t8_loop.trips) : Fin 5 → Nat :=
  let c6_475 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v644 : Index := Scalar.indexCast v442
  let c4_476 : Index := 4#32
  let c4_477 : Index := 4#32
  let c127_478 : Index := 127#32
  ![6, v644.toNat, 4, 4, 127]
def k0_off304 (k0_t8 : Fin k0_t8_loop.trips) : Fin 5 → Nat :=
  let c7_479 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v650 : Index := Scalar.indexCast v442
  let c4_480 : Index := 4#32
  let c4_481 : Index := 4#32
  let c127_482 : Index := 127#32
  ![7, v650.toNat, 4, 4, 127]
def k0_off305 (k0_t8 : Fin k0_t8_loop.trips) : Fin 5 → Nat :=
  let c4_484 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v658 : Index := Scalar.indexCast v442
  let c4_485 : Index := 4#32
  let c4_486 : Index := 4#32
  let c127_487 : Index := 127#32
  ![4, v658.toNat, 4, 4, 127]
def k0_off306 (k0_t8 : Fin k0_t8_loop.trips) : Fin 5 → Nat :=
  let c1_489 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v667 : Index := Scalar.indexCast v442
  let c4_490 : Index := 4#32
  let c4_491 : Index := 4#32
  let c128_492 : Index := 128#32
  ![1, v667.toNat, 4, 4, 128]
def k0_off307 (k0_t8 : Fin k0_t8_loop.trips) : Fin 5 → Nat :=
  let c2_493 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v672 : Index := Scalar.indexCast v442
  let c4_494 : Index := 4#32
  let c4_495 : Index := 4#32
  let c128_496 : Index := 128#32
  ![2, v672.toNat, 4, 4, 128]
def k0_off308 (k0_t8 : Fin k0_t8_loop.trips) : Fin 5 → Nat :=
  let c3_497 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v678 : Index := Scalar.indexCast v442
  let c4_498 : Index := 4#32
  let c4_499 : Index := 4#32
  let c128_500 : Index := 128#32
  ![3, v678.toNat, 4, 4, 128]
def k0_off309 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v684 : Index := Scalar.indexCast v442
  let c4_501 : Index := 4#32
  let c4_502 : Index := 4#32
  let c128_503 : Index := 128#32
  ![v684.toNat, 4, 4, 128]
def k0_off310 (k0_t8 : Fin k0_t8_loop.trips) : Fin 5 → Nat :=
  let c5_506 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v695 : Index := Scalar.indexCast v442
  let c4_507 : Index := 4#32
  let c4_508 : Index := 4#32
  let c128_509 : Index := 128#32
  ![5, v695.toNat, 4, 4, 128]
def k0_off311 (k0_t8 : Fin k0_t8_loop.trips) : Fin 5 → Nat :=
  let c6_510 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v700 : Index := Scalar.indexCast v442
  let c4_511 : Index := 4#32
  let c4_512 : Index := 4#32
  let c128_513 : Index := 128#32
  ![6, v700.toNat, 4, 4, 128]
def k0_off312 (k0_t8 : Fin k0_t8_loop.trips) : Fin 5 → Nat :=
  let c7_514 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v706 : Index := Scalar.indexCast v442
  let c4_515 : Index := 4#32
  let c4_516 : Index := 4#32
  let c128_517 : Index := 128#32
  ![7, v706.toNat, 4, 4, 128]
def k0_off313 (k0_t8 : Fin k0_t8_loop.trips) : Fin 5 → Nat :=
  let c4_519 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v714 : Index := Scalar.indexCast v442
  let c4_520 : Index := 4#32
  let c4_521 : Index := 4#32
  let c128_522 : Index := 128#32
  ![4, v714.toNat, 4, 4, 128]
def k0_off314 (k0_t8 : Fin k0_t8_loop.trips) : Fin 5 → Nat :=
  let c1_524 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v723 : Index := Scalar.indexCast v442
  let c4_525 : Index := 4#32
  let c4_526 : Index := 4#32
  let c129 : Index := 129#32
  ![1, v723.toNat, 4, 4, 129]
def k0_off315 (k0_t8 : Fin k0_t8_loop.trips) : Fin 5 → Nat :=
  let c2_527 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v728 : Index := Scalar.indexCast v442
  let c4_528 : Index := 4#32
  let c4_529 : Index := 4#32
  let c129_530 : Index := 129#32
  ![2, v728.toNat, 4, 4, 129]
def k0_off316 (k0_t8 : Fin k0_t8_loop.trips) : Fin 5 → Nat :=
  let c3_531 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v734 : Index := Scalar.indexCast v442
  let c4_532 : Index := 4#32
  let c4_533 : Index := 4#32
  let c129_534 : Index := 129#32
  ![3, v734.toNat, 4, 4, 129]
def k0_off317 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v740 : Index := Scalar.indexCast v442
  let c4_535 : Index := 4#32
  let c4_536 : Index := 4#32
  let c129_537 : Index := 129#32
  ![v740.toNat, 4, 4, 129]
def k0_off318 (k0_t8 : Fin k0_t8_loop.trips) : Fin 5 → Nat :=
  let c5_540 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v751 : Index := Scalar.indexCast v442
  let c4_541 : Index := 4#32
  let c4_542 : Index := 4#32
  let c129_543 : Index := 129#32
  ![5, v751.toNat, 4, 4, 129]
def k0_off319 (k0_t8 : Fin k0_t8_loop.trips) : Fin 5 → Nat :=
  let c6_544 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v756 : Index := Scalar.indexCast v442
  let c4_545 : Index := 4#32
  let c4_546 : Index := 4#32
  let c129_547 : Index := 129#32
  ![6, v756.toNat, 4, 4, 129]
def k0_off320 (k0_t8 : Fin k0_t8_loop.trips) : Fin 5 → Nat :=
  let c7_548 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v762 : Index := Scalar.indexCast v442
  let c4_549 : Index := 4#32
  let c4_550 : Index := 4#32
  let c129_551 : Index := 129#32
  ![7, v762.toNat, 4, 4, 129]
def k0_off321 (k0_t8 : Fin k0_t8_loop.trips) : Fin 5 → Nat :=
  let c4_553 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v770 : Index := Scalar.indexCast v442
  let c4_554 : Index := 4#32
  let c4_555 : Index := 4#32
  let c129_556 : Index := 129#32
  ![4, v770.toNat, 4, 4, 129]
def k0_off322 (k0_t8 : Fin k0_t8_loop.trips) : Fin 5 → Nat :=
  let c1_558 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v779 : Index := Scalar.indexCast v442
  let c4_559 : Index := 4#32
  let c4_560 : Index := 4#32
  let c159 : Index := 159#32
  ![1, v779.toNat, 4, 4, 159]
def k0_off323 (k0_t8 : Fin k0_t8_loop.trips) : Fin 5 → Nat :=
  let c2_561 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v784 : Index := Scalar.indexCast v442
  let c4_562 : Index := 4#32
  let c4_563 : Index := 4#32
  let c159_564 : Index := 159#32
  ![2, v784.toNat, 4, 4, 159]
def k0_off324 (k0_t8 : Fin k0_t8_loop.trips) : Fin 5 → Nat :=
  let c3_565 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v790 : Index := Scalar.indexCast v442
  let c4_566 : Index := 4#32
  let c4_567 : Index := 4#32
  let c159_568 : Index := 159#32
  ![3, v790.toNat, 4, 4, 159]
def k0_off325 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v796 : Index := Scalar.indexCast v442
  let c4_569 : Index := 4#32
  let c4_570 : Index := 4#32
  let c159_571 : Index := 159#32
  ![v796.toNat, 4, 4, 159]
def k0_off326 (k0_t8 : Fin k0_t8_loop.trips) : Fin 5 → Nat :=
  let c5_574 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v807 : Index := Scalar.indexCast v442
  let c4_575 : Index := 4#32
  let c4_576 : Index := 4#32
  let c159_577 : Index := 159#32
  ![5, v807.toNat, 4, 4, 159]
def k0_off327 (k0_t8 : Fin k0_t8_loop.trips) : Fin 5 → Nat :=
  let c6_578 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v812 : Index := Scalar.indexCast v442
  let c4_579 : Index := 4#32
  let c4_580 : Index := 4#32
  let c159_581 : Index := 159#32
  ![6, v812.toNat, 4, 4, 159]
def k0_off328 (k0_t8 : Fin k0_t8_loop.trips) : Fin 5 → Nat :=
  let c7_582 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v818 : Index := Scalar.indexCast v442
  let c4_583 : Index := 4#32
  let c4_584 : Index := 4#32
  let c159_585 : Index := 159#32
  ![7, v818.toNat, 4, 4, 159]
def k0_off329 (k0_t8 : Fin k0_t8_loop.trips) : Fin 5 → Nat :=
  let c4_587 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v826 : Index := Scalar.indexCast v442
  let c4_588 : Index := 4#32
  let c4_589 : Index := 4#32
  let c159_590 : Index := 159#32
  ![4, v826.toNat, 4, 4, 159]
def k0_off330 (k0_t8 : Fin k0_t8_loop.trips) : Fin 5 → Nat :=
  let c1_592 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v835 : Index := Scalar.indexCast v442
  let c4_593 : Index := 4#32
  let c4_594 : Index := 4#32
  let c160 : Index := 160#32
  ![1, v835.toNat, 4, 4, 160]
def k0_off331 (k0_t8 : Fin k0_t8_loop.trips) : Fin 5 → Nat :=
  let c2_595 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v840 : Index := Scalar.indexCast v442
  let c4_596 : Index := 4#32
  let c4_597 : Index := 4#32
  let c160_598 : Index := 160#32
  ![2, v840.toNat, 4, 4, 160]
def k0_off332 (k0_t8 : Fin k0_t8_loop.trips) : Fin 5 → Nat :=
  let c3_599 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v846 : Index := Scalar.indexCast v442
  let c4_600 : Index := 4#32
  let c4_601 : Index := 4#32
  let c160_602 : Index := 160#32
  ![3, v846.toNat, 4, 4, 160]
def k0_off333 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v852 : Index := Scalar.indexCast v442
  let c4_603 : Index := 4#32
  let c4_604 : Index := 4#32
  let c160_605 : Index := 160#32
  ![v852.toNat, 4, 4, 160]
def k0_off334 (k0_t8 : Fin k0_t8_loop.trips) : Fin 5 → Nat :=
  let c5_608 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v863 : Index := Scalar.indexCast v442
  let c4_609 : Index := 4#32
  let c4_610 : Index := 4#32
  let c160_611 : Index := 160#32
  ![5, v863.toNat, 4, 4, 160]
def k0_off335 (k0_t8 : Fin k0_t8_loop.trips) : Fin 5 → Nat :=
  let c6_612 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v868 : Index := Scalar.indexCast v442
  let c4_613 : Index := 4#32
  let c4_614 : Index := 4#32
  let c160_615 : Index := 160#32
  ![6, v868.toNat, 4, 4, 160]
def k0_off336 (k0_t8 : Fin k0_t8_loop.trips) : Fin 5 → Nat :=
  let c7_616 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v874 : Index := Scalar.indexCast v442
  let c4_617 : Index := 4#32
  let c4_618 : Index := 4#32
  let c160_619 : Index := 160#32
  ![7, v874.toNat, 4, 4, 160]
def k0_off337 (k0_t8 : Fin k0_t8_loop.trips) : Fin 5 → Nat :=
  let c4_621 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v882 : Index := Scalar.indexCast v442
  let c4_622 : Index := 4#32
  let c4_623 : Index := 4#32
  let c160_624 : Index := 160#32
  ![4, v882.toNat, 4, 4, 160]
def k0_off338 (k0_t8 : Fin k0_t8_loop.trips) : Fin 5 → Nat :=
  let c1_626 : Index := 1#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v891 : Index := Scalar.indexCast v442
  let c4_627 : Index := 4#32
  let c4_628 : Index := 4#32
  let c161 : Index := 161#32
  ![1, v891.toNat, 4, 4, 161]
def k0_off339 (k0_t8 : Fin k0_t8_loop.trips) : Fin 5 → Nat :=
  let c2_629 : Index := 2#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v896 : Index := Scalar.indexCast v442
  let c4_630 : Index := 4#32
  let c4_631 : Index := 4#32
  let c161_632 : Index := 161#32
  ![2, v896.toNat, 4, 4, 161]
def k0_off340 (k0_t8 : Fin k0_t8_loop.trips) : Fin 5 → Nat :=
  let c3_633 : Index := 3#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v902 : Index := Scalar.indexCast v442
  let c4_634 : Index := 4#32
  let c4_635 : Index := 4#32
  let c161_636 : Index := 161#32
  ![3, v902.toNat, 4, 4, 161]
def k0_off341 (k0_t8 : Fin k0_t8_loop.trips) : Fin 4 → Nat :=
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v908 : Index := Scalar.indexCast v442
  let c4_637 : Index := 4#32
  let c4_638 : Index := 4#32
  let c161_639 : Index := 161#32
  ![v908.toNat, 4, 4, 161]
def k0_off342 (k0_t8 : Fin k0_t8_loop.trips) : Fin 5 → Nat :=
  let c5_642 : Index := 5#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v919 : Index := Scalar.indexCast v442
  let c4_643 : Index := 4#32
  let c4_644 : Index := 4#32
  let c161_645 : Index := 161#32
  ![5, v919.toNat, 4, 4, 161]
def k0_off343 (k0_t8 : Fin k0_t8_loop.trips) : Fin 5 → Nat :=
  let c6_646 : Index := 6#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v924 : Index := Scalar.indexCast v442
  let c4_647 : Index := 4#32
  let c4_648 : Index := 4#32
  let c161_649 : Index := 161#32
  ![6, v924.toNat, 4, 4, 161]
def k0_off344 (k0_t8 : Fin k0_t8_loop.trips) : Fin 5 → Nat :=
  let c7_650 : Index := 7#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v930 : Index := Scalar.indexCast v442
  let c4_651 : Index := 4#32
  let c4_652 : Index := 4#32
  let c161_653 : Index := 161#32
  ![7, v930.toNat, 4, 4, 161]
def k0_off345 (k0_t8 : Fin k0_t8_loop.trips) : Fin 5 → Nat :=
  let c4_655 : Index := 4#32
  let c0_i32_333 : BitVec 32 := 0#32
  let c1_i32_335 : BitVec 32 := 1#32
  let arg9 : BitVec 32 := Scf.iv c0_i32_333 c1_i32_335 k0_t8
  let c1_i32_352 : BitVec 32 := 1#32
  let v442 : BitVec 32 := Scalar.addi arg9 c1_i32_352
  let v938 : Index := Scalar.indexCast v442
  let c4_656 : Index := 4#32
  let c4_657 : Index := 4#32
  let c161_658 : Index := 161#32
  ![4, v938.toNat, 4, 4, 161]
abbrev stage0_0 : Fin 1 → Memref sig .tc .vmem S8x4x40x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x40x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x8x4x32x32 : Shape := ⟨5, ![4, 8, 4, 32, 32]⟩
abbrev S4 : Shape := ⟨1, ![4]⟩
abbrev S2 : Shape := ⟨1, ![2]⟩
abbrev S32 : Shape := ⟨1, ![32]⟩
abbrev S4x32x32 : Shape := ⟨3, ![4, 32, 32]⟩
abbrev S_ : Shape := ⟨0, ![]⟩
abbrev S4096 : Shape := ⟨1, ![4096]⟩
abbrev S1x4096 : Shape := ⟨2, ![1, 4096]⟩
abbrev S4x4096 : Shape := ⟨2, ![4, 4096]⟩
abbrev S4x2x4x4096 : Shape := ⟨4, ![4, 2, 4, 4096]⟩
abbrev S1x1x4x4096 : Shape := ⟨4, ![1, 1, 4, 4096]⟩
abbrev S1x1x4x1 : Shape := ⟨4, ![1, 1, 4, 1]⟩
abbrev S4x2x4096x4 : Shape := ⟨4, ![4, 2, 4096, 4]⟩
abbrev S4x2x4096x1 : Shape := ⟨4, ![4, 2, 4096, 1]⟩
abbrev S4x2x4096 : Shape := ⟨3, ![4, 2, 4096]⟩
abbrev S1 : Shape := ⟨1, ![1]⟩
abbrev S1x1x1x1 : Shape := ⟨4, ![1, 1, 1, 1]⟩
abbrev S4x2x4096x3 : Shape := ⟨4, ![4, 2, 4096, 3]⟩
abbrev S4x2x4096x1x3 : Shape := ⟨5, ![4, 2, 4096, 1, 3]⟩
abbrev S4x2x1x4096x3 : Shape := ⟨5, ![4, 2, 1, 4096, 3]⟩
abbrev S4x2x4096x4096x3 : Shape := ⟨5, ![4, 2, 4096, 4096, 3]⟩
abbrev S4x2x4096x4096 : Shape := ⟨4, ![4, 2, 4096, 4096]⟩
abbrev S4096x4096 : Shape := ⟨2, ![4096, 4096]⟩
abbrev S1x2x1x1 : Shape := ⟨4, ![1, 2, 1, 1]⟩
abbrev S1x1x4096x4096 : Shape := ⟨4, ![1, 1, 4096, 4096]⟩
abbrev S4x2x1x4096 : Shape := ⟨4, ![4, 2, 1, 4096]⟩
abbrev S4x2 : Shape := ⟨2, ![4, 2]⟩
abbrev S4x2x1 : Shape := ⟨3, ![4, 2, 1]⟩
abbrev S4x2x3 : Shape := ⟨3, ![4, 2, 3]⟩

abbrev nBuf : Space → Nat
  | .hbm => 164
  | .vmem => 0
  | .smem => 0
  | _ => 0

abbrev hbmTy0_0 (i : Nat) : BufTy := match i % 128 with
  | 0 => ⟨S4x8x4x32x32, .f32⟩
  | 1 => ⟨S4x8x4x32x32, .f32⟩
  | 2 => ⟨S4, .f32⟩
  | 3 => ⟨S2, .f32⟩
  | 4 => ⟨S4, .i32⟩
  | 5 => ⟨S32, .i32⟩
  | 6 => ⟨S32, .i32⟩
  | 7 => ⟨S4x32x32, .i32⟩
  | 8 => ⟨S4x32x32, .i32⟩
  | 9 => ⟨S4x32x32, .i32⟩
  | 10 => ⟨S_, .i32⟩
  | 11 => ⟨S4096, .i32⟩
  | 12 => ⟨S4096, .i32⟩
  | 13 => ⟨S4096, .i32⟩
  | 14 => ⟨S4096, .i32⟩
  | 15 => ⟨S1x4096, .i32⟩
  | 16 => ⟨S1x4096, .i32⟩
  | 17 => ⟨S1x4096, .i32⟩
  | 18 => ⟨S1x4096, .i32⟩
  | 19 => ⟨S4x4096, .i32⟩
  | 20 => ⟨S4x4096, .f32⟩
  | 21 => ⟨S4x2x4x4096, .f32⟩
  | 22 => ⟨S1x1x4x4096, .f32⟩
  | 23 => ⟨S4x2x4x4096, .f32⟩
  | 24 => ⟨S4x2x4x4096, .f32⟩
  | 25 => ⟨S1x1x4x1, .f32⟩
  | 26 => ⟨S4x2x4x4096, .f32⟩
  | 27 => ⟨S4x2x4x4096, .f32⟩
  | 28 => ⟨S4x2x4096x4, .f32⟩
  | 29 => ⟨S4x2x4x4096, .f32⟩
  | 30 => ⟨S1x1x4x4096, .f32⟩
  | 31 => ⟨S4x2x4x4096, .f32⟩
  | 32 => ⟨S4x2x4x4096, .f32⟩
  | 33 => ⟨S1x1x4x1, .f32⟩
  | 34 => ⟨S4x2x4x4096, .f32⟩
  | 35 => ⟨S4x2x4x4096, .f32⟩
  | 36 => ⟨S4x2x4096x4, .f32⟩
  | 37 => ⟨S4x2x4096x1, .f32⟩
  | 38 => ⟨S4x2x4096, .f32⟩
  | 39 => ⟨S4x2x4096, .f32⟩
  | 40 => ⟨S4x2x4096, .i32⟩
  | 41 => ⟨S4x2x4096, .f32⟩
  | 42 => ⟨S4x2x4096, .i32⟩
  | 43 => ⟨S4x2x4096x1, .i32⟩
  | 44 => ⟨S_, .i32⟩
  | 45 => ⟨S4x2x4096x1, .i32⟩
  | 46 => ⟨S4x2x4096x1, .i1⟩
  | 47 => ⟨S_, .i32⟩
  | 48 => ⟨S4x2x4096x1, .i32⟩
  | 49 => ⟨S4x2x4096x1, .i32⟩
  | 50 => ⟨S4x2x4096x1, .i32⟩
  | 51 => ⟨S1, .i32⟩
  | 52 => ⟨S_, .i32⟩
  | 53 => ⟨S4x2x4096x1, .i32⟩
  | 54 => ⟨S4x2x4096x1, .i1⟩
  | 55 => ⟨S1x1x1x1, .i32⟩
  | 56 => ⟨S4x2x4096x1, .i32⟩
  | 57 => ⟨S4x2x4096x1, .i1⟩
  | 58 => ⟨S4x2x4096x1, .i1⟩
  | 59 => ⟨S_, .i1⟩
  | 60 => ⟨S4x2x4096, .i1⟩
  | 61 => ⟨S4x2x4096x4, .f32⟩
  | 62 => ⟨S4x2x4096x4, .i1⟩
  | 63 => ⟨S_, .f32⟩
  | 64 => ⟨S4x2x4096x4, .f32⟩
  | 65 => ⟨S4x2x4096x4, .f32⟩
  | 66 => ⟨S4x2x4096x1, .f32⟩
  | 67 => ⟨S4x2x4096, .f32⟩
  | 68 => ⟨S_, .f32⟩
  | 69 => ⟨S4x2x4096, .f32⟩
  | 70 => ⟨S4x2x4096, .i1⟩
  | 71 => ⟨S4x2x4096x1, .f32⟩
  | 72 => ⟨S4x2x4096, .f32⟩
  | 73 => ⟨S_, .f32⟩
  | 74 => ⟨S4x2x4096, .f32⟩
  | 75 => ⟨S4x2x4096, .i1⟩
  | 76 => ⟨S4x2x4096x3, .f32⟩
  | 77 => ⟨S4x2x4096x3, .f32⟩
  | 78 => ⟨S4x2x4096x1x3, .f32⟩
  | 79 => ⟨S4x2x1x4096x3, .f32⟩
  | 80 => ⟨S4x2x4096x4096x3, .f32⟩
  | 81 => ⟨S4x2x4096x4096x3, .f32⟩
  | 82 => ⟨S4x2x4096x4096x3, .f32⟩
  | 83 => ⟨S4x2x4096x4096x3, .f32⟩
  | 84 => ⟨S_, .f32⟩
  | 85 => ⟨S4x2x4096x4096, .f32⟩
  | 86 => ⟨S_, .i1⟩
  | 87 => ⟨S4096x4096, .i1⟩
  | 88 => ⟨S4096x4096, .i32⟩
  | 89 => ⟨S_, .i32⟩
  | 90 => ⟨S4096x4096, .i32⟩
  | 91 => ⟨S4096x4096, .i32⟩
  | 92 => ⟨S4096x4096, .i32⟩
  | 93 => ⟨S4096x4096, .i1⟩
  | 94 => ⟨S_, .i1⟩
  | 95 => ⟨S4096x4096, .i1⟩
  | 96 => ⟨S4096x4096, .i1⟩
  | 97 => ⟨S1x2x1x1, .f32⟩
  | 98 => ⟨S4x2x4096x4096, .f32⟩
  | 99 => ⟨S4x2x4096x4096, .i1⟩
  | 100 => ⟨S1x1x4096x4096, .i1⟩
  | 101 => ⟨S4x2x4096x4096, .i1⟩
  | 102 => ⟨S4x2x4096x4096, .i1⟩
  | 103 => ⟨S4x2x4096x1, .i1⟩
  | 104 => ⟨S4x2x4096x4096, .i1⟩
  | 105 => ⟨S4x2x4096x4096, .i1⟩
  | 106 => ⟨S4x2x1x4096, .i1⟩
  | 107 => ⟨S4x2x4096x4096, .i1⟩
  | 108 => ⟨S4x2x4096x4096, .i1⟩
  | 109 => ⟨S4x2x4096x4096, .f32⟩
  | 110 => ⟨S_, .f32⟩
  | 111 => ⟨S4x2x4096, .f32⟩
  | 112 => ⟨S_, .f32⟩
  | 113 => ⟨S4x2x4096, .f32⟩
  | 114 => ⟨S4x2x4096, .i1⟩
  | 115 => ⟨S4x2x4096, .f32⟩
  | 116 => ⟨S4x2x4096, .f32⟩
  | 117 => ⟨S4x2x4096, .f32⟩
  | 118 => ⟨S_, .f32⟩
  | 119 => ⟨S4x2x4096, .f32⟩
  | 120 => ⟨S4x2x4096, .i1⟩
  | 121 => ⟨S4x2x4096, .i1⟩
  | 122 => ⟨S4x2x4096x3, .f32⟩
  | 123 => ⟨S4x2x4096x3, .f32⟩
  | 124 => ⟨S4x2x4096x1x3, .f32⟩
  | 125 => ⟨S4x2x1x4096x3, .f32⟩
  | 126 => ⟨S4x2x4096x4096x3, .f32⟩
  | 127 => ⟨S4x2x4096x4096x3, .f32⟩
  | _ => ⟨S4x8x4x32x32, .f32⟩

abbrev hbmTy0_1 (i : Nat) : BufTy := match i % 128 with
  | 0 => ⟨S4x2x4096x4096x3, .f32⟩
  | 1 => ⟨S4x2x4096x4096x3, .f32⟩
  | 2 => ⟨S_, .f32⟩
  | 3 => ⟨S4x2x4096x4096, .f32⟩
  | 4 => ⟨S_, .f32⟩
  | 5 => ⟨S4x2x4096x4096, .f32⟩
  | 6 => ⟨S4x2x4096x4096, .i1⟩
  | 7 => ⟨S4x2x4096x1, .i1⟩
  | 8 => ⟨S4x2x4096x4096, .i1⟩
  | 9 => ⟨S4x2x4096x4096, .i1⟩
  | 10 => ⟨S4x2x1x4096, .i1⟩
  | 11 => ⟨S4x2x4096x4096, .i1⟩
  | 12 => ⟨S4x2x4096x4096, .i1⟩
  | 13 => ⟨S_, .i1⟩
  | 14 => ⟨S4x2x4096, .i1⟩
  | 15 => ⟨S_, .i1⟩
  | 16 => ⟨S4x2x4096, .i1⟩
  | 17 => ⟨S4x2x4096, .i1⟩
  | 18 => ⟨S4x2x4096, .i32⟩
  | 19 => ⟨S_, .i32⟩
  | 20 => ⟨S4x2, .i32⟩
  | 21 => ⟨S4x2x4096, .i1⟩
  | 22 => ⟨S4x2x4096, .i1⟩
  | 23 => ⟨S4x2x4096, .i32⟩
  | 24 => ⟨S_, .i32⟩
  | 25 => ⟨S4x2, .i32⟩
  | 26 => ⟨S4x2x4096, .i1⟩
  | 27 => ⟨S4x2x4096, .i1⟩
  | 28 => ⟨S4x2x4096, .i32⟩
  | 29 => ⟨S_, .i32⟩
  | 30 => ⟨S4x2, .i32⟩
  | 31 => ⟨S4x2x1, .i32⟩
  | 32 => ⟨S4x2x1, .i32⟩
  | 33 => ⟨S4x2x1, .i32⟩
  | 34 => ⟨S4x2x3, .i32⟩
  | 35 => ⟨S4x2x3, .f32⟩
  | _ => ⟨S4x8x4x32x32, .f32⟩

abbrev hbmTy (i : Nat) : BufTy := match i / 128 with
  | 0 => hbmTy0_0 i
  | 1 => hbmTy0_1 i
  | _ => ⟨S4x8x4x32x32, .f32⟩

abbrev bufTy : (tb : Table) → Fin (tcTables nBuf tb) → BufTy
  | .hbm, ⟨i, _⟩ => hbmTy i
  | _, _ => ⟨S4x8x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1_0 : Ref sig .tc := ⟨.hbm, 41, rfl⟩
abbrev main_v35 : Ref sig .tc := ⟨.hbm, 42, rfl⟩
abbrev main_v36 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_c_2 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_c_3 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_2 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_3 : Ref sig .tc := ⟨.hbm, 84, rfl⟩
abbrev main_v54 : Ref sig .tc := ⟨.hbm, 85, rfl⟩
abbrev main_c_4 : Ref sig .tc := ⟨.hbm, 86, rfl⟩
abbrev main_v55 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_0 : Ref sig .tc := ⟨.hbm, 94, rfl⟩
abbrev main_call2_v5 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_5 : Ref sig .tc := ⟨.hbm, 110, rfl⟩
abbrev main_v70 : Ref sig .tc := ⟨.hbm, 111, rfl⟩
abbrev main_cst_6 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_7 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_8 : Ref sig .tc := ⟨.hbm, 130, rfl⟩
abbrev main_v87 : Ref sig .tc := ⟨.hbm, 131, rfl⟩
abbrev main_cst_9 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_10 : Ref sig .tc := ⟨.hbm, 141, rfl⟩
abbrev main_v96 : Ref sig .tc := ⟨.hbm, 142, rfl⟩
abbrev main_c_11 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_12 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c_13 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_c_14 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩

abbrev nD : Nat := 1
abbrev τ : Topo := Topo.v7x

variable {F : FTy → Type} [FloatOps F]
-- ==== Proof.BodyIdeal.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s buffer on core `c`, held at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The body run once: what it leaves in the result's buffer, found by the run as a function of the inputs' contents
    and of what the six scratch buffers held at the start. -/
def kernelRun (c : Dev nD)
    (M0 : Memref sig .tc .vmem S8x4x40x384 .f32) (h0 : M0.IsWhole) (M1 : Memref sig .tc .vmem S8x4x40x384 .f32) (h1 : M1.IsWhole)
    (M2 : Memref sig .tc .vmem S8x128 .f32) (h2 : M2.IsWhole) (M3 : Memref sig .tc .vmem S8x5x8x40x384 .f32) (h3 : M3.IsWhole)
    (M4 : Memref sig .tc .vmem S8x40x384 .f32) (h4 : M4.IsWhole) (M5 : Memref sig .tc .vmem S8x40x384 .f32) (h5 : M5.IsWhole)
    (M6 : Memref sig .tc .vmem S5x8x40x384 .f32) (h6 : M6.IsWhole) (M7 : Memref sig .tc .vmem S5x8x40x384 .f32) (h7 : M7.IsWhole)
    (M8 : Memref sig .tc .vmem S5x8x32x128 .i32) (h8 : M8.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) :
    { W : Bf (F := F) c M2 //
      ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8
          ∗ (iprop(pt c M0 f0 ∗ pt c M1 f1 ∗ pt c M2 W
                ∗ (∃ f, pt c M3 f) ∗ (∃ f, pt c M4 f) ∗ (∃ f, pt c M5 f) ∗ (∃ f, pt c M6 f) ∗ (∃ f, pt c M7 f) ∗ (∃ f, pt c M8 f)) -∗ Q ⟨⟩))
        ⊢ wp frame (wpE (defs₀ (F := F)) Variants.none c none) E
            (cc0__nms_kernel M0 h0 M1 h1 M2 h2 M3 h3 M4 h4 M5 h5 M6 h6 M7 h7 M8 h8) Q } := by
  refine ⟨?_, fun E Q => ?run⟩
  case run =>
    iintro ⟨H0, H1, H2, H3, H4, H5, H6, H7, H8, Hk⟩
    sl_exec_parts!
    sl_step
    iapply Hk
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.KernelIdeal.Body

end
-- ==== Proof.FrameIdeal.lean ====
module

public import proofs.«01_k».proof.Proof.BodyIdeal
public import proofs.«01_k».proof.Proof.Gen.KernelIdeal.Launch
public import proofs.«01_k».proof.Proof.Gen.KernelIdeal.Points

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; the inputs' buffers left at their blocks, the result's at the
    named block `G`; the scratch buffers and the generator register held at something; nothing owed. -/
def dats (G : Dev nD → Vec F S8x128 .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => G c
  Φ _ := Pipeline.ΦA spec0 c
  q _ := fullShare
  owed _ := 0

variable (G : Dev nD → Vec F S8x128 .f32)

/-- The first input's window holds its block after the region. -/
theorem after0_0 (c : Dev nD) (t : Fin cfg0.N) : (dats m G 0 c).after 0 t = iblk m c 0 t := by dsimp only [dats]

/-- The second input's window holds its block after the region. -/
theorem after0_1 (c : Dev nD) (t : Fin cfg0.N) : (dats m G 0 c).after 1 t = iblk m c 1 t := by dsimp only [dats]

/-- The result's window holds what the body left after the region. -/
theorem after0_2 (c : Dev nD) (t : Fin cfg0.N) : (dats m G 0 c).after 2 t = G c := by dsimp only [dats]

/-- The first input's staging buffer holds its block when the body runs. -/
theorem before0_0 (c : Dev nD) (t : Fin cfg0.N) (d) : (dats m G 0 c).before 0 t d = iblk m c 0 t :=
  before0_0_of m (dats m G 0 c) rfl (after0_0 m G c) t d
/-- The second input's staging buffer holds its block when the body runs. -/
theorem before0_1 (c : Dev nD) (t : Fin cfg0.N) (d) : (dats m G 0 c).before 1 t d = iblk m c 1 t :=
  before0_1_of m (dats m G 0 c) rfl (after0_1 m G c) t d

/-- What the body's run leaves in the result's staging buffer, read as a block. -/
def left (c : Dev nD) (x0 x1 : Vec F S8x4x40x384 .f32) (f2 : Bf (F := F) c (stage0_2 0)) (f3 : Bf (F := F) c (Memref.whole cc0_scratch0)) (f4 : Bf (F := F) c (Memref.whole cc0_scratch1))
    (f5 : Bf (F := F) c (Memref.whole cc0_scratch2)) (f6 : Bf (F := F) c (Memref.whole cc0_scratch3)) (f7 : Bf (F := F) c (Memref.whole cc0_scratch4))
    (f8 : Bf (F := F) c (Memref.whole cc0_scratch5)) : Vec F S8x128 .f32 :=
  (stage0_2 0).view.read (Elt F)
    (kernelRun c (stage0_0 0) (hstage0_0 0) (stage0_1 0) (hstage0_1 0) (stage0_2 0) (hstage0_2 0)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      ((hstage0_0 0).unread x0) ((hstage0_1 0).unread x1) f2 f3 f4 f5 f6 f7 f8).1

/-- The body at the one point: from the inputs' blocks and the rest at anything, the result's buffer ends at what the
    run leaves for some entry contents of the result's and the scratch buffers. -/
theorem body_run (c : Dev nD) (x0 x1 : Vec F S8x4x40x384 .f32) (K : PUnit → sProp 𝕄) :
    iprop(Pipeline.ΦA spec0 c ∗ owns (c : Thread nD τ) (stage0_0 0) fullShare x0 ∗ owns (c : Thread nD τ) (stage0_1 0) fullShare x1 ∗ (∃ d, owns (c : Thread nD τ) (stage0_2 0) fullShare d)
      ∗ (iprop(Pipeline.ΦA spec0 c ∗ owns (c : Thread nD τ) (stage0_0 0) fullShare x0 ∗ owns (c : Thread nD τ) (stage0_1 0) fullShare x1
          ∗ (∃ f2 f3 f4 f5 f6 f7 f8, owns (c : Thread nD τ) (stage0_2 0) fullShare (left c x0 x1 f2 f3 f4 f5 f6 f7 f8))) -∗ K ⟨⟩))
      ⊢ wp frame (wpE (defs₀ (F := F)) Variants.none c none) Set.univ (bodyAt0 (F := F) t0_0) K := by
  unfold owns Pipeline.ΦA
  rw [scopedRest0_eq]
  iintro ⟨⟨⟨⟨%f3, H3⟩, ⟨%f4, H4⟩, ⟨%f5, H5⟩, ⟨%f6, H6⟩, ⟨%f7, H7⟩, ⟨%f8, H8⟩⟩, Hg⟩, ⟨%f0, %hf0, H0⟩, ⟨%f1, %hf1, H1⟩, ⟨%d2, %f2, -, H2⟩, Hk⟩
  obtain rfl := (hstage0_0 0).eq_unread hf0; obtain rfl := (hstage0_1 0).eq_unread hf1
  iapply ((kernelRun c (stage0_0 0) (hstage0_0 0) (stage0_1 0) (hstage0_1 0) (stage0_2 0) (hstage0_2 0)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      ((hstage0_0 0).unread x0) ((hstage0_1 0).unread x1) f2 f3 f4 f5 f6 f7 f8).2 Set.univ _)
  simp only [pt, Memref.view_whole, View.set_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply Hk
  isplitl [H3 H4 H5 H6 H7 H8 Hg]
  · isplitr [Hg]
    · isplitl [H3]; · iexact H3
      isplitl [H4]; · iexact H4
      isplitl [H5]; · iexact H5
      isplitl [H6]; · iexact H6
      isplitl [H7]; · iexact H7
      iexact H8
    · iexact Hg
  isplitl [H0]
  · iexists _; isplitr; swap; (· iexact H0); ipureintro; exact (hstage0_0 0).read_unread _
  isplitl [H1]
  · iexists _; isplitr; swap; (· iexact H1); ipureintro; exact (hstage0_1 0).read_unread _
  iexists f2, f3, f4, f5, f6, f7, f8, _
  isplitr; swap; (· iexact H2); ipureintro; rfl

/-- The grid has one step only. -/
theorem slot_eq (t : Fin cfg0.N) : t = t0_0 := fin_N0 t

/-- Which window's contents the frame says nothing of: the result's. -/
def fgt : Fin cfg0.W → Bool := fun | ⟨2, _⟩ => true | _ => false

/-- The library's body obligation, the result's window forgotten. -/
theorem body_forget (c : Dev nD) : BodyObligationLoose (dats (F := F) m G 0 c) (defs₀ (F := F)) Variants.none () Set.univ fgt := fun t => by
  obtain rfl := slot_eq t
  rw [bigSep_W0, bigSep_W0]
  sl_whnfR [defs₀, Defs.onTc]
  simp only [before0_0, before0_1, show fgt (0 : Fin 3) = false from rfl, show fgt (1 : Fin 3) = false from rfl, show fgt (2 : Fin 3) = true from rfl]
  rw [show (dats m G 0 c).Φ t0_0.succ = Pipeline.ΦA spec0 c from rfl, show (dats m G 0 c).Φ t0_0.castSucc = Pipeline.ΦA spec0 c from rfl,
    show (dats m G 0 c).owesAt () t0_0.succ = (dats m G 0 c).owesAt () t0_0.castSucc from rfl]
  iintro ⟨HΦ, Ho, ⟨%d0, H0⟩, ⟨%d1, H1⟩, ⟨%d2, H2⟩⟩
  iapply (body_run c (iblk m c 0 t0_0) (iblk m c 1 t0_0) _)
  isplitl [HΦ]; · iexact HΦ
  isplitl [H0]; · iexact H0
  isplitl [H1]; · iexact H1
  isplitl [H2]; · iexists _; iexact H2
  iintro ⟨HΦ, H0, H1, ⟨%f2, %f3, %f4, %f5, %f6, %f7, %f8, H2⟩⟩
  isplitl [HΦ]; · iexact HΦ
  isplitl [Ho]; · iexact Ho
  isplitl [H0]; · iexact H0
  isplitl [H1]; · iexact H1
  iexists _; iexact H2

/-- The buffers the host lines after the region write. -/
def tailBufs : Finset (Ref sig .tc) := {main_v9, main_v10, main_v11}

/-- The host lines after the region write no buffers but the listed three. -/
theorem tail_writes : ∀ ops ∈ ([hostOps1] : List (List (HloOp τ sig (Elt F)))), ∀ op ∈ ops, ∀ b : Ref sig .tc,
    Proc.devRef .tc b ∈ op.writes → b ∈ tailBufs := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, StableHlo.reshape_writes, Finset.mem_singleton] at hb
    have := Proc.devRef_injective (τ := τ) (sig := sig) _ hb
    subst this; decide

set_option backward.isDefEq.respectTransparency.types false in
/-- Every run ends, the argument arrays are as they were, every counter is back at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_forget (Q' := _) cfgs (dats m (fun _ _ => FloatOps.ofBits .f32 0#32)) (0 : Fin 1) launch0 defs₀ Variants.none fgt tailBufs m ρ main
    (hbody := fun c => body_forget m _ c) (hshare := fun c => (dats m _ 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)
    (hQ' := fun r h => ⟨fun c =>
      ⟨((h.1 c).2 main_arg0 (Finset.mem_sdiff.2 ⟨Pipeline.mem_restRefs_of main_arg0 (by decide) (by decide), by decide⟩)).trans (V_main_arg0 m c),
       ((h.1 c).2 main_arg1 (Finset.mem_sdiff.2 ⟨Pipeline.mem_restRefs_of main_arg1 (by decide) (by decide), by decide⟩)).trans (V_main_arg1 m c)⟩, h.2⟩)

end Cert.KernelIdeal.Body

end
-- ==== Proof.Trips.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Trips

open Cert.KernelIdeal Cert.KernelIdeal.Gen
open Idealize.ShloMosaic Idealize.ShloMosaic.TcCoe
open Idealize.SL Idealize.SL.RA Idealize.SL.BI Idealize.SL.Sem

variable {F : FTy → Type} [FloatOps F]

/-- How a neighbour at some shift has to compare with the centre: at least, greater, or greater with equality
    allowed where the neighbour's place (32 times the row shift, plus this word) is earlier. -/
inductive Cmp where
  | ge
  | gt
  | tie (dy : BitVec 32)

/-- A shift: the first lane of the window (128 for no shift) and its comparison. -/
abbrev Sh := Fin 257 × Cmp

/-- The comparison of a window of confidences with those of the centres. -/
def rank (dxi : BitVec 32) (cs conf : FVec F S4x32x128 .f32) : Cmp → IVec S4x32x128 1
  | .ge => cmpf .oge cs conf
  | .gt => cmpf .ogt cs conf
  | .tie dy => ori (cmpf .ogt cs conf) (andi (cmpf .oeq cs conf) (broadcast S4x32x128
      (Scalar.cmpi .slt (Scalar.addi (Scalar.muli (Scalar.subi dxi 2#32) 32#32) dy) 0#32)))

/-- The squared distance between a window of places and the centres. -/
def dist2 (s1 s2 s3 cz cx cy : FVec F S4x32x128 .f32) : FVec F S4x32x128 .f32 :=
  addf (addf (mulf (subf s1 cz) (subf s1 cz)) (mulf (subf s2 cx) (subf s2 cx))) (mulf (subf s3 cy) (subf s3 cy))

/-- A window of the stored planes lies within their buffer. -/
theorem inb5 {c d g : ℕ} (o : Fin 257) (hc : c < 8) (hd : d < 5) (hg : g ≤ 4) :
    ∀ a, (![c, d, g, 4, o.val] : Fin 5 → ℕ) a + S1x1x4x32x128.size a ≤ S8x5x8x40x384.size a := by
  have := o.isLt
  intro a
  fin_cases a
  · show c + 1 ≤ 8; omega
  · show d + 1 ≤ 5; omega
  · show g + 4 ≤ 8; omega
  · show 4 + 32 ≤ 40; omega
  · show o.val + 128 ≤ 384; omega

/-- A window of the stored copies of one plane lies within their buffer. -/
theorem inb4 {d g : ℕ} (o : Fin 257) (hd : d < 5) (hg : g ≤ 4) :
    ∀ a, (![d, g, 4, o.val] : Fin 4 → ℕ) a + S1x4x32x128.size a ≤ S5x8x40x384.size a := by
  have := o.isLt
  intro a
  fin_cases a
  · show d + 1 ≤ 5; omega
  · show g + 4 ≤ 8; omega
  · show 4 + 32 ≤ 40; omega
  · show o.val + 128 ≤ 384; omega

/-- A window of the stored words lies within their buffer. -/
theorem inb8 {d g : ℕ} (hd : d < 5) (hg : g ≤ 4) :
    ∀ a, (![d, g, 0, 0] : Fin 4 → ℕ) a + S1x4x32x128.size a ≤ S5x8x32x128.size a := by
  intro a
  fin_cases a
  · show d + 1 ≤ 5; omega
  · show g + 4 ≤ 8; omega
  · show 0 + 32 ≤ 32; omega
  · show 0 + 128 ≤ 128; omega

/-- A window of channel `c` of the stored planes. -/
def win (M : Memref sig .tc .vmem S8x5x8x40x384 .f32) (X : BufTy.Contents (Elt F) M.view.ty) (c d g : ℕ)
    (hc : c < 8) (hd : d < 5) (hg : g ≤ 4) (o : Fin 257) : FVec F S4x32x128 .f32 :=
  shapeCast S4x32x128 (View.readAt (Elt F) M.view
    (Rect.unit (s := S8x5x8x40x384) ![c, d, g, 4, o.val] S1x1x4x32x128.size (inb5 o hc hd hg)).toLoadRect X)
    shapeCasts_S1x1x4x32x128_S4x32x128

/-- A window of one stored plane. -/
def win1 (M : Memref sig .tc .vmem S5x8x40x384 .f32) (X : BufTy.Contents (Elt F) M.view.ty) (d g : ℕ)
    (hd : d < 5) (hg : g ≤ 4) (o : Fin 257) : FVec F S4x32x128 .f32 :=
  shapeCast S4x32x128 (View.readAt (Elt F) M.view
    (Rect.unit (s := S5x8x40x384) ![d, g, 4, o.val] S1x4x32x128.size (inb4 o hd hg)).toLoadRect X)
    shapeCasts_S1x4x32x128_S4x32x128

/-- The stored words. -/
def wbits (M : Memref sig .tc .vmem S5x8x32x128 .i32) (X : BufTy.Contents (Elt F) M.view.ty) (d g : ℕ)
    (hd : d < 5) (hg : g ≤ 4) : IVec S4x32x128 32 :=
  shapeCast S4x32x128 (View.readAt (Elt F) M.view
    (Rect.unit (s := S5x8x32x128) ![d, g, 0, 0] S1x4x32x128.size (inb8 hd hg)).toLoadRect X)
    shapeCasts_S1x4x32x128_S4x32x128

/-- The test of the first pass at one shift: near enough, before the centre, and confident. -/
def hit (M : Memref sig .tc .vmem S8x5x8x40x384 .f32) (X : BufTy.Contents (Elt F) M.view.ty)
    (thr : F .f32) (conf cz cx cy : FVec F S4x32x128 .f32) (dxi : BitVec 32) (d g : ℕ) (hd : d < 5) (hg : g ≤ 4)
    (s : Sh) : IVec S4x32x128 1 :=
  andi (andi (cmpf .olt (dist2 (win M X 1 d g (by decide) hd hg s.1) (win M X 2 d g (by decide) hd hg s.1)
        (win M X 3 d g (by decide) hd hg s.1) cz cx cy) (broadcast S4x32x128 thr))
      (rank dxi (win M X 0 d g (by decide) hd hg s.1) conf s.2))
    (cmpf .ogt (win M X 0 d g (by decide) hd hg s.1) (broadcast S4x32x128 (Scalar.ofBits .f32 0x3F333333#32)))

/-- The test of the second pass at one shift: the shift's bit is set and the stored plane is zero there. -/
def hit2 (M : Memref sig .tc .vmem S5x8x40x384 .f32) (X : BufTy.Contents (Elt F) M.view.ty)
    (bits : IVec S4x32x128 32) (d g : ℕ) (hd : d < 5) (hg : g ≤ 4) (w : BitVec 32) (o : Fin 257) :
    IVec S4x32x128 1 :=
  andi (cmpi .ne (andi bits (broadcast S4x32x128 w)) (broadcast S4x32x128 0#32))
    (cmpf .oeq (win1 M X d g hd hg o) (broadcast S4x32x128 (Scalar.ofBits .f32 0x00000000#32)))

/-- The running maximum, as numbers 0 and 1, of a list of tests. -/
def maxV (m : FVec F S4x32x128 .f32) : List (IVec S4x32x128 1) → FVec F S4x32x128 .f32
  | [] => m
  | t :: l => maxV (maximumf m (sitofp .f32 (extui 32 t natLt_1_32))) l

/-- The words collecting a list of tests, each in a bit of its own. -/
def orV (m : IVec S4x32x128 32) : List (BitVec 32 × IVec S4x32x128 1) → IVec S4x32x128 32
  | [] => m
  | t :: l => orV (ori m (select t.2 (broadcast S4x32x128 t.1) (broadcast S4x32x128 0#32))) l

/-- A list of shifts with the bit of each. -/
def bitsOf : ℕ → List Sh → List (BitVec 32 × Sh)
  | _, [] => []
  | j, s :: l => (BitVec.ofNat 32 (2 ^ j), s) :: bitsOf (j + 1) l

/-- The plane of zeros the passes start from. -/
def zeroV : FVec F S4x32x128 .f32 := broadcast S4x32x128 (Scalar.ofBits .f32 0x00000000#32)

/-- The nine shifts by at most one layer and one column. -/
def shifts9 : List Sh :=
  [(95, .ge), (96, .ge), (97, .ge), (127, .tie 4294967295#32), (128, .tie 0#32), (129, .tie 1#32),
   (159, .gt), (160, .gt), (161, .gt)]

/-- The twenty-one shifts by at most two layers and two columns without the corners. -/
def shifts21 : List Sh :=
  [(63, .ge), (64, .ge), (65, .ge),
   (94, .ge), (95, .ge), (96, .ge), (97, .ge), (98, .ge),
   (126, .tie 4294967294#32), (127, .tie 4294967295#32), (128, .tie 0#32), (129, .tie 1#32), (130, .tie 2#32),
   (158, .gt), (159, .gt), (160, .gt), (161, .gt), (162, .gt),
   (191, .gt), (192, .gt), (193, .gt)]

/-- The first test of the matching at one shift: a place near the target's, at a kept prediction. -/
def near1 (M : Memref sig .tc .vmem S8x5x8x40x384 .f32) (X : BufTy.Contents (Elt F) M.view.ty)
    (N : Memref sig .tc .vmem S5x8x40x384 .f32) (Y : BufTy.Contents (Elt F) N.view.ty)
    (cz cx cy : FVec F S4x32x128 .f32) (d g : ℕ) (hd : d < 5) (hg : g ≤ 4)
    (o : Fin 257) : IVec S4x32x128 1 :=
  andi (cmpf .olt (dist2 (win M X 1 d g (by decide) hd hg o) (win M X 2 d g (by decide) hd hg o)
        (win M X 3 d g (by decide) hd hg o) cz cx cy) (broadcast S4x32x128 (Scalar.ofBits .f32 0x3E800000#32)))
    (cmpf .one (win1 N Y d g hd hg o) (broadcast S4x32x128 (Scalar.ofBits .f32 0x00000000#32)))

/-- The second test of the matching at one shift: a place near the prediction's, at a confident target. -/
def near2 (M : Memref sig .tc .vmem S8x5x8x40x384 .f32) (X : BufTy.Contents (Elt F) M.view.ty)
    (cz cx cy : FVec F S4x32x128 .f32) (d g : ℕ) (hd : d < 5) (hg : g ≤ 4)
    (o : Fin 257) : IVec S4x32x128 1 :=
  andi (cmpf .olt (dist2 (win M X 5 d g (by decide) hd hg o) (win M X 6 d g (by decide) hd hg o)
        (win M X 7 d g (by decide) hd hg o) cz cx cy) (broadcast S4x32x128 (Scalar.ofBits .f32 0x3E800000#32)))
    (cmpf .ogt (win M X 4 d g (by decide) hd hg o) (broadcast S4x32x128 (Scalar.ofBits .f32 0x3F000000#32)))

variable {𝒱 : Variants} {c : Dev nD} {bd : Option 𝒱.V} {arg0 : Memref sig .tc .vmem S8x4x40x384 .f32} {harg0 : arg0.IsWhole} {arg1 : Memref sig .tc .vmem S8x4x40x384 .f32} {harg1 : arg1.IsWhole} {arg2 : Memref sig .tc .vmem S8x128 .f32} {harg2 : arg2.IsWhole} {arg3 : Memref sig .tc .vmem S8x5x8x40x384 .f32} {harg3 : arg3.IsWhole} {arg4 : Memref sig .tc .vmem S8x40x384 .f32} {harg4 : arg4.IsWhole} {arg5 : Memref sig .tc .vmem S8x40x384 .f32} {harg5 : arg5.IsWhole} {arg6 : Memref sig .tc .vmem S5x8x40x384 .f32} {harg6 : arg6.IsWhole} {arg7 : Memref sig .tc .vmem S5x8x40x384 .f32} {harg7 : arg7.IsWhole} {arg8 : Memref sig .tc .vmem S5x8x32x128 .i32} {harg8 : arg8.IsWhole}

/-- The row shift (plus two) of trip `k`, as a word. -/
def dx1 (k : Fin k0_t1_loop.trips) : BitVec 32 := (Scf.iv 1#32 1#32 k.val)

/-- The row shift of each trip names one of the five stored planes. -/
theorem dx1_lt : ∀ k, (Scalar.indexCast (dx1 k)).toNat < 5 := by decide

/-- The row shift (plus two) of trip `k`, as a word. -/
def dx2 (k : Fin k0_t2_loop.trips) : BitVec 32 := (Scalar.muli (Scf.iv 0#32 1#32 k.val) 4#32)

/-- The row shift of each trip names one of the five stored planes. -/
theorem dx2_lt : ∀ k, (Scalar.indexCast (dx2 k)).toNat < 5 := by decide

/-- The row shift (plus two) of trip `k`, as a word. -/
def dx3 (k : Fin k0_t3_loop.trips) : BitVec 32 := (Scf.iv 1#32 1#32 k.val)

/-- The row shift of each trip names one of the five stored planes. -/
theorem dx3_lt : ∀ k, (Scalar.indexCast (dx3 k)).toNat < 5 := by decide

/-- The row shift (plus two) of trip `k`, as a word. -/
def dx4 (k : Fin k0_t4_loop.trips) : BitVec 32 := (Scf.iv 1#32 1#32 k.val)

/-- The row shift of each trip names one of the five stored planes. -/
theorem dx4_lt : ∀ k, (Scalar.indexCast (dx4 k)).toNat < 5 := by decide

/-- The row shift (plus two) of trip `k`, as a word. -/
def dx5 (k : Fin k0_t5_loop.trips) : BitVec 32 := (Scalar.muli (Scf.iv 0#32 1#32 k.val) 4#32)

/-- The row shift of each trip names one of the five stored planes. -/
theorem dx5_lt : ∀ k, (Scalar.indexCast (dx5 k)).toNat < 5 := by decide

/-- The row shift (plus two) of trip `k`, as a word. -/
def dx6 (k : Fin k0_t6_loop.trips) : BitVec 32 := (Scf.iv 1#32 1#32 k.val)

/-- The row shift of each trip names one of the five stored planes. -/
theorem dx6_lt : ∀ k, (Scalar.indexCast (dx6 k)).toNat < 5 := by decide

/-- The row shift (plus two) of trip `k`, as a word. -/
def dx7 (k : Fin k0_t7_loop.trips) : BitVec 32 := (Scalar.addi (Scf.iv 0#32 1#32 k.val) 1#32)

/-- The row shift of each trip names one of the five stored planes. -/
theorem dx7_lt : ∀ k, (Scalar.indexCast (dx7 k)).toNat < 5 := by decide

/-- The row shift (plus two) of trip `k`, as a word. -/
def dx8 (k : Fin k0_t8_loop.trips) : BitVec 32 := (Scalar.addi (Scf.iv 0#32 1#32 k.val) 1#32)

/-- The row shift of each trip names one of the five stored planes. -/
theorem dx8_lt : ∀ k, (Scalar.indexCast (dx8 k)).toNat < 5 := by decide

set_option maxHeartbeats 4000000 in
/-- What a trip of loop 1 carries on: the running maximum with its shifts' tests taken in. -/
theorem t1_max (v55 : FVec F S8x40x384 .f32) (v62 : FVec F S8x40x384 .f32) (v69 : FVec F S8x40x384 .f32) (v76 : FVec F S8x40x384 .f32) (v78 : FVec F S8x40x384 .f32) (v85 : FVec F S8x40x384 .f32) (v92 : FVec F S8x40x384 .f32) (v99 : FVec F S8x40x384 .f32) (v228 : FVec F S8x40x384 .f32) (cst_210 : F .f32) (X_arg3 : BufTy.Contents (Elt F) arg3.view.ty) (k : Fin k0_t1_loop.trips) (acc : FVec F S4x32x128 .f32) :
    (trip_k0_t1 (F := F) 𝒱 c bd arg0 harg0 arg1 harg1 arg2 harg2 arg3 harg3 arg4 harg4 arg5 harg5 arg6 harg6 arg7 harg7 arg8 harg8 v55 v62 v69 v76 v78 v85 v92 v99 v228 cst_210 X_arg3 k).1 acc
      = maximumf acc (maxV zeroV (shifts21.map (hit arg3 X_arg3 cst_210 (k0_pay308 v55) (k0_pay309 v62) (k0_pay310 v69) (k0_pay311 v76) (dx1 k) (Scalar.indexCast (dx1 k)).toNat 0 (dx1_lt k) (by decide)))) := by
  delta trip_k0_t1
  with_unfolding_all rfl

set_option maxHeartbeats 4000000 in
/-- What a trip of loop 1 stores: the words of its shifts' tests. -/
theorem t1_bits (v55 : FVec F S8x40x384 .f32) (v62 : FVec F S8x40x384 .f32) (v69 : FVec F S8x40x384 .f32) (v76 : FVec F S8x40x384 .f32) (v78 : FVec F S8x40x384 .f32) (v85 : FVec F S8x40x384 .f32) (v92 : FVec F S8x40x384 .f32) (v99 : FVec F S8x40x384 .f32) (v228 : FVec F S8x40x384 .f32) (cst_210 : F .f32) (X_arg3 : BufTy.Contents (Elt F) arg3.view.ty) (k : Fin k0_t1_loop.trips) (acc : FVec F S4x32x128 .f32) :
    (trip_k0_t1 (F := F) 𝒱 c bd arg0 harg0 arg1 harg1 arg2 harg2 arg3 harg3 arg4 harg4 arg5 harg5 arg6 harg6 arg7 harg7 arg8 harg8 v55 v62 v69 v76 v78 v85 v92 v99 v228 cst_210 X_arg3 k).2.1 acc
      = [⟨Rect.unit (s := S5x8x32x128) ![(Scalar.indexCast (dx1 k)).toNat, 0, 0, 0] S1x4x32x128.size (inb8 (dx1_lt k) (by decide)),
          shapeCast S1x4x32x128 (orV (broadcast S4x32x128 0#32) ((bitsOf 0 shifts21).map fun s => (s.1,
            hit arg3 X_arg3 cst_210 (k0_pay308 v55) (k0_pay309 v62) (k0_pay310 v69) (k0_pay311 v76) (dx1 k) (Scalar.indexCast (dx1 k)).toNat 0 (dx1_lt k) (by decide) s.2))) shapeCasts_S4x32x128_S1x4x32x128⟩] := by
  delta trip_k0_t1
  with_unfolding_all rfl

set_option maxHeartbeats 4000000 in
/-- What a trip of loop 2 carries on: the running maximum with its shifts' tests taken in. -/
theorem t2_max (v237 : FVec F S4x32x128 .f32) (v239 : FVec F S4x32x128 .f32) (v241 : FVec F S4x32x128 .f32) (v243 : FVec F S4x32x128 .f32) (v253 : FVec F S4x32x128 .f32) (v255 : FVec F S4x32x128 .f32) (v257 : FVec F S4x32x128 .f32) (v259 : FVec F S4x32x128 .f32) (v271 : FVec F S4x32x128 .f32) (v274 : FVec F S4x32x128 .f32) (cst_214 : F .f32) (X_arg3 : BufTy.Contents (Elt F) arg3.view.ty) (k : Fin k0_t2_loop.trips) (acc : FVec F S4x32x128 .f32) :
    (trip_k0_t2 (F := F) 𝒱 c bd arg0 harg0 arg1 harg1 arg2 harg2 arg3 harg3 arg4 harg4 arg5 harg5 arg6 harg6 arg7 harg7 arg8 harg8 v237 v239 v241 v243 v253 v255 v257 v259 v271 v274 cst_214 X_arg3 k).1 acc
      = maximumf acc (maxV zeroV (shifts9.map (hit arg3 X_arg3 cst_214 v237 v239 v241 v243 (dx2 k) (Scalar.indexCast (dx2 k)).toNat 0 (dx2_lt k) (by decide)))) := by
  delta trip_k0_t2
  with_unfolding_all rfl

set_option maxHeartbeats 4000000 in
/-- What a trip of loop 2 stores: the words of its shifts' tests. -/
theorem t2_bits (v237 : FVec F S4x32x128 .f32) (v239 : FVec F S4x32x128 .f32) (v241 : FVec F S4x32x128 .f32) (v243 : FVec F S4x32x128 .f32) (v253 : FVec F S4x32x128 .f32) (v255 : FVec F S4x32x128 .f32) (v257 : FVec F S4x32x128 .f32) (v259 : FVec F S4x32x128 .f32) (v271 : FVec F S4x32x128 .f32) (v274 : FVec F S4x32x128 .f32) (cst_214 : F .f32) (X_arg3 : BufTy.Contents (Elt F) arg3.view.ty) (k : Fin k0_t2_loop.trips) (acc : FVec F S4x32x128 .f32) :
    (trip_k0_t2 (F := F) 𝒱 c bd arg0 harg0 arg1 harg1 arg2 harg2 arg3 harg3 arg4 harg4 arg5 harg5 arg6 harg6 arg7 harg7 arg8 harg8 v237 v239 v241 v243 v253 v255 v257 v259 v271 v274 cst_214 X_arg3 k).2.1 acc
      = [⟨Rect.unit (s := S5x8x32x128) ![(Scalar.indexCast (dx2 k)).toNat, 0, 0, 0] S1x4x32x128.size (inb8 (dx2_lt k) (by decide)),
          shapeCast S1x4x32x128 (orV (broadcast S4x32x128 0#32) ((bitsOf 0 shifts9).map fun s => (s.1,
            hit arg3 X_arg3 cst_214 v237 v239 v241 v243 (dx2 k) (Scalar.indexCast (dx2 k)).toNat 0 (dx2_lt k) (by decide) s.2))) shapeCasts_S4x32x128_S1x4x32x128⟩] := by
  delta trip_k0_t2
  with_unfolding_all rfl

set_option maxHeartbeats 4000000 in
/-- What a trip of loop 3 carries on: the running maximum with its shifts' tests taken in. -/
theorem t3_max (v237 : FVec F S4x32x128 .f32) (v239 : FVec F S4x32x128 .f32) (v241 : FVec F S4x32x128 .f32) (v243 : FVec F S4x32x128 .f32) (v253 : FVec F S4x32x128 .f32) (v255 : FVec F S4x32x128 .f32) (v257 : FVec F S4x32x128 .f32) (v259 : FVec F S4x32x128 .f32) (v271 : FVec F S4x32x128 .f32) (v274 : FVec F S4x32x128 .f32) (cst_214 : F .f32) (X_arg3 : BufTy.Contents (Elt F) arg3.view.ty) (k : Fin k0_t3_loop.trips) (acc : FVec F S4x32x128 .f32) :
    (trip_k0_t3 (F := F) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 k).1 acc
      = maximumf acc (maxV zeroV (shifts9.map (hit arg3 X_arg3 (Scalar.ofBits .f32 0x3F0BE1F6#32) v253 v255 v257 v259 (dx3 k) (Scalar.indexCast (dx3 k)).toNat 4 (dx3_lt k) (by decide)))) := by
  delta trip_k0_t3
  with_unfolding_all rfl

set_option maxHeartbeats 4000000 in
/-- What a trip of loop 3 stores: the words of its shifts' tests. -/
theorem t3_bits (v237 : FVec F S4x32x128 .f32) (v239 : FVec F S4x32x128 .f32) (v241 : FVec F S4x32x128 .f32) (v243 : FVec F S4x32x128 .f32) (v253 : FVec F S4x32x128 .f32) (v255 : FVec F S4x32x128 .f32) (v257 : FVec F S4x32x128 .f32) (v259 : FVec F S4x32x128 .f32) (v271 : FVec F S4x32x128 .f32) (v274 : FVec F S4x32x128 .f32) (cst_214 : F .f32) (X_arg3 : BufTy.Contents (Elt F) arg3.view.ty) (k : Fin k0_t3_loop.trips) (acc : FVec F S4x32x128 .f32) :
    (trip_k0_t3 (F := F) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 k).2.1 acc
      = [⟨Rect.unit (s := S5x8x32x128) ![(Scalar.indexCast (dx3 k)).toNat, 4, 0, 0] S1x4x32x128.size (inb8 (dx3_lt k) (by decide)),
          shapeCast S1x4x32x128 (orV (broadcast S4x32x128 0#32) ((bitsOf 0 shifts9).map fun s => (s.1,
            hit arg3 X_arg3 (Scalar.ofBits .f32 0x3F0BE1F6#32) v253 v255 v257 v259 (dx3 k) (Scalar.indexCast (dx3 k)).toNat 4 (dx3_lt k) (by decide) s.2))) shapeCasts_S4x32x128_S1x4x32x128⟩] := by
  delta trip_k0_t3
  with_unfolding_all rfl

set_option maxHeartbeats 4000000 in
/-- What a trip of loop 4 carries on: the running maximum with the stored words' tests taken in. -/
theorem t4_max (v269 : IVec S4x32x128 1) (X_arg6 : BufTy.Contents (Elt F) arg6.view.ty) (X_arg8 : BufTy.Contents (Elt F) arg8.view.ty) (k : Fin k0_t4_loop.trips) (acc : FVec F S4x32x128 .f32) :
    (trip_k0_t4 (F := F) 𝒱 c bd arg0 harg0 arg1 harg1 arg2 harg2 arg3 harg3 arg4 harg4 arg5 harg5 arg6 harg6 arg7 harg7 arg8 harg8 v269 X_arg6 X_arg8 k).1 acc
      = maximumf acc (maxV zeroV ((bitsOf 0 shifts21).map fun s =>
          hit2 arg6 X_arg6 (wbits arg8 X_arg8 (Scalar.indexCast (dx4 k)).toNat 0 (dx4_lt k) (by decide)) (Scalar.indexCast (dx4 k)).toNat 0 (dx4_lt k) (by decide) s.1 s.2.1)) := by
  delta trip_k0_t4
  with_unfolding_all rfl

set_option maxHeartbeats 4000000 in
/-- What a trip of loop 5 carries on: the running maximum with the stored words' tests taken in. -/
theorem t5_max (v269 : IVec S4x32x128 1) (X_arg6 : BufTy.Contents (Elt F) arg6.view.ty) (X_arg8 : BufTy.Contents (Elt F) arg8.view.ty) (k : Fin k0_t5_loop.trips) (acc : FVec F S4x32x128 .f32) :
    (trip_k0_t5 (F := F) 𝒱 c bd arg0 harg0 arg1 harg1 arg2 harg2 arg3 harg3 arg4 harg4 arg5 harg5 arg6 harg6 arg7 harg7 arg8 harg8 v269 X_arg6 X_arg8 k).1 acc
      = maximumf acc (maxV zeroV ((bitsOf 0 shifts9).map fun s =>
          hit2 arg6 X_arg6 (wbits arg8 X_arg8 (Scalar.indexCast (dx5 k)).toNat 0 (dx5_lt k) (by decide)) (Scalar.indexCast (dx5 k)).toNat 0 (dx5_lt k) (by decide) s.1 s.2.1)) := by
  delta trip_k0_t5
  with_unfolding_all rfl

set_option maxHeartbeats 4000000 in
/-- What a trip of loop 6 carries on: the running maximum with the stored words' tests taken in. -/
theorem t6_max (v282 : IVec S4x32x128 1) (v321 : FVec F S4x32x128 .f32) (v322 : Vec F S4x32x128 .f32) (X_arg6 : BufTy.Contents (Elt F) arg6.view.ty) (X_arg8 : BufTy.Contents (Elt F) arg8.view.ty) (k : Fin k0_t6_loop.trips) (acc : FVec F S4x32x128 .f32) :
    (trip_k0_t6 (F := F) 𝒱 c bd arg0 harg0 arg1 harg1 arg2 harg2 arg3 harg3 arg4 harg4 arg5 harg5 arg6 harg6 arg7 harg7 arg8 harg8 v282 v321 v322 X_arg6 X_arg8 k).1 acc
      = maximumf acc (maxV zeroV ((bitsOf 0 shifts9).map fun s =>
          hit2 arg6 X_arg6 (wbits arg8 X_arg8 (Scalar.indexCast (dx6 k)).toNat 4 (dx6_lt k) (by decide)) (Scalar.indexCast (dx6 k)).toNat 4 (dx6_lt k) (by decide) s.1 s.2.1)) := by
  delta trip_k0_t6
  with_unfolding_all rfl

set_option maxHeartbeats 4000000 in
/-- What a trip of loop 7 carries on: the two running maxima with the matching's tests taken in. -/
theorem t7_max (v53 : IVec S4x128 32) (v239 : FVec F S4x32x128 .f32) (v241 : FVec F S4x32x128 .f32) (v243 : FVec F S4x32x128 .f32) (v245 : FVec F S4x32x128 .f32) (v247 : FVec F S4x32x128 .f32) (v249 : FVec F S4x32x128 .f32) (v251 : FVec F S4x32x128 .f32) (v319 : IVec S4x32x128 1) (X_arg3 : BufTy.Contents (Elt F) arg3.view.ty) (X_arg7 : BufTy.Contents (Elt F) arg7.view.ty) (k : Fin k0_t7_loop.trips) (acc : FVec F S4x32x128 .f32 × FVec F S4x32x128 .f32) :
    (trip_k0_t7 (F := F) 𝒱 c bd arg0 harg0 arg1 harg1 arg2 harg2 arg3 harg3 arg4 harg4 arg5 harg5 arg6 harg6 arg7 harg7 arg8 harg8 v53 v239 v241 v243 v245 v247 v249 v251 v319 X_arg3 X_arg7 k).1 acc
      = (maxV acc.1 (shifts9.map fun s => near1 arg3 X_arg3 arg7 X_arg7 v247 v249 v251 (Scalar.indexCast (dx7 k)).toNat 0 (dx7_lt k) (by decide) s.1),
         maxV acc.2 (shifts9.map fun s => near2 arg3 X_arg3 v239 v241 v243 (Scalar.indexCast (dx7 k)).toNat 0 (dx7_lt k) (by decide) s.1)) := by
  delta trip_k0_t7
  with_unfolding_all rfl

set_option maxHeartbeats 4000000 in
/-- What a trip of loop 8 carries on: the two running maxima with the matching's tests taken in. -/
theorem t8_max (v53 : IVec S4x128 32) (v255 : FVec F S4x32x128 .f32) (v257 : FVec F S4x32x128 .f32) (v259 : FVec F S4x32x128 .f32) (v261 : FVec F S4x32x128 .f32) (v263 : FVec F S4x32x128 .f32) (v265 : FVec F S4x32x128 .f32) (v267 : FVec F S4x32x128 .f32) (v330 : IVec S4x32x128 1) (v361 : FVec F S4x1 .f32) (v377 : FVec F S4x1 .f32) (v379 : IVec S4x128 1) (v381 : IVec S4x128 1) (v387 : FVec F S4x128 .f32) (X_arg3 : BufTy.Contents (Elt F) arg3.view.ty) (X_arg7 : BufTy.Contents (Elt F) arg7.view.ty) (k : Fin k0_t8_loop.trips) (acc : FVec F S4x32x128 .f32 × FVec F S4x32x128 .f32) :
    (trip_k0_t8 (F := F) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 k).1 acc
      = (maxV acc.1 (shifts9.map fun s => near1 arg3 X_arg3 arg7 X_arg7 v263 v265 v267 (Scalar.indexCast (dx8 k)).toNat 4 (dx8_lt k) (by decide) s.1),
         maxV acc.2 (shifts9.map fun s => near2 arg3 X_arg3 v255 v257 v259 (Scalar.indexCast (dx8 k)).toNat 4 (dx8_lt k) (by decide) s.1)) := by
  delta trip_k0_t8
  with_unfolding_all rfl

end Cert.KernelIdeal.Trips

end
-- ==== Proof.Planes.lean ====
module

public import proofs.«01_k».proof.Proof.Trips
public import proofs.«01_k».proof.Proof.BodyIdeal
public import Idealize.ShloMosaic.Lib.Pointwise
public import Idealize.ShloMosaic.Lib.WritesUnit
public import Idealize.ShloMosaic.Lib.VecWindow

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem

/-! The planes of the kernel, read at a place. -/

/-- The layer a lane stands for. -/
def zi (l : Fin 384) : ℤ := ((l.val + 128) / 32 : ℕ) - 8
/-- The row a stored row stands for. -/
def xi (r : Fin 40) : ℤ := r.val - 4
/-- The column a lane stands for. -/
def yi (l : Fin 384) : ℤ := ((l.val + 128) % 32 : ℕ)

/-- A whole number among the extended reals. -/
def co (i : ℤ) : EReal := ((i : ℝ) : EReal)

/-- A channel of the padded input: the confidence, or a place in the scaled grid. -/
def chan (x : S8x4x40x384.Idx → EReal) : Fin 4 → Fin 8 → Fin 40 → Fin 384 → EReal
  | 0 => fun q r l => x (ix4 q 0 r l)
  | 1 => fun q r l => (x (ix4 q 1 r l) + co (zi l)) * Ideal.ofBits FTy.f32 1061158912#32
  | 2 => fun q r l => (x (ix4 q 2 r l) + co (xi r)) * Ideal.ofBits FTy.f32 1061683200#32
  | 3 => fun q r l => (x (ix4 q 3 r l) + co (yi l)) * Ideal.ofBits FTy.f32 1061683200#32

/-- The window of one channel lies at that channel. -/
theorem emb_chan (k : ℕ) (hk : k < 4) (h) (q : Fin 8) (r : Fin 40) (l : Fin 384) :
    (Rect.unit (s := S8x4x40x384) ![0, k, 0, 0] ![8, 1, 40, 384] h).emb (ix4 q 0 r l) = ix4 q ⟨k, hk⟩ r l := by
  funext a
  fin_cases a <;> exact Fin.ext (by simp [Rect.unit, Rect.emb, ix4])

/-- The kernel's words for a lane's layer have the layer as value. -/
theorem zi_word (l : Fin 384) : (IntOp.subi
            (Scalar.select
              (IntOp.andi
                (IntOp.cmpi CmpIPredicate.ne
                  (IntOp.subi
                    (BitVec.setWidth 32 (IntOp.cmpi CmpIPredicate.sgt (IntOp.addi (BitVec.ofNat 32 l.val) 128#32) 0#32))
                    (BitVec.setWidth 32 (IntOp.cmpi CmpIPredicate.slt (IntOp.addi (BitVec.ofNat 32 l.val) 128#32) 0#32)))
                  (Scalar.subi (Scalar.extui (Scalar.cmpi CmpIPredicate.sgt 32#32 0#32))
                    (Scalar.extui (Scalar.cmpi CmpIPredicate.slt 32#32 0#32))))
                (IntOp.cmpi CmpIPredicate.ne
                  (IntOp.remsi ArithUnit.vector (IntOp.addi (BitVec.ofNat 32 l.val) 128#32) 32#32) 0#32))
              (IntOp.subi (IntOp.divsi ArithUnit.vector (IntOp.addi (BitVec.ofNat 32 l.val) 128#32) 32#32) 1#32)
              (IntOp.divsi ArithUnit.vector (IntOp.addi (BitVec.ofNat 32 l.val) 128#32) 32#32))
            8#32).toInt = zi l := by
  revert l
  decide +kernel

/-- The kernel's words for a lane's column have the column as value. -/
theorem yi_word (l : Fin 384) : (Scalar.select
            (IntOp.andi
              (IntOp.xori
                (IntOp.cmpi CmpIPredicate.slt
                  (IntOp.remsi ArithUnit.vector (IntOp.addi (BitVec.ofNat 32 l.val) 128#32)
                    (Scalar.select (Scalar.cmpi CmpIPredicate.eq 32#32 0#32) 1#32 32#32))
                  0#32)
                (Scalar.cmpi CmpIPredicate.slt (Scalar.select (Scalar.cmpi CmpIPredicate.eq 32#32 0#32) 1#32 32#32)
                  0#32))
              (IntOp.cmpi CmpIPredicate.ne
                (IntOp.remsi ArithUnit.vector (IntOp.addi (BitVec.ofNat 32 l.val) 128#32)
                  (Scalar.select (Scalar.cmpi CmpIPredicate.eq 32#32 0#32) 1#32 32#32))
                0#32))
            (IntOp.addi
              (IntOp.remsi ArithUnit.vector (IntOp.addi (BitVec.ofNat 32 l.val) 128#32)
                (Scalar.select (Scalar.cmpi CmpIPredicate.eq 32#32 0#32) 1#32 32#32))
              32#32)
            (IntOp.remsi ArithUnit.vector (IntOp.addi (BitVec.ofNat 32 l.val) 128#32)
              (Scalar.select (Scalar.cmpi CmpIPredicate.eq 32#32 0#32) 1#32 32#32))).toInt = yi l := by
  revert l
  decide +kernel

/-- The kernel's word for a stored row has the row as value. -/
theorem xi_word (r : Fin 40) : (IntOp.subi (BitVec.ofNat 32 r.val) 4#32).toInt = xi r := by
  revert r
  decide +kernel

variable (c : Dev nD) (M0 : Memref sig .tc .vmem S8x4x40x384 .f32) (f0 : Bf (F := Ideal) c M0)
  (M1 : Memref sig .tc .vmem S8x4x40x384 .f32) (f1 : Bf (F := Ideal) c M1)

/-- The kernel's plane of the confidence of the predictions, read at a place. -/
theorem r1_at (q : Fin 8) (r : Fin 40) (l : Fin 384) :
    kernelRun.sl.r_1 c M0 f0 (ix3 q r l) = chan (M0.view.read (Elt Ideal) f0) 0 q r l := by
  unfold kernelRun.sl.r_1
  rw [View.readAt_unit (h := rfl) (inb' := by decide)]
  pointwise [k0_pay260, VecWindow.window]
  exact congrArg _ (emb_chan 0 (by decide) _ q r l)

/-- The kernel's plane of the first coordinate of the predictions, read at a place. -/
theorem r2_at (q : Fin 8) (r : Fin 40) (l : Fin 384) :
    kernelRun.sl.r_2 c M0 f0 (ix3 q r l) = chan (M0.view.read (Elt Ideal) f0) 1 q r l := by
  unfold kernelRun.sl.r_2
  rw [View.readAt_unit (h := rfl) (inb' := by decide)]
  pointwise [k0_pay261, k0_pay253, VecWindow.window]
  rw [show ∀ w : BitVec 32, FloatOps.sitofp (F := Ideal) FTy.f32 w = co w.toInt from fun _ => rfl, zi_word,
    emb_chan 1 (by decide)]
  rfl

/-- The kernel's plane of the second coordinate of the predictions, read at a place. -/
theorem r3_at (q : Fin 8) (r : Fin 40) (l : Fin 384) :
    kernelRun.sl.r_3 c M0 f0 (ix3 q r l) = chan (M0.view.read (Elt Ideal) f0) 2 q r l := by
  unfold kernelRun.sl.r_3 kernelRun.sl.v1
  rw [View.readAt_unit (h := rfl) (inb' := by decide)]
  pointwise [k0_pay262, k0_pay259, VecWindow.window]
  rw [show ∀ w : BitVec 32, FloatOps.sitofp (F := Ideal) FTy.f32 w = co w.toInt from fun _ => rfl, xi_word,
    emb_chan 2 (by decide)]
  rfl

/-- The kernel's plane of the third coordinate of the predictions, read at a place. -/
theorem r4_at (q : Fin 8) (r : Fin 40) (l : Fin 384) :
    kernelRun.sl.r_4 c M0 f0 (ix3 q r l) = chan (M0.view.read (Elt Ideal) f0) 3 q r l := by
  unfold kernelRun.sl.r_4
  rw [View.readAt_unit (h := rfl) (inb' := by decide)]
  pointwise [k0_pay263, k0_pay258, k0_pay254, k0_pay255, k0_pay256, k0_pay257, VecWindow.window]
  rw [show ∀ w : BitVec 32, FloatOps.sitofp (F := Ideal) FTy.f32 w = co w.toInt from fun _ => rfl, yi_word,
    emb_chan 3 (by decide)]
  rfl

/-- The kernel's plane of the confidence of the targets, read at a place. -/
theorem r5_at (q : Fin 8) (r : Fin 40) (l : Fin 384) :
    kernelRun.sl.r_5 c M1 f1 (ix3 q r l) = chan (M1.view.read (Elt Ideal) f1) 0 q r l := r1_at c M1 f1 q r l

/-- The kernel's plane of the first coordinate of the targets, read at a place. -/
theorem r6_at (q : Fin 8) (r : Fin 40) (l : Fin 384) :
    kernelRun.sl.r_6 c M1 f1 (ix3 q r l) = chan (M1.view.read (Elt Ideal) f1) 1 q r l := r2_at c M1 f1 q r l

/-- The kernel's plane of the second coordinate of the targets, read at a place. -/
theorem r7_at (q : Fin 8) (r : Fin 40) (l : Fin 384) :
    kernelRun.sl.r_7 c M1 f1 (ix3 q r l) = chan (M1.view.read (Elt Ideal) f1) 2 q r l := r3_at c M1 f1 q r l

/-- The kernel's plane of the third coordinate of the targets, read at a place. -/
theorem r8_at (q : Fin 8) (r : Fin 40) (l : Fin 384) :
    kernelRun.sl.r_8 c M1 f1 (ix3 q r l) = chan (M1.view.read (Elt Ideal) f1) 3 q r l := r4_at c M1 f1 q r l

end Cert.KernelIdeal.Body

end
-- ==== Proof.Stored.lean ====
module

public import proofs.«01_k».proof.Proof.Planes
public import proofs.«01_k».proof.Proof.BodyIdeal
public import Idealize.ShloMosaic.Lib.Pointwise
public import Idealize.ShloMosaic.Lib.WritesUnit
public import Idealize.ShloMosaic.Lib.VecWindow

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem

/-! The stored planes, read at a place. -/

/-- Reading past one stored plane of the eight by five, or in it. -/
theorem read_ch_cons (M : Memref sig .tc .vmem S8x5x8x40x384 .f32) (f : BufTy.Contents (Elt Ideal) M.view.ty)
    (c' d' : ℕ) (inb : ∀ a, (![c', d', 0, 4, 0] : Fin 5 → ℕ) a + S1x1x8x32x384.size a ≤ S8x5x8x40x384.size a)
    (w : S1x1x8x32x384.Idx → EReal) (L : List (View.Piece (Elt Ideal) S8x5x8x40x384 .f32))
    (c : Fin 8) (d : Fin 5) (q : Fin 8) (x : Fin 32) (r : Fin 40) (hr : r.val = 4 + x.val) (l : Fin 384) :
    M.view.read (Elt Ideal) (M.view.writes (Elt Ideal) f
        ((⟨Rect.unit (s := S8x5x8x40x384) ![c', d', 0, 4, 0] S1x1x8x32x384.size inb, w⟩ :
          View.Piece (Elt Ideal) S8x5x8x40x384 .f32) :: L)) (ix5 c d q r l)
      = if c.val = c' ∧ d.val = d' then w (ix5 0 0 q x l)
        else M.view.read (Elt Ideal) (M.view.writes (Elt Ideal) f L) (ix5 c d q r l) := by
  split
  · rename_i h
    refine View.read_writes_cons_unit_of_mem M.view f inb w L (ix5 c d q r l) (ix5 0 0 q x l) rfl ?_
    intro a
    fin_cases a
    · show c.val = c' + 0; omega
    · show d.val = d' + 0; omega
    · show q.val = 0 + q.val; omega
    · show r.val = 4 + x.val; omega
    · show l.val = 0 + l.val; omega
  · rename_i h
    by_cases hc : c.val = c'
    · refine View.read_writes_cons_unit_of_not_mem _ _ _ _ _ _ rfl 1 ?_
      show d.val < d' ∨ d' + 1 ≤ d.val
      omega
    · refine View.read_writes_cons_unit_of_not_mem _ _ _ _ _ _ rfl 0 ?_
      show c.val < c' ∨ c' + 1 ≤ c.val
      omega

/-- The eight channels: four of the predictions, four of the targets. -/
def K (x0 x1 : S8x4x40x384.Idx → EReal) (c : Fin 8) : Fin 8 → Fin 40 → Fin 384 → EReal :=
  if h : c.val < 4 then chan x0 ⟨c.val, h⟩ else chan x1 ⟨c.val - 4, by omega⟩

/-- A row moved by a stored plane's shift. -/
def shr (x : Fin 32) (d : Fin 5) : Fin 40 := ⟨x.val + d.val + 2, by omega⟩

/-- A plane has room for each row shift. -/
theorem slices_sh : ∀ d : Fin 5, S8x40x384.Slices ![0, d.val + 2, 0] S8x32x384 := by decide

/-- The store of a shifted plane lies within the buffer. -/
theorem inb_ch (c : Fin 8) (d : Fin 5) :
    ∀ a, (![c.val, d.val, 0, 4, 0] : Fin 5 → ℕ) a + S1x1x8x32x384.size a ≤ S8x5x8x40x384.size a := by
  revert c d; decide

/-- One store of a shifted plane. -/
def chPiece (P : Fin 8 → FVec Ideal S8x40x384 .f32) (cd : Fin 8 × Fin 5) :
    View.Piece (Elt Ideal) S8x5x8x40x384 .f32 :=
  ⟨Rect.unit (s := S8x5x8x40x384) ![cd.1.val, cd.2.val, 0, 4, 0] S1x1x8x32x384.size (inb_ch cd.1 cd.2),
    shapeCast S1x1x8x32x384 (extractStridedSlice S8x32x384 ![0, cd.2.val + 2, 0] (P cd.1) (slices_sh cd.2))
      shapeCasts_S8x32x384_S1x1x8x32x384⟩

/-- Adding two leading axes of one to a plane keeps every entry. -/
theorem cast_ch (v : S8x32x384.Idx → EReal) (h) (q : Fin 8) (x : Fin 32) (l : Fin 384) :
    shapeCast S1x1x8x32x384 v h (ix5 0 0 q x l) = v (ix3 q x l) := by
  pointwise []

/-- Dropping two leading axes of one from a window keeps every entry. -/
theorem cast_win (v : S1x1x4x32x128.Idx → EReal) (h) (b : Fin 4) (x : Fin 32) (L : Fin 128) :
    shapeCast S4x32x128 v h (ix3 b x L) = v (ix5 0 0 b x L) := by
  pointwise []

/-- Dropping one leading axis of one from a window keeps every entry. -/
theorem cast_win1 {α : Type} (v : S1x4x32x128.Idx → α) (h) (b : Fin 4) (x : Fin 32) (L : Fin 128) :
    shapeCast S4x32x128 v h (ix3 b x L) = v (ix4 0 b x L) := by
  pointwise []

/-- A list of such stores read at one of its planes. -/
theorem read_chPieces (M : Memref sig .tc .vmem S8x5x8x40x384 .f32) (f : BufTy.Contents (Elt Ideal) M.view.ty)
    (P : Fin 8 → FVec Ideal S8x40x384 .f32) (L : List (Fin 8 × Fin 5))
    (c : Fin 8) (d : Fin 5) (h : (c, d) ∈ L) (q : Fin 8) (x : Fin 32) (r : Fin 40) (hr : r.val = 4 + x.val) (l : Fin 384) :
    M.view.read (Elt Ideal) (M.view.writes (Elt Ideal) f (L.map (chPiece P))) (ix5 c d q r l)
      = P c (ix3 q (shr x d) l) := by
  induction L with
  | nil => cases h
  | cons p L ih =>
    rw [List.map_cons]
    obtain ⟨c', d'⟩ := p
    refine (read_ch_cons M f c'.val d'.val (inb_ch c' d') _ _ c d q x r hr l).trans ?_
    split
    · rename_i e
      obtain rfl : c = c' := Fin.ext e.1
      obtain rfl : d = d' := Fin.ext e.2
      refine (cast_ch _ _ q x l).trans ?_
      refine congrArg (P c) ?_
      funext a
      fin_cases a
      · exact Fin.ext (Nat.zero_add _)
      · exact Fin.ext (by show d.val + 2 + x.val = x.val + d.val + 2; omega)
      · exact Fin.ext (Nat.zero_add _)
    · rename_i e
      refine ih ((List.mem_cons.1 h).resolve_left fun e' => e ?_)
      have := Prod.mk.inj e'
      exact ⟨congrArg Fin.val this.1, congrArg Fin.val this.2⟩

variable (c : Dev nD) (M0 : Memref sig .tc .vmem S8x4x40x384 .f32) (f0 : Bf (F := Ideal) c M0)
  (M1 : Memref sig .tc .vmem S8x4x40x384 .f32) (f1 : Bf (F := Ideal) c M1)

/-- The eight planes of the run. -/
def planes : Fin 8 → FVec Ideal S8x40x384 .f32 :=
  ![kernelRun.sl.r_1 c M0 f0, kernelRun.sl.r_2 c M0 f0, kernelRun.sl.r_3 c M0 f0, kernelRun.sl.r_4 c M0 f0,
    kernelRun.sl.r_5 c M1 f1, kernelRun.sl.r_6 c M1 f1, kernelRun.sl.r_7 c M1 f1, kernelRun.sl.r_8 c M1 f1]

/-- The planes stored, last first. -/
def chList : List (Fin 8 × Fin 5) :=
  [(7, 3), (7, 2), (7, 1), (6, 3), (6, 2), (6, 1), (5, 3), (5, 2), (5, 1), (4, 3), (4, 2), (4, 1),
   (3, 4), (3, 3), (3, 2), (3, 1), (3, 0), (2, 4), (2, 3), (2, 2), (2, 1), (2, 0),
   (1, 4), (1, 3), (1, 2), (1, 1), (1, 0), (0, 4), (0, 3), (0, 2), (0, 1), (0, 0)]

/-- The body's stores of planes are the listed shifted planes. -/
theorem H3_eq : kernelRun.sl.H3_32 c M0 M1 f0 f1 = chList.map (chPiece (planes c M0 f0 M1 f1)) := by
  with_unfolding_all rfl

/-- The eight planes of the body hold the eight channels. -/
theorem planes_at (k : Fin 8) (q : Fin 8) (r : Fin 40) (l : Fin 384) :
    planes c M0 f0 M1 f1 k (ix3 q r l) = K (M0.view.read (Elt Ideal) f0) (M1.view.read (Elt Ideal) f1) k q r l := by
  fin_cases k
  · exact r1_at c M0 f0 q r l
  · exact r2_at c M0 f0 q r l
  · exact r3_at c M0 f0 q r l
  · exact r4_at c M0 f0 q r l
  · exact r5_at c M1 f1 q r l
  · exact r6_at c M1 f1 q r l
  · exact r7_at c M1 f1 q r l
  · exact r8_at c M1 f1 q r l

/-- The stored planes read at a place: the shifted row of the channel. -/
theorem ch_at (M3 : Memref sig .tc .vmem S8x5x8x40x384 .f32) (f3 : BufTy.Contents (Elt Ideal) M3.view.ty)
    (k : Fin 8) (d : Fin 5) (h : (k, d) ∈ chList) (q : Fin 8) (x : Fin 32) (r : Fin 40) (hr : r.val = 4 + x.val)
    (l : Fin 384) :
    M3.view.read (Elt Ideal) (M3.view.writes (Elt Ideal) f3 (kernelRun.sl.H3_32 c M0 M1 f0 f1)) (ix5 k d q r l)
      = K (M0.view.read (Elt Ideal) f0) (M1.view.read (Elt Ideal) f1) k q (shr x d) l := by
  rw [H3_eq, read_chPieces (h := h) (hr := hr), planes_at]

/-- A window of the stored planes read at a place. -/
theorem win_at (M : Memref sig .tc .vmem S8x5x8x40x384 .f32) (X : BufTy.Contents (Elt Ideal) M.view.ty) (k d g : ℕ)
    (hc : k < 8) (hd : d < 5) (hg : g ≤ 4) (o : Fin 257) (b : Fin 4) (x : Fin 32) (L : Fin 128) :
    win M X k d g hc hd hg o (ix3 b x L)
      = M.view.read (Elt Ideal) X (ix5 (⟨k, hc⟩ : Fin 8) (⟨d, hd⟩ : Fin 5) (⟨g + b.val, by omega⟩ : Fin 8)
          (⟨4 + x.val, by omega⟩ : Fin 40) (⟨o.val + L.val, by omega⟩ : Fin 384)) := by
  refine (cast_win _ _ b x L).trans ((congrFun (View.readAt_unit M.view X _ rfl (inb5 o hc hd hg)) _).trans (congrArg (M.view.read (Elt Ideal) X) ?_))
  funext a
  fin_cases a
  · exact Fin.ext (by show k + 1 * 0 = k; omega)
  · exact Fin.ext (by show d + 1 * 0 = d; omega)
  · exact Fin.ext (by show g + 1 * b.val = g + b.val; omega)
  · exact Fin.ext (by show 4 + 1 * x.val = 4 + x.val; omega)
  · exact Fin.ext (by show o.val + 1 * L.val = o.val + L.val; omega)

/-- A window of the stored copies of one plane, read at a place. -/
theorem win1_at (M : Memref sig .tc .vmem S5x8x40x384 .f32) (X : BufTy.Contents (Elt Ideal) M.view.ty) (d g : ℕ)
    (hd : d < 5) (hg : g ≤ 4) (o : Fin 257) (b : Fin 4) (x : Fin 32) (L : Fin 128) :
    win1 M X d g hd hg o (ix3 b x L)
      = M.view.read (Elt Ideal) X (ix4 (⟨d, hd⟩ : Fin 5) (⟨g + b.val, by omega⟩ : Fin 8)
          (⟨4 + x.val, by omega⟩ : Fin 40) (⟨o.val + L.val, by omega⟩ : Fin 384)) := by
  refine (cast_win1 _ _ b x L).trans ((congrFun (View.readAt_unit M.view X _ rfl (inb4 o hd hg)) _).trans (congrArg (M.view.read (Elt Ideal) X) ?_))
  funext a
  fin_cases a
  · exact Fin.ext (by show d + 1 * 0 = d; omega)
  · exact Fin.ext (by show g + 1 * b.val = g + b.val; omega)
  · exact Fin.ext (by show 4 + 1 * x.val = 4 + x.val; omega)
  · exact Fin.ext (by show o.val + 1 * L.val = o.val + L.val; omega)

/-- A window of the stored words, read at a place. -/
theorem wbits_at (M : Memref sig .tc .vmem S5x8x32x128 .i32) (X : BufTy.Contents (Elt Ideal) M.view.ty) (d g : ℕ)
    (hd : d < 5) (hg : g ≤ 4) (b : Fin 4) (x : Fin 32) (L : Fin 128) :
    wbits (F := Ideal) M X d g hd hg (ix3 b x L)
      = M.view.read (Elt Ideal) X (ix4 (⟨d, hd⟩ : Fin 5) (⟨g + b.val, by omega⟩ : Fin 8) x L) := by
  refine (cast_win1 _ _ b x L).trans ((congrFun (View.readAt_unit M.view X _ rfl (inb8 hd hg)) _).trans (congrArg (M.view.read (Elt Ideal) X) ?_))
  funext a
  fin_cases a
  · exact Fin.ext (by show d + 1 * 0 = d; omega)
  · exact Fin.ext (by show g + 1 * b.val = g + b.val; omega)
  · exact Fin.ext (by show 0 + 1 * x.val = x.val; omega)
  · exact Fin.ext (by show 0 + 1 * L.val = L.val; omega)

end Cert.KernelIdeal.Body

end
-- ==== Proof.Pass.lean ====
module

public import proofs.«01_k».proof.Proof.Stored

@[expose] public section

set_option maxRecDepth 16384

noncomputable section

namespace Cert.KernelIdeal.Trips

open Cert.KernelIdeal Cert.KernelIdeal.Gen
open Idealize.ShloMosaic Idealize.ShloMosaic.TcCoe
open Idealize.SL Idealize.SL.RA Idealize.SL.BI Idealize.SL.Sem

/-! The passes, read at one place: what the running maxima and the words say there. -/

/-- A number that is 1 where something holds and 0 where it does not. -/
def Ind (v : EReal) (p : Prop) : Prop := (p ∧ v = 1) ∨ (¬p ∧ v = 0)

/-- A zero-or-one number of a property is one of every equivalent property. -/
theorem Ind.congr {v : EReal} {p q : Prop} (h : Ind v p) (e : p ↔ q) : Ind v q := (propext e) ▸ h

/-- A zero-or-one number is zero just when its property fails. -/
theorem Ind.eq_zero {v : EReal} {p : Prop} (h : Ind v p) : v = 0 ↔ ¬p := by
  rcases h with ⟨hp, rfl⟩ | ⟨hp, rfl⟩
  · exact ⟨fun e => absurd e one_ne_zero, fun e => absurd hp e⟩
  · exact ⟨fun _ => hp, fun _ => rfl⟩

/-- The larger of two zero-or-one numbers stands for either property. -/
theorem Ind.max {v w : EReal} {p q : Prop} (h : Ind v p) (h' : Ind w q) : Ind (max v w) (p ∨ q) := by
  rcases h with ⟨hp, rfl⟩ | ⟨hp, rfl⟩ <;> rcases h' with ⟨hq, rfl⟩ | ⟨hq, rfl⟩
  · exact .inl ⟨.inl hp, max_self _⟩
  · exact .inl ⟨.inl hp, max_eq_left zero_le_one⟩
  · exact .inl ⟨.inr hq, max_eq_right zero_le_one⟩
  · exact .inr ⟨not_or.2 ⟨hp, hq⟩, max_self _⟩

/-- The product of two zero-or-one numbers stands for both properties. -/
theorem Ind.mul {v w : EReal} {p q : Prop} (h : Ind v p) (h' : Ind w q) : Ind (v * w) (p ∧ q) := by
  rcases h with ⟨hp, rfl⟩ | ⟨hp, rfl⟩ <;> rcases h' with ⟨hq, rfl⟩ | ⟨hq, rfl⟩
  · exact .inl ⟨⟨hp, hq⟩, one_mul _⟩
  · exact .inr ⟨fun e => hq e.2, mul_zero _⟩
  · exact .inr ⟨fun e => hp e.1, zero_mul _⟩
  · exact .inr ⟨fun e => hp e.1, zero_mul _⟩

/-- A bit made a number. -/
theorem ind_bit (t : BitVec 1) : Ind (((BitVec.setWidth 32 t).toInt : ℝ) : EReal) (t = 1#1) := by
  rcases (by revert t; decide : t = 1#1 ∨ t = 0#1) with rfl | rfl
  · exact .inl ⟨rfl, by norm_num⟩
  · exact .inr ⟨by decide, by norm_num⟩

/-- The bits of the zero constant are zero. -/
theorem zero_word : Ideal.ofBits .f32 0x00000000#32 = 0 := by
  norm_num [Ideal.ofBits, Ideal.ieee]

/-- A decided property's bit is set just when it holds. -/
theorem bit_iff {p : Prop} [Decidable p] : BitVec.ofBool (decide p) = 1#1 ↔ p := by
  by_cases h : p <;> simp [h]

/-- The conjunction of two bits is set just when both are. -/
theorem and_iff (a b : BitVec 1) : IntOp.andi a b = 1#1 ↔ a = 1#1 ∧ b = 1#1 := by
  revert a b; decide

/-- The disjunction of two bits is set just when one of them is. -/
theorem or_iff (a b : BitVec 1) : IntOp.ori a b = 1#1 ↔ a = 1#1 ∨ b = 1#1 := by
  revert a b; decide

/-- The running maximum at a place: whether it held before or one of the tests holds there. -/
theorem maxV_ind (l : List (IVec S4x32x128 1)) : ∀ (m : FVec Ideal S4x32x128 .f32) (i : S4x32x128.Idx) (p : Prop),
    Ind (m i) p → Ind (maxV m l i) (p ∨ ∃ t ∈ l, t i = 1#1) := by
  induction l with
  | nil => exact fun m i p h => h.congr (by simp)
  | cons t l ih =>
    intro m i p h
    exact (ih (maximumf m (sitofp .f32 (extui 32 t natLt_1_32))) i _ (h.max (ind_bit (t i)))).congr (by simp [or_assoc])

/-- The vector of zeros stands for a property that never holds. -/
theorem zeroV_ind (i : S4x32x128.Idx) : Ind (zeroV (F := Ideal) i) False := .inr ⟨id, zero_word⟩

/-- The running maximum from zero, taken into another. -/
theorem trip_ind (m : FVec Ideal S4x32x128 .f32) (l : List (IVec S4x32x128 1)) (i : S4x32x128.Idx) (p : Prop)
    (h : Ind (m i) p) : Ind (maximumf m (maxV zeroV l) i) (p ∨ ∃ t ∈ l, t i = 1#1) :=
  (h.max (maxV_ind l _ i _ (zeroV_ind i))).congr (by simp)

/-- A loop whose every trip adds its own alternative. -/
theorem steps_ind {T : ℕ} (u : ℕ → EReal) (P : Fin T → Prop) (p : Prop) (h0 : Ind (u 0) p)
    (h : ∀ (k : Fin T) (q : Prop), Ind (u k.val) q → Ind (u (k.val + 1)) (q ∨ P k)) : Ind (u T) (p ∨ ∃ k, P k) := by
  have key : ∀ n, n ≤ T → Ind (u n) (p ∨ ∃ k : Fin T, k.val < n ∧ P k) := by
    intro n
    induction n with
    | zero => exact fun _ => h0.congr (by simp)
    | succ n ih =>
      intro hn
      refine (h ⟨n, hn⟩ _ (ih (by omega))).congr ⟨?_, ?_⟩
      · rintro ((h | ⟨k, hk, hP⟩) | h)
        · exact .inl h
        · exact .inr ⟨k, by omega, hP⟩
        · exact .inr ⟨⟨n, hn⟩, Nat.lt_succ_self n, h⟩
      · rintro (h | ⟨k, hk, hP⟩)
        · exact .inl (.inl h)
        · rcases Nat.lt_succ_iff_lt_or_eq.1 hk with h' | h'
          · exact .inl (.inr ⟨k, h', hP⟩)
          · obtain rfl : k = ⟨n, hn⟩ := Fin.ext h'
            exact .inr hP
  exact (key T le_rfl).congr ⟨fun | .inl h => .inl h | .inr ⟨k, _, h⟩ => .inr ⟨k, h⟩,
    fun | .inl h => .inl h | .inr ⟨k, h⟩ => .inr ⟨k, k.isLt, h⟩⟩

/-! The words: each test in its own bit. -/

/-- A power of two as a word is the word with that one bit. -/
theorem pow_word (j : ℕ) : BitVec.ofNat 32 (2 ^ j) = BitVec.twoPow 32 j := by
  apply BitVec.eq_of_toNat_eq
  rw [BitVec.toNat_ofNat, BitVec.toNat_twoPow]

/-- Masking a word with one bit leaves something just when that bit is set. -/
theorem and_bit (a : BitVec 32) (j : ℕ) (hj : j < 32) : a &&& BitVec.ofNat 32 (2 ^ j) ≠ 0#32 ↔ a.getLsbD j = true := by
  rw [show BitVec.ofNat 32 (2 ^ j) = BitVec.twoPow 32 j from pow_word j, BitVec.and_twoPow]
  split
  · rename_i h
    refine ⟨fun _ => h, fun _ e => ?_⟩
    have := congrArg (fun w => w.getLsbD j) e
    simp [hj] at this
  · rename_i h
    exact ⟨fun e => absurd rfl e, fun e => absurd e h⟩

/-- Every bit of a collected word: what it was before, or the test that owns it. -/
theorem orV_bit (f : Sh → IVec S4x32x128 1) (i : S4x32x128.Idx) (l : List Sh) : ∀ (j : ℕ) (m : IVec S4x32x128 32),
    j + l.length ≤ 32 →
    (∀ k, k < j → (orV m ((bitsOf j l).map fun s => (s.1, f s.2)) i).getLsbD k = (m i).getLsbD k)
    ∧ ∀ p ∈ bitsOf j l, (∀ k, j ≤ k → (m i).getLsbD k = false) →
        (orV m ((bitsOf j l).map fun s => (s.1, f s.2)) i &&& p.1 ≠ 0#32 ↔ f p.2 i = 1#1) := by
  induction l with
  | nil => exact fun j m _ => ⟨fun _ _ => rfl, fun p h => absurd h List.not_mem_nil⟩
  | cons s l ih =>
    intro j m hl
    have hl' : j + 1 + l.length ≤ 32 := by rw [List.length_cons] at hl; omega
    let m' : IVec S4x32x128 32 := ori m (select (f s) (broadcast S4x32x128 (BitVec.ofNat 32 (2 ^ j)))
      (broadcast S4x32x128 0#32))
    have hm : ∀ k, (m' i).getLsbD k = ((m i).getLsbD k || (decide (f s i = 1#1) && decide (k = j) && decide (j < 32))) := by
      intro k
      show (m i ||| (if f s i = 1 then BitVec.ofNat 32 (2 ^ j) else 0#32)).getLsbD k = _
      rw [BitVec.getLsbD_or]
      refine congrArg _ ?_
      by_cases hb : f s i = 1#1
      · rw [if_pos (show f s i = 1 from hb), show BitVec.ofNat 32 (2 ^ j) = BitVec.twoPow 32 j from pow_word j,
          BitVec.getLsbD_twoPow]
        by_cases hk : k = j
        · subst hk; simp [hb]
        · have : ¬ j = k := fun e => hk e.symm
          simp [hb, hk, this]
      · rw [if_neg (show ¬f s i = 1 from hb)]; simp [hb]
    obtain ⟨h1, h2⟩ := ih (j + 1) m' hl'
    refine ⟨fun k hk => ?_, fun p hp h0 => ?_⟩
    · show (orV m' _ i).getLsbD k = _
      rw [h1 k (by omega), hm]
      simp [show k ≠ j by omega]
    · rcases List.mem_cons.1 hp with rfl | hp
      · show (orV m' _ i &&& BitVec.ofNat 32 (2 ^ j)) ≠ 0#32 ↔ _
        rw [and_bit _ _ (by omega), h1 j (by omega), hm, h0 j le_rfl]
        simp [show j < 32 by omega]
      · exact h2 p hp fun k hk => by rw [hm, h0 k (by omega)]; simp [show k ≠ j by omega]

/-- The shifts numbered with their bits are the shifts. -/
theorem mem_bitsOf (l : List Sh) : ∀ (j : ℕ) (Q : Sh → Prop), (∃ p ∈ bitsOf j l, Q p.2) ↔ ∃ s ∈ l, Q s := by
  induction l with
  | nil => exact fun j Q => by simp [bitsOf]
  | cons s l ih =>
    intro j Q
    simp only [bitsOf, List.exists_mem_cons_iff, ih]

/-- A test of the second pass: the first pass's test at the shift, and the plane zero there. -/
theorem second_iff (f : Sh → IVec S4x32x128 1) (M : Memref sig .tc .vmem S5x8x40x384 .f32)
    (X : BufTy.Contents (Elt Ideal) M.view.ty) (bits : IVec S4x32x128 32) (d g : ℕ) (hd : d < 5) (hg : g ≤ 4)
    (i : S4x32x128.Idx) (l : List Sh) (hl : l.length ≤ 32)
    (hb : bits i = orV (broadcast S4x32x128 0#32) ((bitsOf 0 l).map fun s => (s.1, f s.2)) i) :
    (∃ t ∈ (bitsOf 0 l).map (fun s => hit2 M X bits d g hd hg s.1 s.2.1), t i = 1#1)
      ↔ ∃ s ∈ l, f s i = 1#1 ∧ win1 M X d g hd hg s.1 i = 0 := by
  rw [← mem_bitsOf l 0 fun s => f s i = 1#1 ∧ win1 M X d g hd hg s.1 i = 0]
  simp only [List.mem_map, exists_exists_and_eq_and]
  refine exists_congr fun p => and_congr_right fun hp => ?_
  have h2 := (orV_bit f i l 0 (broadcast S4x32x128 0#32) (by omega)).2 p hp
    fun k _ => by show (0#32).getLsbD k = false; simp
  have e : hit2 M X bits d g hd hg p.1 p.2.1 i = IntOp.andi (BitVec.ofBool (decide (bits i &&& p.1 ≠ 0#32)))
      (BitVec.ofBool (decide (win1 M X d g hd hg p.2.1 i = Ideal.ofBits .f32 0x00000000#32))) := by
    unfold hit2
    show IntOp.andi (IntOp.cmpi .ne (bits i &&& p.1) 0#32) _ = _
    refine congrArg₂ _ ?_ rfl
    exact congrArg BitVec.ofBool (by by_cases h : bits i &&& p.1 = 0#32 <;> simp [h])
  rw [e, and_iff, bit_iff, bit_iff, zero_word, hb]
  exact and_congr_left' h2

end Cert.KernelIdeal.Trips

end
-- ==== Proof.Phases.lean ====
module

public import proofs.«01_k».proof.Proof.Pass

@[expose] public section

set_option maxRecDepth 16384

noncomputable section

namespace Cert.KernelIdeal.Trips

open Cert.KernelIdeal Cert.KernelIdeal.Gen
open Idealize.ShloMosaic Idealize.ShloMosaic.TcCoe
open Idealize.SL Idealize.SL.RA Idealize.SL.BI Idealize.SL.Sem

/-! The loops, read at one place. -/

variable {𝒱 : Variants} {c : Dev nD} {bd : Option 𝒱.V} {arg0 : Memref sig .tc .vmem S8x4x40x384 .f32} {harg0 : arg0.IsWhole} {arg1 : Memref sig .tc .vmem S8x4x40x384 .f32} {harg1 : arg1.IsWhole} {arg2 : Memref sig .tc .vmem S8x128 .f32} {harg2 : arg2.IsWhole} {arg3 : Memref sig .tc .vmem S8x5x8x40x384 .f32} {harg3 : arg3.IsWhole} {arg4 : Memref sig .tc .vmem S8x40x384 .f32} {harg4 : arg4.IsWhole} {arg5 : Memref sig .tc .vmem S8x40x384 .f32} {harg5 : arg5.IsWhole} {arg6 : Memref sig .tc .vmem S5x8x40x384 .f32} {harg6 : arg6.IsWhole} {arg7 : Memref sig .tc .vmem S5x8x40x384 .f32} {harg7 : arg7.IsWhole} {arg8 : Memref sig .tc .vmem S5x8x32x128 .i32} {harg8 : arg8.IsWhole}

/-- Loop 1 at a place: some trip's test at some shift. -/
theorem st1_ind (v55 : FVec Ideal S8x40x384 .f32) (v62 : FVec Ideal S8x40x384 .f32) (v69 : FVec Ideal S8x40x384 .f32) (v76 : FVec Ideal S8x40x384 .f32) (v78 : FVec Ideal S8x40x384 .f32) (v85 : FVec Ideal S8x40x384 .f32) (v92 : FVec Ideal S8x40x384 .f32) (v99 : FVec Ideal S8x40x384 .f32) (v228 : FVec Ideal S8x40x384 .f32) (cst_210 : Ideal .f32) (X_arg3 : BufTy.Contents (Elt Ideal) arg3.view.ty)
    (init : FVec Ideal S4x32x128 .f32) (i : S4x32x128.Idx) (p : Prop) (h : Ind (init i) p) :
    Ind ((st_k0_t1 (F := Ideal) 𝒱 c bd arg0 harg0 arg1 harg1 arg2 harg2 arg3 harg3 arg4 harg4 arg5 harg5 arg6 harg6 arg7 harg7 arg8 harg8 v55 v62 v69 v76 v78 v85 v92 v99 v228 cst_210 X_arg3 init k0_t1_loop.trips).1 i)
      (p ∨ ∃ k, ∃ s ∈ shifts21, hit arg3 X_arg3 cst_210 (k0_pay308 v55) (k0_pay309 v62) (k0_pay310 v69) (k0_pay311 v76) (dx1 k) (Scalar.indexCast (dx1 k)).toNat 0 (dx1_lt k) (by decide) s i = 1#1) :=
  steps_ind (fun n => (st_k0_t1 (F := Ideal) 𝒱 c bd arg0 harg0 arg1 harg1 arg2 harg2 arg3 harg3 arg4 harg4 arg5 harg5 arg6 harg6 arg7 harg7 arg8 harg8 v55 v62 v69 v76 v78 v85 v92 v99 v228 cst_210 X_arg3 init n).1 i) _ p h fun k q hq => by
    show Ind ((st_k0_t1 (F := Ideal) 𝒱 c bd arg0 harg0 arg1 harg1 arg2 harg2 arg3 harg3 arg4 harg4 arg5 harg5 arg6 harg6 arg7 harg7 arg8 harg8 v55 v62 v69 v76 v78 v85 v92 v99 v228 cst_210 X_arg3 init (k.val + 1)).1 i) _
    rw [st_k0_t1_succ]
    show Ind ((trip_k0_t1 (F := Ideal) 𝒱 c bd arg0 harg0 arg1 harg1 arg2 harg2 arg3 harg3 arg4 harg4 arg5 harg5 arg6 harg6 arg7 harg7 arg8 harg8 v55 v62 v69 v76 v78 v85 v92 v99 v228 cst_210 X_arg3 k).1 _ i) _
    rw [t1_max]
    exact (trip_ind _ _ i q hq).congr (by simp)

/-- Loop 2 at a place: some trip's test at some shift. -/
theorem st2_ind (v237 : FVec Ideal S4x32x128 .f32) (v239 : FVec Ideal S4x32x128 .f32) (v241 : FVec Ideal S4x32x128 .f32) (v243 : FVec Ideal S4x32x128 .f32) (v253 : FVec Ideal S4x32x128 .f32) (v255 : FVec Ideal S4x32x128 .f32) (v257 : FVec Ideal S4x32x128 .f32) (v259 : FVec Ideal S4x32x128 .f32) (v271 : FVec Ideal S4x32x128 .f32) (v274 : FVec Ideal S4x32x128 .f32) (cst_214 : Ideal .f32) (X_arg3 : BufTy.Contents (Elt Ideal) arg3.view.ty)
    (init : FVec Ideal S4x32x128 .f32) (i : S4x32x128.Idx) (p : Prop) (h : Ind (init i) p) :
    Ind ((st_k0_t2 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 X_arg3 init k0_t2_loop.trips).1 i)
      (p ∨ ∃ k, ∃ s ∈ shifts9, hit arg3 X_arg3 cst_214 v237 v239 v241 v243 (dx2 k) (Scalar.indexCast (dx2 k)).toNat 0 (dx2_lt k) (by decide) s i = 1#1) :=
  steps_ind (fun n => (st_k0_t2 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 X_arg3 init n).1 i) _ p h fun k q hq => by
    show Ind ((st_k0_t2 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 X_arg3 init (k.val + 1)).1 i) _
    rw [st_k0_t2_succ]
    show Ind ((trip_k0_t2 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 X_arg3 k).1 _ i) _
    rw [t2_max]
    exact (trip_ind _ _ i q hq).congr (by simp)

/-- Loop 3 at a place: some trip's test at some shift. -/
theorem st3_ind (v237 : FVec Ideal S4x32x128 .f32) (v239 : FVec Ideal S4x32x128 .f32) (v241 : FVec Ideal S4x32x128 .f32) (v243 : FVec Ideal S4x32x128 .f32) (v253 : FVec Ideal S4x32x128 .f32) (v255 : FVec Ideal S4x32x128 .f32) (v257 : FVec Ideal S4x32x128 .f32) (v259 : FVec Ideal S4x32x128 .f32) (v271 : FVec Ideal S4x32x128 .f32) (v274 : FVec Ideal S4x32x128 .f32) (cst_214 : Ideal .f32) (X_arg3 : BufTy.Contents (Elt Ideal) arg3.view.ty)
    (init : FVec Ideal S4x32x128 .f32) (i : S4x32x128.Idx) (p : Prop) (h : Ind (init i) p) :
    Ind ((st_k0_t3 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 init k0_t3_loop.trips).1 i)
      (p ∨ ∃ k, ∃ s ∈ shifts9, hit arg3 X_arg3 (Scalar.ofBits .f32 0x3F0BE1F6#32) v253 v255 v257 v259 (dx3 k) (Scalar.indexCast (dx3 k)).toNat 4 (dx3_lt k) (by decide) s i = 1#1) :=
  steps_ind (fun n => (st_k0_t3 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 init n).1 i) _ p h fun k q hq => by
    show Ind ((st_k0_t3 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 init (k.val + 1)).1 i) _
    rw [st_k0_t3_succ]
    show Ind ((trip_k0_t3 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 k).1 _ i) _
    rw [t3_max]
    exact (trip_ind _ _ i q hq).congr (by simp)

/-- Loop 4 at a place: some trip's test at some shift. -/
theorem st4_ind (v269 : IVec S4x32x128 1) (X_arg6 : BufTy.Contents (Elt Ideal) arg6.view.ty) (X_arg8 : BufTy.Contents (Elt Ideal) arg8.view.ty)
    (init : FVec Ideal S4x32x128 .f32) (i : S4x32x128.Idx) (p : Prop) (h : Ind (init i) p) :
    Ind (st_k0_t4 (F := Ideal) 𝒱 c bd arg0 harg0 arg1 harg1 arg2 harg2 arg3 harg3 arg4 harg4 arg5 harg5 arg6 harg6 arg7 harg7 arg8 harg8 v269 X_arg6 X_arg8 init k0_t4_loop.trips i)
      (p ∨ ∃ k, ∃ t ∈ (bitsOf 0 shifts21).map (fun s => hit2 arg6 X_arg6 (wbits arg8 X_arg8 (Scalar.indexCast (dx4 k)).toNat 0 (dx4_lt k) (by decide)) (Scalar.indexCast (dx4 k)).toNat 0 (dx4_lt k) (by decide) s.1 s.2.1), t i = 1#1) :=
  steps_ind (fun n => st_k0_t4 (F := Ideal) 𝒱 c bd arg0 harg0 arg1 harg1 arg2 harg2 arg3 harg3 arg4 harg4 arg5 harg5 arg6 harg6 arg7 harg7 arg8 harg8 v269 X_arg6 X_arg8 init n i) _ p h fun k q hq => by
    show Ind (st_k0_t4 (F := Ideal) 𝒱 c bd arg0 harg0 arg1 harg1 arg2 harg2 arg3 harg3 arg4 harg4 arg5 harg5 arg6 harg6 arg7 harg7 arg8 harg8 v269 X_arg6 X_arg8 init (k.val + 1) i) _
    rw [st_k0_t4_succ]
    show Ind ((trip_k0_t4 (F := Ideal) 𝒱 c bd arg0 harg0 arg1 harg1 arg2 harg2 arg3 harg3 arg4 harg4 arg5 harg5 arg6 harg6 arg7 harg7 arg8 harg8 v269 X_arg6 X_arg8 k).1 _ i) _
    rw [t4_max]
    exact trip_ind _ _ i q hq

/-- Loop 5 at a place: some trip's test at some shift. -/
theorem st5_ind (v269 : IVec S4x32x128 1) (X_arg6 : BufTy.Contents (Elt Ideal) arg6.view.ty) (X_arg8 : BufTy.Contents (Elt Ideal) arg8.view.ty)
    (init : FVec Ideal S4x32x128 .f32) (i : S4x32x128.Idx) (p : Prop) (h : Ind (init i) p) :
    Ind (st_k0_t5 (F := Ideal) 𝒱 c bd arg0 harg0 arg1 harg1 arg2 harg2 arg3 harg3 arg4 harg4 arg5 harg5 arg6 harg6 arg7 harg7 arg8 harg8 v269 X_arg6 X_arg8 init k0_t5_loop.trips i)
      (p ∨ ∃ k, ∃ t ∈ (bitsOf 0 shifts9).map (fun s => hit2 arg6 X_arg6 (wbits arg8 X_arg8 (Scalar.indexCast (dx5 k)).toNat 0 (dx5_lt k) (by decide)) (Scalar.indexCast (dx5 k)).toNat 0 (dx5_lt k) (by decide) s.1 s.2.1), t i = 1#1) :=
  steps_ind (fun n => st_k0_t5 (F := Ideal) 𝒱 c bd arg0 harg0 arg1 harg1 arg2 harg2 arg3 harg3 arg4 harg4 arg5 harg5 arg6 harg6 arg7 harg7 arg8 harg8 v269 X_arg6 X_arg8 init n i) _ p h fun k q hq => by
    show Ind (st_k0_t5 (F := Ideal) 𝒱 c bd arg0 harg0 arg1 harg1 arg2 harg2 arg3 harg3 arg4 harg4 arg5 harg5 arg6 harg6 arg7 harg7 arg8 harg8 v269 X_arg6 X_arg8 init (k.val + 1) i) _
    rw [st_k0_t5_succ]
    show Ind ((trip_k0_t5 (F := Ideal) 𝒱 c bd arg0 harg0 arg1 harg1 arg2 harg2 arg3 harg3 arg4 harg4 arg5 harg5 arg6 harg6 arg7 harg7 arg8 harg8 v269 X_arg6 X_arg8 k).1 _ i) _
    rw [t5_max]
    exact trip_ind _ _ i q hq

/-- Loop 6 at a place: some trip's test at some shift. -/
theorem st6_ind (v282 : IVec S4x32x128 1) (v321 : FVec Ideal S4x32x128 .f32) (v322 : Vec Ideal S4x32x128 .f32) (X_arg6 : BufTy.Contents (Elt Ideal) arg6.view.ty) (X_arg8 : BufTy.Contents (Elt Ideal) arg8.view.ty)
    (init : FVec Ideal S4x32x128 .f32) (i : S4x32x128.Idx) (p : Prop) (h : Ind (init i) p) :
    Ind (st_k0_t6 (F := Ideal) 𝒱 c bd arg0 harg0 arg1 harg1 arg2 harg2 arg3 harg3 arg4 harg4 arg5 harg5 arg6 harg6 arg7 harg7 arg8 harg8 v282 v321 v322 X_arg6 X_arg8 init k0_t6_loop.trips i)
      (p ∨ ∃ k, ∃ t ∈ (bitsOf 0 shifts9).map (fun s => hit2 arg6 X_arg6 (wbits arg8 X_arg8 (Scalar.indexCast (dx6 k)).toNat 4 (dx6_lt k) (by decide)) (Scalar.indexCast (dx6 k)).toNat 4 (dx6_lt k) (by decide) s.1 s.2.1), t i = 1#1) :=
  steps_ind (fun n => st_k0_t6 (F := Ideal) 𝒱 c bd arg0 harg0 arg1 harg1 arg2 harg2 arg3 harg3 arg4 harg4 arg5 harg5 arg6 harg6 arg7 harg7 arg8 harg8 v282 v321 v322 X_arg6 X_arg8 init n i) _ p h fun k q hq => by
    show Ind (st_k0_t6 (F := Ideal) 𝒱 c bd arg0 harg0 arg1 harg1 arg2 harg2 arg3 harg3 arg4 harg4 arg5 harg5 arg6 harg6 arg7 harg7 arg8 harg8 v282 v321 v322 X_arg6 X_arg8 init (k.val + 1) i) _
    rw [st_k0_t6_succ]
    show Ind ((trip_k0_t6 (F := Ideal) 𝒱 c bd arg0 harg0 arg1 harg1 arg2 harg2 arg3 harg3 arg4 harg4 arg5 harg5 arg6 harg6 arg7 harg7 arg8 harg8 v282 v321 v322 X_arg6 X_arg8 k).1 _ i) _
    rw [t6_max]
    exact trip_ind _ _ i q hq

/-- Loop 7's first maximum at a place: some trip's test at some shift. -/
theorem st7_ind1 (v53 : IVec S4x128 32) (v239 : FVec Ideal S4x32x128 .f32) (v241 : FVec Ideal S4x32x128 .f32) (v243 : FVec Ideal S4x32x128 .f32) (v245 : FVec Ideal S4x32x128 .f32) (v247 : FVec Ideal S4x32x128 .f32) (v249 : FVec Ideal S4x32x128 .f32) (v251 : FVec Ideal S4x32x128 .f32) (v319 : IVec S4x32x128 1) (X_arg3 : BufTy.Contents (Elt Ideal) arg3.view.ty) (X_arg7 : BufTy.Contents (Elt Ideal) arg7.view.ty)
    (init : FVec Ideal S4x32x128 .f32 × FVec Ideal S4x32x128 .f32) (i : S4x32x128.Idx) (p : Prop) (h : Ind (init.1 i) p) :
    Ind ((st_k0_t7 (F := Ideal) 𝒱 c bd arg0 harg0 arg1 harg1 arg2 harg2 arg3 harg3 arg4 harg4 arg5 harg5 arg6 harg6 arg7 harg7 arg8 harg8 v53 v239 v241 v243 v245 v247 v249 v251 v319 X_arg3 X_arg7 init k0_t7_loop.trips).1 i)
      (p ∨ ∃ k, ∃ s ∈ shifts9, near1 arg3 X_arg3 arg7 X_arg7 v247 v249 v251 (Scalar.indexCast (dx7 k)).toNat 0 (dx7_lt k) (by decide) s.1 i = 1#1) :=
  steps_ind (fun n => (st_k0_t7 (F := Ideal) 𝒱 c bd arg0 harg0 arg1 harg1 arg2 harg2 arg3 harg3 arg4 harg4 arg5 harg5 arg6 harg6 arg7 harg7 arg8 harg8 v53 v239 v241 v243 v245 v247 v249 v251 v319 X_arg3 X_arg7 init n).1 i) _ p h fun k q hq => by
    show Ind ((st_k0_t7 (F := Ideal) 𝒱 c bd arg0 harg0 arg1 harg1 arg2 harg2 arg3 harg3 arg4 harg4 arg5 harg5 arg6 harg6 arg7 harg7 arg8 harg8 v53 v239 v241 v243 v245 v247 v249 v251 v319 X_arg3 X_arg7 init (k.val + 1)).1 i) _
    rw [st_k0_t7_succ]
    show Ind (((trip_k0_t7 (F := Ideal) 𝒱 c bd arg0 harg0 arg1 harg1 arg2 harg2 arg3 harg3 arg4 harg4 arg5 harg5 arg6 harg6 arg7 harg7 arg8 harg8 v53 v239 v241 v243 v245 v247 v249 v251 v319 X_arg3 X_arg7 k).1 _).1 i) _
    rw [t7_max]
    exact (maxV_ind _ _ i q hq).congr (by simp)

/-- Loop 7's second maximum at a place: some trip's test at some shift. -/
theorem st7_ind2 (v53 : IVec S4x128 32) (v239 : FVec Ideal S4x32x128 .f32) (v241 : FVec Ideal S4x32x128 .f32) (v243 : FVec Ideal S4x32x128 .f32) (v245 : FVec Ideal S4x32x128 .f32) (v247 : FVec Ideal S4x32x128 .f32) (v249 : FVec Ideal S4x32x128 .f32) (v251 : FVec Ideal S4x32x128 .f32) (v319 : IVec S4x32x128 1) (X_arg3 : BufTy.Contents (Elt Ideal) arg3.view.ty) (X_arg7 : BufTy.Contents (Elt Ideal) arg7.view.ty)
    (init : FVec Ideal S4x32x128 .f32 × FVec Ideal S4x32x128 .f32) (i : S4x32x128.Idx) (p : Prop) (h : Ind (init.2 i) p) :
    Ind ((st_k0_t7 (F := Ideal) 𝒱 c bd arg0 harg0 arg1 harg1 arg2 harg2 arg3 harg3 arg4 harg4 arg5 harg5 arg6 harg6 arg7 harg7 arg8 harg8 v53 v239 v241 v243 v245 v247 v249 v251 v319 X_arg3 X_arg7 init k0_t7_loop.trips).2 i)
      (p ∨ ∃ k, ∃ s ∈ shifts9, near2 arg3 X_arg3 v239 v241 v243 (Scalar.indexCast (dx7 k)).toNat 0 (dx7_lt k) (by decide) s.1 i = 1#1) :=
  steps_ind (fun n => (st_k0_t7 (F := Ideal) 𝒱 c bd arg0 harg0 arg1 harg1 arg2 harg2 arg3 harg3 arg4 harg4 arg5 harg5 arg6 harg6 arg7 harg7 arg8 harg8 v53 v239 v241 v243 v245 v247 v249 v251 v319 X_arg3 X_arg7 init n).2 i) _ p h fun k q hq => by
    show Ind ((st_k0_t7 (F := Ideal) 𝒱 c bd arg0 harg0 arg1 harg1 arg2 harg2 arg3 harg3 arg4 harg4 arg5 harg5 arg6 harg6 arg7 harg7 arg8 harg8 v53 v239 v241 v243 v245 v247 v249 v251 v319 X_arg3 X_arg7 init (k.val + 1)).2 i) _
    rw [st_k0_t7_succ]
    show Ind (((trip_k0_t7 (F := Ideal) 𝒱 c bd arg0 harg0 arg1 harg1 arg2 harg2 arg3 harg3 arg4 harg4 arg5 harg5 arg6 harg6 arg7 harg7 arg8 harg8 v53 v239 v241 v243 v245 v247 v249 v251 v319 X_arg3 X_arg7 k).1 _).2 i) _
    rw [t7_max]
    exact (maxV_ind _ _ i q hq).congr (by simp)

/-- Loop 8's first maximum at a place: some trip's test at some shift. -/
theorem st8_ind1 (v53 : IVec S4x128 32) (v255 : FVec Ideal S4x32x128 .f32) (v257 : FVec Ideal S4x32x128 .f32) (v259 : FVec Ideal S4x32x128 .f32) (v261 : FVec Ideal S4x32x128 .f32) (v263 : FVec Ideal S4x32x128 .f32) (v265 : FVec Ideal S4x32x128 .f32) (v267 : FVec Ideal S4x32x128 .f32) (v330 : IVec S4x32x128 1) (v361 : FVec Ideal S4x1 .f32) (v377 : FVec Ideal S4x1 .f32) (v379 : IVec S4x128 1) (v381 : IVec S4x128 1) (v387 : FVec Ideal S4x128 .f32) (X_arg3 : BufTy.Contents (Elt Ideal) arg3.view.ty) (X_arg7 : BufTy.Contents (Elt Ideal) arg7.view.ty)
    (init : FVec Ideal S4x32x128 .f32 × FVec Ideal S4x32x128 .f32) (i : S4x32x128.Idx) (p : Prop) (h : Ind (init.1 i) p) :
    Ind ((st_k0_t8 (F := Ideal) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 init k0_t8_loop.trips).1 i)
      (p ∨ ∃ k, ∃ s ∈ shifts9, near1 arg3 X_arg3 arg7 X_arg7 v263 v265 v267 (Scalar.indexCast (dx8 k)).toNat 4 (dx8_lt k) (by decide) s.1 i = 1#1) :=
  steps_ind (fun n => (st_k0_t8 (F := Ideal) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 init n).1 i) _ p h fun k q hq => by
    show Ind ((st_k0_t8 (F := Ideal) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 init (k.val + 1)).1 i) _
    rw [st_k0_t8_succ]
    show Ind (((trip_k0_t8 (F := Ideal) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 k).1 _).1 i) _
    rw [t8_max]
    exact (maxV_ind _ _ i q hq).congr (by simp)

/-- Loop 8's second maximum at a place: some trip's test at some shift. -/
theorem st8_ind2 (v53 : IVec S4x128 32) (v255 : FVec Ideal S4x32x128 .f32) (v257 : FVec Ideal S4x32x128 .f32) (v259 : FVec Ideal S4x32x128 .f32) (v261 : FVec Ideal S4x32x128 .f32) (v263 : FVec Ideal S4x32x128 .f32) (v265 : FVec Ideal S4x32x128 .f32) (v267 : FVec Ideal S4x32x128 .f32) (v330 : IVec S4x32x128 1) (v361 : FVec Ideal S4x1 .f32) (v377 : FVec Ideal S4x1 .f32) (v379 : IVec S4x128 1) (v381 : IVec S4x128 1) (v387 : FVec Ideal S4x128 .f32) (X_arg3 : BufTy.Contents (Elt Ideal) arg3.view.ty) (X_arg7 : BufTy.Contents (Elt Ideal) arg7.view.ty)
    (init : FVec Ideal S4x32x128 .f32 × FVec Ideal S4x32x128 .f32) (i : S4x32x128.Idx) (p : Prop) (h : Ind (init.2 i) p) :
    Ind ((st_k0_t8 (F := Ideal) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 init k0_t8_loop.trips).2 i)
      (p ∨ ∃ k, ∃ s ∈ shifts9, near2 arg3 X_arg3 v255 v257 v259 (Scalar.indexCast (dx8 k)).toNat 4 (dx8_lt k) (by decide) s.1 i = 1#1) :=
  steps_ind (fun n => (st_k0_t8 (F := Ideal) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 init n).2 i) _ p h fun k q hq => by
    show Ind ((st_k0_t8 (F := Ideal) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 init (k.val + 1)).2 i) _
    rw [st_k0_t8_succ]
    show Ind (((trip_k0_t8 (F := Ideal) 𝒱 c bd arg0 harg0 arg1 harg1 arg2 harg2 arg3 harg3 arg4 harg4 arg5 harg5 arg6 harg6 arg7 harg7 arg8 harg8 v53 v255 v257 v259 v261 v263 v265 v267 v330 v361 v377 v379 v381 v387 X_arg3 X_arg7 k).1 _).2 i) _
    rw [t8_max]
    exact (maxV_ind _ _ i q hq).congr (by simp)

end Cert.KernelIdeal.Trips

end
-- ==== Proof.Words.lean ====
module

public import proofs.«01_k».proof.Proof.Phases

@[expose] public section

set_option maxRecDepth 16384

noncomputable section

namespace Cert.KernelIdeal.Trips

open Cert.KernelIdeal Cert.KernelIdeal.Gen
open Idealize.ShloMosaic Idealize.ShloMosaic.TcCoe
open Cert.KernelIdeal.Body
open Idealize.SL Idealize.SL.RA Idealize.SL.BI Idealize.SL.Sem

/-! The words the first pass stores, read at a place. -/

/-- The words of one group at one stored plane, as stored. -/
def wPiece (d : Fin 5) (g : ℕ) (hg : g ≤ 4) (W : IVec S4x32x128 32) : View.Piece (Elt Ideal) S5x8x32x128 .i32 :=
  ⟨Rect.unit (s := S5x8x32x128) ![d.val, g, 0, 0] S1x4x32x128.size (inb8 d.isLt hg),
    shapeCast S1x4x32x128 W shapeCasts_S4x32x128_S1x4x32x128⟩

/-- The words of one group at one stored plane: the first pass's tests, each in its bit. -/
def words (M : Memref sig .tc .vmem S8x5x8x40x384 .f32) (X : BufTy.Contents (Elt Ideal) M.view.ty)
    (thr : Ideal .f32) (conf cz cx cy : FVec Ideal S4x32x128 .f32) (g : ℕ) (hg : g ≤ 4) (l : List Sh) (d : Fin 5) :
    IVec S4x32x128 32 :=
  orV (broadcast S4x32x128 0#32) ((bitsOf 0 l).map fun s =>
    (s.1, hit M X thr conf cz cx cy (BitVec.ofNat 32 d.val) d.val g d.isLt hg s.2))

/-- Adding a leading axis of one to the words keeps every entry. -/
theorem cast_w (W : IVec S4x32x128 32) (b : Fin 4) (x : Fin 32) (L : Fin 128) :
    shapeCast S1x4x32x128 W shapeCasts_S4x32x128_S1x4x32x128 (ix4 (0 : Fin 1) b x L) = W (ix3 b x L) := by
  pointwise []

/-- Reading past one group's words, or in them. -/
theorem read_w_cons (M : Memref sig .tc .vmem S5x8x32x128 .i32) (f : BufTy.Contents (Elt Ideal) M.view.ty)
    (d' : Fin 5) (g' : ℕ) (hg' : g' ≤ 4) (W : IVec S4x32x128 32) (L : List (View.Piece (Elt Ideal) S5x8x32x128 .i32))
    (d : Fin 5) (g : ℕ) (hg : g ≤ 4) (h : g = 0 ∨ g = 4) (h' : g' = 0 ∨ g' = 4) (b : Fin 4) (x : Fin 32) (l : Fin 128) :
    M.view.read (Elt Ideal) (M.view.writes (Elt Ideal) f (wPiece d' g' hg' W :: L))
        (ix4 d (⟨g + b.val, by omega⟩ : Fin 8) x l)
      = if d = d' ∧ g = g' then W (ix3 b x l)
        else M.view.read (Elt Ideal) (M.view.writes (Elt Ideal) f L) (ix4 d (⟨g + b.val, by omega⟩ : Fin 8) x l) := by
  split
  · rename_i e
    obtain ⟨rfl, rfl⟩ := e
    refine (View.read_writes_cons_unit_of_mem M.view f (inb8 d.isLt hg') _ L (ix4 d (⟨g + b.val, by omega⟩ : Fin 8) x l)
      (ix4 0 b x l) rfl ?_).trans (cast_w W b x l)
    intro a
    fin_cases a
    · show d.val = d.val + 0; omega
    · show g + b.val = g + b.val; omega
    · show x.val = 0 + x.val; omega
    · show l.val = 0 + l.val; omega
  · rename_i e
    by_cases hd : d = d'
    · refine View.read_writes_cons_unit_of_not_mem _ _ _ _ _ _ rfl 1 ?_
      show g + b.val < g' ∨ g' + 4 ≤ g + b.val
      have : g ≠ g' := fun e' => e ⟨hd, e'⟩
      omega
    · refine View.read_writes_cons_unit_of_not_mem _ _ _ _ _ _ rfl 0 ?_
      show d.val < d'.val ∨ d'.val + 1 ≤ d.val
      have : d.val ≠ d'.val := fun e' => hd (Fin.ext e')
      omega

/-- The words of all the loops, read at a place. -/
theorem read_words (M : Memref sig .tc .vmem S5x8x32x128 .i32) (f : BufTy.Contents (Elt Ideal) M.view.ty)
    (W1 W2 W3 : Fin 5 → IVec S4x32x128 32) (b : Fin 4) (x : Fin 32) (l : Fin 128) (d : Fin 5) (g : ℕ) (hg : g ≤ 4)
    (W : Fin 5 → IVec S4x32x128 32)
    (h : (g = 0 ∧ (d = 1 ∨ d = 2 ∨ d = 3) ∧ W = W1) ∨ (g = 0 ∧ (d = 0 ∨ d = 4) ∧ W = W2)
      ∨ (g = 4 ∧ (d = 1 ∨ d = 2 ∨ d = 3) ∧ W = W3)) :
    M.view.read (Elt Ideal) (M.view.writes (Elt Ideal) f
      ([wPiece 3 4 (by decide) (W3 3), wPiece 2 4 (by decide) (W3 2), wPiece 1 4 (by decide) (W3 1)]
        ++ ([wPiece 4 0 (by decide) (W2 4), wPiece 0 0 (by decide) (W2 0)]
        ++ [wPiece 3 0 (by decide) (W1 3), wPiece 2 0 (by decide) (W1 2), wPiece 1 0 (by decide) (W1 1)])))
        (ix4 d (⟨g + b.val, by omega⟩ : Fin 8) x l) = W d (ix3 b x l) := by
  have hg0 : g = 0 ∨ g = 4 := by omega
  simp only [List.cons_append, List.nil_append]
  repeat rw [read_w_cons (hg := hg) (h := hg0) (h' := by decide)]
  rcases h with ⟨rfl, h, rfl⟩ | ⟨rfl, h, rfl⟩ | ⟨rfl, h, rfl⟩
  · rcases h with rfl | rfl | rfl <;> rfl
  · rcases h with rfl | rfl <;> rfl
  · rcases h with rfl | rfl | rfl <;> rfl

variable {𝒱 : Variants} {c : Dev nD} {bd : Option 𝒱.V} {arg0 : Memref sig .tc .vmem S8x4x40x384 .f32} {harg0 : arg0.IsWhole} {arg1 : Memref sig .tc .vmem S8x4x40x384 .f32} {harg1 : arg1.IsWhole} {arg2 : Memref sig .tc .vmem S8x128 .f32} {harg2 : arg2.IsWhole} {arg3 : Memref sig .tc .vmem S8x5x8x40x384 .f32} {harg3 : arg3.IsWhole} {arg4 : Memref sig .tc .vmem S8x40x384 .f32} {harg4 : arg4.IsWhole} {arg5 : Memref sig .tc .vmem S8x40x384 .f32} {harg5 : arg5.IsWhole} {arg6 : Memref sig .tc .vmem S5x8x40x384 .f32} {harg6 : arg6.IsWhole} {arg7 : Memref sig .tc .vmem S5x8x40x384 .f32} {harg7 : arg7.IsWhole} {arg8 : Memref sig .tc .vmem S5x8x32x128 .i32} {harg8 : arg8.IsWhole}

/-- The words loop 1 stores, last first. -/
theorem st1_list (v55 : FVec Ideal S8x40x384 .f32) (v62 : FVec Ideal S8x40x384 .f32) (v69 : FVec Ideal S8x40x384 .f32) (v76 : FVec Ideal S8x40x384 .f32) (v78 : FVec Ideal S8x40x384 .f32) (v85 : FVec Ideal S8x40x384 .f32) (v92 : FVec Ideal S8x40x384 .f32) (v99 : FVec Ideal S8x40x384 .f32) (v228 : FVec Ideal S8x40x384 .f32) (cst_210 : Ideal .f32) (X_arg3 : BufTy.Contents (Elt Ideal) arg3.view.ty)
    (init : FVec Ideal S4x32x128 .f32) :
    (st_k0_t1 (F := Ideal) 𝒱 c bd arg0 harg0 arg1 harg1 arg2 harg2 arg3 harg3 arg4 harg4 arg5 harg5 arg6 harg6 arg7 harg7 arg8 harg8 v55 v62 v69 v76 v78 v85 v92 v99 v228 cst_210 X_arg3 init k0_t1_loop.trips).2
      = [wPiece 3 0 (by decide) (words arg3 X_arg3 cst_210 (k0_pay308 v55) (k0_pay309 v62) (k0_pay310 v69) (k0_pay311 v76) 0 (by decide) shifts21 3), wPiece 2 0 (by decide) (words arg3 X_arg3 cst_210 (k0_pay308 v55) (k0_pay309 v62) (k0_pay310 v69) (k0_pay311 v76) 0 (by decide) shifts21 2), wPiece 1 0 (by decide) (words arg3 X_arg3 cst_210 (k0_pay308 v55) (k0_pay309 v62) (k0_pay310 v69) (k0_pay311 v76) 0 (by decide) shifts21 1)] :=
  ((congrArg Prod.snd (st_k0_t1_succ (F := Ideal) 𝒱 c bd arg0 harg0 arg1 harg1 arg2 harg2 arg3 harg3 arg4 harg4 arg5 harg5 arg6 harg6 arg7 harg7 arg8 harg8 v55 v62 v69 v76 v78 v85 v92 v99 v228 cst_210 X_arg3 init ⟨2, by decide⟩)).trans
    (congrArg₂ (· ++ ·) (t1_bits (F := Ideal) v55 v62 v69 v76 v78 v85 v92 v99 v228 cst_210 X_arg3 ⟨2, by decide⟩ _) ((congrArg Prod.snd (st_k0_t1_succ (F := Ideal) 𝒱 c bd arg0 harg0 arg1 harg1 arg2 harg2 arg3 harg3 arg4 harg4 arg5 harg5 arg6 harg6 arg7 harg7 arg8 harg8 v55 v62 v69 v76 v78 v85 v92 v99 v228 cst_210 X_arg3 init ⟨1, by decide⟩)).trans
    (congrArg₂ (· ++ ·) (t1_bits (F := Ideal) v55 v62 v69 v76 v78 v85 v92 v99 v228 cst_210 X_arg3 ⟨1, by decide⟩ _) ((congrArg Prod.snd (st_k0_t1_succ (F := Ideal) 𝒱 c bd arg0 harg0 arg1 harg1 arg2 harg2 arg3 harg3 arg4 harg4 arg5 harg5 arg6 harg6 arg7 harg7 arg8 harg8 v55 v62 v69 v76 v78 v85 v92 v99 v228 cst_210 X_arg3 init ⟨0, by decide⟩)).trans
    (congrArg₂ (· ++ ·) (t1_bits (F := Ideal) v55 v62 v69 v76 v78 v85 v92 v99 v228 cst_210 X_arg3 ⟨0, by decide⟩ _) rfl))))))

/-- The words loop 2 stores, last first. -/
theorem st2_list (v237 : FVec Ideal S4x32x128 .f32) (v239 : FVec Ideal S4x32x128 .f32) (v241 : FVec Ideal S4x32x128 .f32) (v243 : FVec Ideal S4x32x128 .f32) (v253 : FVec Ideal S4x32x128 .f32) (v255 : FVec Ideal S4x32x128 .f32) (v257 : FVec Ideal S4x32x128 .f32) (v259 : FVec Ideal S4x32x128 .f32) (v271 : FVec Ideal S4x32x128 .f32) (v274 : FVec Ideal S4x32x128 .f32) (cst_214 : Ideal .f32) (X_arg3 : BufTy.Contents (Elt Ideal) arg3.view.ty)
    (init : FVec Ideal S4x32x128 .f32) :
    (st_k0_t2 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 X_arg3 init k0_t2_loop.trips).2
      = [wPiece 4 0 (by decide) (words arg3 X_arg3 cst_214 v237 v239 v241 v243 0 (by decide) shifts9 4), wPiece 0 0 (by decide) (words arg3 X_arg3 cst_214 v237 v239 v241 v243 0 (by decide) shifts9 0)] :=
  ((congrArg Prod.snd (st_k0_t2_succ (F := Ideal) 𝒱 c bd arg0 harg0 arg1 harg1 arg2 harg2 arg3 harg3 arg4 harg4 arg5 harg5 arg6 harg6 arg7 harg7 arg8 harg8 v237 v239 v241 v243 v253 v255 v257 v259 v271 v274 cst_214 X_arg3 init ⟨1, by decide⟩)).trans
    (congrArg₂ (· ++ ·) (t2_bits (F := Ideal) v237 v239 v241 v243 v253 v255 v257 v259 v271 v274 cst_214 X_arg3 ⟨1, by decide⟩ _) ((congrArg Prod.snd (st_k0_t2_succ (F := Ideal) 𝒱 c bd arg0 harg0 arg1 harg1 arg2 harg2 arg3 harg3 arg4 harg4 arg5 harg5 arg6 harg6 arg7 harg7 arg8 harg8 v237 v239 v241 v243 v253 v255 v257 v259 v271 v274 cst_214 X_arg3 init ⟨0, by decide⟩)).trans
    (congrArg₂ (· ++ ·) (t2_bits (F := Ideal) v237 v239 v241 v243 v253 v255 v257 v259 v271 v274 cst_214 X_arg3 ⟨0, by decide⟩ _) rfl))))

/-- The words loop 3 stores, last first. -/
theorem st3_list (v237 : FVec Ideal S4x32x128 .f32) (v239 : FVec Ideal S4x32x128 .f32) (v241 : FVec Ideal S4x32x128 .f32) (v243 : FVec Ideal S4x32x128 .f32) (v253 : FVec Ideal S4x32x128 .f32) (v255 : FVec Ideal S4x32x128 .f32) (v257 : FVec Ideal S4x32x128 .f32) (v259 : FVec Ideal S4x32x128 .f32) (v271 : FVec Ideal S4x32x128 .f32) (v274 : FVec Ideal S4x32x128 .f32) (cst_214 : Ideal .f32) (X_arg3 : BufTy.Contents (Elt Ideal) arg3.view.ty)
    (init : FVec Ideal S4x32x128 .f32) :
    (st_k0_t3 (F := Ideal) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 init k0_t3_loop.trips).2
      = [wPiece 3 4 (by decide) (words arg3 X_arg3 (Scalar.ofBits .f32 0x3F0BE1F6#32) v253 v255 v257 v259 4 (by decide) shifts9 3), wPiece 2 4 (by decide) (words arg3 X_arg3 (Scalar.ofBits .f32 0x3F0BE1F6#32) v253 v255 v257 v259 4 (by decide) shifts9 2), wPiece 1 4 (by decide) (words arg3 X_arg3 (Scalar.ofBits .f32 0x3F0BE1F6#32) v253 v255 v257 v259 4 (by decide) shifts9 1)] :=
  ((congrArg Prod.snd (st_k0_t3_succ (F := Ideal) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 init ⟨2, by decide⟩)).trans
    (congrArg₂ (· ++ ·) (t3_bits (F := Ideal) v237 v239 v241 v243 v253 v255 v257 v259 v271 v274 cst_214 X_arg3 ⟨2, by decide⟩ _) ((congrArg Prod.snd (st_k0_t3_succ (F := Ideal) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 init ⟨1, by decide⟩)).trans
    (congrArg₂ (· ++ ·) (t3_bits (F := Ideal) v237 v239 v241 v243 v253 v255 v257 v259 v271 v274 cst_214 X_arg3 ⟨1, by decide⟩ _) ((congrArg Prod.snd (st_k0_t3_succ (F := Ideal) 𝒱 c bd arg0 harg0 arg1 harg1 arg2 harg2 arg3 harg3 arg4 harg4 arg5 harg5 arg6 harg6 arg7 harg7 arg8 harg8 v237 v239 v241 v243 v253 v255 v257 v259 v271 v274 cst_214 (Scalar.ofBits .f32 0x3F0BE1F6#32) X_arg3 init ⟨0, by decide⟩)).trans
    (congrArg₂ (· ++ ·) (t3_bits (F := Ideal) v237 v239 v241 v243 v253 v255 v257 v259 v271 v274 cst_214 X_arg3 ⟨0, by decide⟩ _) rfl))))))

end Cert.KernelIdeal.Trips

end
-- ==== Proof.Sem.lean ====
module

public import proofs.«01_k».proof.Proof.Words

@[expose] public section

set_option maxRecDepth 16384

noncomputable section

namespace Cert.KernelIdeal.Trips

open Cert.KernelIdeal Cert.KernelIdeal.Gen
open Idealize.ShloMosaic Idealize.ShloMosaic.TcCoe
open Cert.KernelIdeal.Body
open Idealize.SL Idealize.SL.RA Idealize.SL.BI Idealize.SL.Sem

/-! What the passes test, in terms of the channels. -/

/-- The squared distance of two places. -/
def sq (a1 a2 a3 b1 b2 b3 : EReal) : EReal := (a1 - b1) * (a1 - b1) + (a2 - b2) * (a2 - b2) + (a3 - b3) * (a3 - b3)

/-- The stored row of a grid row. -/
def row (x : Fin 32) : Fin 40 := ⟨4 + x.val, by omega⟩

/-- A stored lane. -/
def lan (o : Fin 257) (L : Fin 128) : Fin 384 := ⟨o.val + L.val, by omega⟩

/-- A batch of one of the two groups. -/
def gr (g : ℕ) (hg : g ≤ 4) (b : Fin 4) : Fin 8 := ⟨g + b.val, by omega⟩

/-- Eight channels over the stored rows and lanes. -/
abbrev Fld := Fin 8 → Fin 8 → Fin 40 → Fin 384 → EReal

/-- The comparison of a neighbour's confidence with the centre's. -/
def rankP (d : Fin 5) (cs conf : EReal) : Cmp → Prop
  | .ge => conf ≤ cs
  | .gt => conf < cs
  | .tie dy => conf < cs ∨ (cs = conf ∧
      Scalar.cmpi .slt (Scalar.addi (Scalar.muli (Scalar.subi (BitVec.ofNat 32 d.val) 2#32) 32#32) dy) 0#32 = 1#1)

/-- The first pass's test at one shift. -/
def HitP (thr : EReal) (k : Fld) (q : Fin 8) (d : Fin 5) (s : Sh) (x : Fin 32) (L : Fin 128) : Prop :=
  (sq (k 1 q (shr x d) (lan s.1 L)) (k 2 q (shr x d) (lan s.1 L)) (k 3 q (shr x d) (lan s.1 L))
      (k 1 q (row x) (lan 128 L)) (k 2 q (row x) (lan 128 L)) (k 3 q (row x) (lan 128 L)) < thr
    ∧ rankP d (k 0 q (shr x d) (lan s.1 L)) (k 0 q (row x) (lan 128 L)) s.2)
  ∧ Ideal.ofBits .f32 0x3F333333#32 < k 0 q (shr x d) (lan s.1 L)

/-- The matching's first test at one shift. -/
def Near1 (k : Fld) (S : Fin 8 → Fin 40 → Fin 384 → EReal) (q : Fin 8) (d : Fin 5) (o : Fin 257) (x : Fin 32)
    (L : Fin 128) : Prop :=
  sq (k 1 q (shr x d) (lan o L)) (k 2 q (shr x d) (lan o L)) (k 3 q (shr x d) (lan o L))
      (k 5 q (row x) (lan 128 L)) (k 6 q (row x) (lan 128 L)) (k 7 q (row x) (lan 128 L))
        < Ideal.ofBits .f32 0x3E800000#32
    ∧ S q (shr x d) (lan o L) ≠ 0

/-- The matching's second test at one shift. -/
def Near2 (k : Fld) (q : Fin 8) (d : Fin 5) (o : Fin 257) (x : Fin 32) (L : Fin 128) : Prop :=
  sq (k 5 q (shr x d) (lan o L)) (k 6 q (shr x d) (lan o L)) (k 7 q (shr x d) (lan o L))
      (k 1 q (row x) (lan 128 L)) (k 2 q (row x) (lan 128 L)) (k 3 q (row x) (lan 128 L))
        < Ideal.ofBits .f32 0x3E800000#32
    ∧ Ideal.ofBits .f32 0x3F000000#32 < k 4 q (shr x d) (lan o L)

/-- The stored planes hold the channels. -/
def Holds (M : Memref sig .tc .vmem S8x5x8x40x384 .f32) (X : BufTy.Contents (Elt Ideal) M.view.ty) (k : Fld) : Prop :=
  ∀ (c : Fin 8) (d : Fin 5), (c, d) ∈ chList → ∀ (q : Fin 8) (x : Fin 32) (l : Fin 384),
    M.view.read (Elt Ideal) X (ix5 c d q (row x) l) = k c q (shr x d) l

/-- The stored copies of one plane hold it, at some of the shifts. -/
def Holds1 (M : Memref sig .tc .vmem S5x8x40x384 .f32) (X : BufTy.Contents (Elt Ideal) M.view.ty)
    (S : Fin 8 → Fin 40 → Fin 384 → EReal) (ds : List (Fin 5)) : Prop :=
  ∀ d ∈ ds, ∀ (q : Fin 8) (x : Fin 32) (l : Fin 384),
    M.view.read (Elt Ideal) X (ix4 d q (row x) l) = S q (shr x d) l

/-- A vector of centres holds a channel. -/
def Cen (v : FVec Ideal S4x32x128 .f32) (f : Fin 8 → Fin 40 → Fin 384 → EReal) (g : ℕ) (hg : g ≤ 4) : Prop :=
  ∀ (b : Fin 4) (x : Fin 32) (L : Fin 128), v (ix3 b x L) = f (gr g hg b) (row x) (lan 128 L)

/-- A window of the stored planes, read at a place, is the channel at the shifted place. -/
theorem win_val {M : Memref sig .tc .vmem S8x5x8x40x384 .f32} {X : BufTy.Contents (Elt Ideal) M.view.ty} {k : Fld}
    (hX : Holds M X k) (c d g : ℕ) (hc : c < 8) (hd : d < 5) (hg : g ≤ 4)
    (h : ((⟨c, hc⟩ : Fin 8), (⟨d, hd⟩ : Fin 5)) ∈ chList) (o : Fin 257) (b : Fin 4) (x : Fin 32) (L : Fin 128) :
    win M X c d g hc hd hg o (ix3 b x L) = k ⟨c, hc⟩ (gr g hg b) (shr x ⟨d, hd⟩) (lan o L) :=
  (win_at M X c d g hc hd hg o b x L).trans (hX _ _ h _ x _)

/-- The predictions' channels are stored at every row shift. -/
theorem mem_low : ∀ (c : Fin 8) (d : Fin 5), c.val < 4 → (c, d) ∈ chList := by decide

/-- Every channel is stored at the three inner row shifts. -/
theorem mem_high : ∀ (c : Fin 8) (d : Fin 5), d ∈ ([1, 2, 3] : List (Fin 5)) → (c, d) ∈ chList := by decide

/-- The kernel's squared distance, read at a place. -/
theorem dist2_at (s1 s2 s3 cz cx cy : FVec Ideal S4x32x128 .f32) (i : S4x32x128.Idx) :
    dist2 s1 s2 s3 cz cx cy i = sq (s1 i) (s2 i) (s3 i) (cz i) (cx i) (cy i) := rfl

/-- The kernel's bit for coming before in the order, read at a place. -/
theorem rank_iff (dxi : BitVec 32) (d : Fin 5) (h : dxi = BitVec.ofNat 32 d.val) (cs conf : FVec Ideal S4x32x128 .f32)
    (i : S4x32x128.Idx) (t : Cmp) : rank dxi cs conf t i = 1#1 ↔ rankP d (cs i) (conf i) t := by
  subst h
  cases t with
  | ge => exact bit_iff
  | gt => exact bit_iff
  | tie dy => exact (or_iff _ _).trans (or_congr bit_iff ((and_iff _ _).trans (and_congr bit_iff Iff.rfl)))

/-- The first pass's test, read at a place. -/
theorem hit_iff {M : Memref sig .tc .vmem S8x5x8x40x384 .f32} {X : BufTy.Contents (Elt Ideal) M.view.ty} {k : Fld}
    (hX : Holds M X k) (thr : Ideal .f32) {conf cz cx cy : FVec Ideal S4x32x128 .f32} {g : ℕ} {hg : g ≤ 4}
    (h0 : Cen conf (k 0) g hg) (h1 : Cen cz (k 1) g hg) (h2 : Cen cx (k 2) g hg) (h3 : Cen cy (k 3) g hg)
    {dxi : BitVec 32} {d : ℕ} {hd : d < 5} (hdx : dxi = BitVec.ofNat 32 d) (s : Sh) (b : Fin 4) (x : Fin 32)
    (L : Fin 128) :
    hit M X thr conf cz cx cy dxi d g hd hg s (ix3 b x L) = 1#1
      ↔ HitP thr k (gr g hg b) ⟨d, hd⟩ s x L := by
  have w := fun (c : ℕ) (hc : c < 8) (h : c < 4) => win_val hX c d g hc hd hg (mem_low ⟨c, hc⟩ ⟨d, hd⟩ h) s.1 b x L
  refine (and_iff _ _).trans (and_congr ((and_iff _ _).trans (and_congr (bit_iff.trans ?_)
    ((rank_iff dxi ⟨d, hd⟩ hdx _ _ _ s.2).trans ?_))) (bit_iff.trans ?_))
  · rw [dist2_at, w 1 _ (by decide), w 2 _ (by decide), w 3 _ (by decide), h1, h2, h3]
    rfl
  · rw [w 0 _ (by decide), h0]
    rfl
  · rw [w 0 _ (by decide)]
    rfl

/-- The matching's first test, read at a place. -/
theorem near1_iff {M : Memref sig .tc .vmem S8x5x8x40x384 .f32} {X : BufTy.Contents (Elt Ideal) M.view.ty} {k : Fld}
    (hX : Holds M X k) {N : Memref sig .tc .vmem S5x8x40x384 .f32} {Y : BufTy.Contents (Elt Ideal) N.view.ty}
    {S : Fin 8 → Fin 40 → Fin 384 → EReal} {ds : List (Fin 5)} (hY : Holds1 N Y S ds)
    {cz cx cy : FVec Ideal S4x32x128 .f32} {g : ℕ} {hg : g ≤ 4}
    (h1 : Cen cz (k 5) g hg) (h2 : Cen cx (k 6) g hg) (h3 : Cen cy (k 7) g hg)
    {d : ℕ} {hd : d < 5} (hds : (⟨d, hd⟩ : Fin 5) ∈ ds) (o : Fin 257) (b : Fin 4) (x : Fin 32) (L : Fin 128) :
    near1 M X N Y cz cx cy d g hd hg o (ix3 b x L) = 1#1 ↔ Near1 k S (gr g hg b) ⟨d, hd⟩ o x L := by
  have w := fun (c : ℕ) (hc : c < 8) (h : c < 4) => win_val hX c d g hc hd hg (mem_low ⟨c, hc⟩ ⟨d, hd⟩ h) o b x L
  refine (and_iff _ _).trans (and_congr (bit_iff.trans ?_) (bit_iff.trans ?_))
  · rw [dist2_at, w 1 _ (by decide), w 2 _ (by decide), w 3 _ (by decide), h1, h2, h3]
    rfl
  · rw [(win1_at N Y d g hd hg o b x L).trans (hY _ hds _ x _)]
    exact not_congr (by rw [show (broadcast S4x32x128 (Scalar.ofBits (F := Ideal) FTy.f32 0x00000000#32)) (ix3 b x L) = 0 from zero_word]; rfl)

/-- The matching's second test, read at a place. -/
theorem near2_iff {M : Memref sig .tc .vmem S8x5x8x40x384 .f32} {X : BufTy.Contents (Elt Ideal) M.view.ty} {k : Fld}
    (hX : Holds M X k) {cz cx cy : FVec Ideal S4x32x128 .f32} {g : ℕ} {hg : g ≤ 4}
    (h1 : Cen cz (k 1) g hg) (h2 : Cen cx (k 2) g hg) (h3 : Cen cy (k 3) g hg)
    {d : ℕ} {hd : d < 5} (hds : (⟨d, hd⟩ : Fin 5) ∈ ([1, 2, 3] : List (Fin 5))) (o : Fin 257) (b : Fin 4) (x : Fin 32)
    (L : Fin 128) :
    near2 M X cz cx cy d g hd hg o (ix3 b x L) = 1#1 ↔ Near2 k (gr g hg b) ⟨d, hd⟩ o x L := by
  have w := fun (c : ℕ) (hc : c < 8) => win_val hX c d g hc hd hg (mem_high ⟨c, hc⟩ ⟨d, hd⟩ hds) o b x L
  refine (and_iff _ _).trans (and_congr (bit_iff.trans ?_) (bit_iff.trans ?_))
  · rw [dist2_at, w 5 _, w 6 _, w 7 _, h1, h2, h3]
    rfl
  · rw [w 4 _]
    rfl

/-- The trips of a loop go over the stored planes of a list. -/
theorem ex_dx {T : ℕ} (D : Fin T → Fin 5) (l : List (Fin 5)) (h1 : ∀ k, D k ∈ l) (h2 : ∀ d ∈ l, ∃ k, D k = d)
    (Q : Fin 5 → Prop) : (∃ k, Q (D k)) ↔ ∃ d ∈ l, Q d :=
  ⟨fun ⟨k, h⟩ => ⟨D k, h1 k, h⟩, fun ⟨d, hd, h⟩ => let ⟨k, e⟩ := h2 d hd; ⟨k, e ▸ h⟩⟩

/-- Some shift of a group: for the first group also the far rows. -/
def Any (g : ℕ) (Q : Fin 5 → Sh → Prop) : Prop :=
  if g = 0 then (∃ d ∈ ([1, 2, 3] : List (Fin 5)), ∃ s ∈ shifts21, Q d s)
    ∨ (∃ d ∈ ([0, 4] : List (Fin 5)), ∃ s ∈ shifts9, Q d s)
  else ∃ d ∈ ([1, 2, 3] : List (Fin 5)), ∃ s ∈ shifts9, Q d s

end Cert.KernelIdeal.Trips

end
-- ==== Proof.Contents.lean ====
module

public import proofs.«01_k».proof.Proof.Sem

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem

/-! The centres. -/

/-- The centres of the first group read at a place: the plane's inner rows and middle lanes. -/
theorem slice0_at (P : FVec Ideal S8x40x384 .f32) (b : Fin 4) (x : Fin 32) (L : Fin 128) :
    extractStridedSlice S4x32x128 ![0, 4, 128] (extractStridedSlice S4x40x384 ![0, 0, 0] P
      slices_S8x40x384_o0_0_0_S4x40x384) slices_S4x40x384_o0_4_128_S4x32x128 (ix3 b x L)
      = P (ix3 (gr 0 (by decide) b) (row x) (lan 128 L)) := by
  refine congrArg P ?_
  funext a
  fin_cases a
  · exact Fin.ext (by show 0 + (0 + b.val) = 0 + b.val; omega)
  · exact Fin.ext (by show 0 + (4 + x.val) = 4 + x.val; omega)
  · exact Fin.ext (by show 0 + (128 + L.val) = 128 + L.val; omega)

/-- The centres of the second group read at a place: the plane's inner rows and middle lanes. -/
theorem slice4_at (P : FVec Ideal S8x40x384 .f32) (b : Fin 4) (x : Fin 32) (L : Fin 128) :
    extractStridedSlice S4x32x128 ![0, 4, 128] (extractStridedSlice S4x40x384 ![4, 0, 0] P
      slices_S8x40x384_o4_0_0_S4x40x384) slices_S4x40x384_o0_4_128_S4x32x128 (ix3 b x L)
      = P (ix3 (gr 4 (by decide) b) (row x) (lan 128 L)) := by
  refine congrArg P ?_
  funext a
  fin_cases a
  · exact Fin.ext (by show 4 + (0 + b.val) = 4 + b.val; omega)
  · exact Fin.ext (by show 0 + (4 + x.val) = 4 + x.val; omega)
  · exact Fin.ext (by show 0 + (128 + L.val) = 128 + L.val; omega)

/-! A plane and its shifted copies. -/

/-- One store of a shifted copy. -/
def cpPiece (d : Fin 5) (P : S8x32x384.Idx → EReal) : View.Piece (Elt Ideal) S5x8x40x384 .f32 :=
  ⟨Rect.unit (s := S5x8x40x384) ![d.val, 0, 4, 0] S1x8x32x384.size (by revert d; decide),
    shapeCast S1x8x32x384 P shapeCasts_S8x32x384_S1x8x32x384⟩

/-- Adding a leading axis of one to a plane keeps every entry. -/
theorem cast_cp (v : S8x32x384.Idx → EReal) (h) (q : Fin 8) (x : Fin 32) (l : Fin 384) :
    shapeCast S1x8x32x384 v h (ix4 0 q x l) = v (ix3 q x l) := by
  pointwise []

/-- Reading past one stored copy: its own plane inside it, the earlier stores elsewhere. -/
theorem read_cp_cons (M : Memref sig .tc .vmem S5x8x40x384 .f32) (f : BufTy.Contents (Elt Ideal) M.view.ty)
    (d' : Fin 5) (P : S8x32x384.Idx → EReal) (L : List (View.Piece (Elt Ideal) S5x8x40x384 .f32))
    (d : Fin 5) (q : Fin 8) (x : Fin 32) (l : Fin 384) :
    M.view.read (Elt Ideal) (M.view.writes (Elt Ideal) f (cpPiece d' P :: L)) (ix4 d q (row x) l)
      = if d = d' then P (ix3 q x l)
        else M.view.read (Elt Ideal) (M.view.writes (Elt Ideal) f L) (ix4 d q (row x) l) := by
  split
  · rename_i e
    subst e
    refine (View.read_writes_cons_unit_of_mem M.view f (by revert d; decide) _ L (ix4 d q (row x) l)
      (ix4 0 q x l) rfl ?_).trans (cast_cp P _ q x l)
    intro a
    fin_cases a
    · show d.val = d.val + 0; omega
    · show q.val = 0 + q.val; omega
    · show 4 + x.val = 4 + x.val; omega
    · show l.val = 0 + l.val; omega
  · rename_i e
    refine View.read_writes_cons_unit_of_not_mem _ _ _ _ _ _ rfl 0 ?_
    show d.val < d'.val ∨ d'.val + 1 ≤ d.val
    have : d.val ≠ d'.val := fun e' => e (Fin.ext e')
    omega

/-- The plane a list of stores leaves. -/
def plane (M : Memref sig .tc .vmem S8x40x384 .f32) (H : List (View.Piece (Elt Ideal) S8x40x384 .f32))
    (q : Fin 8) (r : Fin 40) (l : Fin 384) : EReal :=
  M.view.read (Elt Ideal) (M.view.writes (Elt Ideal) M.view.junk H) (ix3 q r l)

/-- A shifted load of the plane. -/
theorem cov_at (M : Memref sig .tc .vmem S8x40x384 .f32) (H : List (View.Piece (Elt Ideal) S8x40x384 .f32)) (d : Fin 5)
    (inb : ∀ a, (![0, d.val + 2, 0] : Fin 3 → ℕ) a + S8x32x384.size a ≤ S8x40x384.size a) (q : Fin 8) (x : Fin 32) (l : Fin 384) :
    M.view.readCov H (Rect.unit (s := S8x40x384) ![0, d.val + 2, 0] S8x32x384.size inb).toLoadRect (ix3 q x l)
      = plane M H q (shr x d) l := by
  refine (congrFun (View.readAt_unit M.view _ _ rfl inb) _).trans (congrArg (M.view.read (Elt Ideal) _) ?_)
  funext a
  fin_cases a
  · exact Fin.ext (by show 0 + 1 * q.val = q.val; omega)
  · exact Fin.ext (by show d.val + 2 + 1 * x.val = x.val + d.val + 2; omega)
  · exact Fin.ext (by show 0 + 1 * l.val = l.val; omega)

/-- The later store into a plane, read in it. -/
theorem plane_hi (M : Memref sig .tc .vmem S8x40x384 .f32) (i4) (wH : S4x32x128.Idx → EReal)
    (L : List (View.Piece (Elt Ideal) S8x40x384 .f32)) (b : Fin 4) (x : Fin 32) (l : Fin 128) (q : Fin 8) (r : Fin 40)
    (m : Fin 384) (hq : q.val = 4 + b.val) (hr : r.val = 4 + x.val) (hm : m.val = 128 + l.val) :
    plane M (⟨Rect.unit (s := S8x40x384) ![4, 4, 128] S4x32x128.size i4, wH⟩ :: L) q r m = wH (ix3 b x l) := by
  unfold plane
  have h : ∀ a : Fin 3, ((ix3 q r m : S8x40x384.Idx) a).val
      = (![4, 4, 128] : Fin 3 → ℕ) a + ((ix3 b x l : S4x32x128.Idx) a).val := by
    intro a
    fin_cases a
    · exact hq
    · exact hr
    · exact hm
  have := View.read_writes_cons_unit_of_mem M.view M.view.junk i4 wH L (ix3 q r m) (ix3 b x l) rfl h
  exact this

/-- The earlier store into a plane, read in it. -/
theorem plane_lo (M : Memref sig .tc .vmem S8x40x384 .f32) (i4 i0) (wH wO : S4x32x128.Idx → EReal)
    (L : List (View.Piece (Elt Ideal) S8x40x384 .f32)) (b : Fin 4) (x : Fin 32) (l : Fin 128) (q : Fin 8) (r : Fin 40)
    (m : Fin 384) (hq : q.val = 0 + b.val) (hr : r.val = 4 + x.val) (hm : m.val = 128 + l.val) :
    plane M (⟨Rect.unit (s := S8x40x384) ![4, 4, 128] S4x32x128.size i4, wH⟩
        :: ⟨Rect.unit (s := S8x40x384) ![0, 4, 128] S4x32x128.size i0, wO⟩ :: L) q r m = wO (ix3 b x l) := by
  unfold plane
  have h : ∀ a : Fin 3, ((ix3 q r m : S8x40x384.Idx) a).val
      = (![0, 4, 128] : Fin 3 → ℕ) a + ((ix3 b x l : S4x32x128.Idx) a).val := by
    intro a
    fin_cases a
    · exact hq
    · exact hr
    · exact hm
  have h' : q.val < 4 ∨ 4 + 4 ≤ q.val := by omega
  have e1 := View.read_writes_cons_unit_of_not_mem M.view M.view.junk i4 wH
    (⟨Rect.unit (s := S8x40x384) ![0, 4, 128] S4x32x128.size i0, wO⟩ :: L) (ix3 q r m) rfl 0 h'
  have e2 := View.read_writes_cons_unit_of_mem M.view M.view.junk i0 wO L (ix3 q r m) (ix3 b x l) rfl h
  exact e1.trans e2

/-! The contents the body goes through. -/

variable (c : Dev nD)
  (M0 : Memref sig .tc .vmem S8x4x40x384 .f32) (h0 : M0.IsWhole) (M1 : Memref sig .tc .vmem S8x4x40x384 .f32) (h1 : M1.IsWhole)
  (M2 : Memref sig .tc .vmem S8x128 .f32) (h2 : M2.IsWhole) (M3 : Memref sig .tc .vmem S8x5x8x40x384 .f32) (h3 : M3.IsWhole)
  (M4 : Memref sig .tc .vmem S8x40x384 .f32) (h4 : M4.IsWhole) (M5 : Memref sig .tc .vmem S8x40x384 .f32) (h5 : M5.IsWhole)
  (M6 : Memref sig .tc .vmem S5x8x40x384 .f32) (h6 : M6.IsWhole) (M7 : Memref sig .tc .vmem S5x8x40x384 .f32) (h7 : M7.IsWhole)
  (M8 : Memref sig .tc .vmem S5x8x32x128 .i32) (h8 : M8.IsWhole)
  (f0 : Bf (F := Ideal) c M0) (f1 : Bf (F := Ideal) c M1) (f3 : Bf (F := Ideal) c M3)
  (f6 : Bf (F := Ideal) c M6) (f7 : Bf (F := Ideal) c M7) (f8 : Bf (F := Ideal) c M8)

/-- The channels. -/
abbrev kf : Fld := K (M0.view.read (Elt Ideal) f0) (M1.view.read (Elt Ideal) f1)

/-- The stored planes. -/
def X3 : BufTy.Contents (Elt Ideal) M3.view.ty :=
  M3.view.writes (Elt Ideal) f3 (kernelRun.sl.H3_32 c M0 M1 f0 f1)

/-- The first loop's state. -/
def s1 := st_k0_t1 (F := Ideal) Variants.none c none M0 h0 M1 h1 M2 h2 M3 h3 M4 h4 M5 h5 M6 h6 M7 h7 M8 h8 (kernelRun.sl.r_1 c M0 f0) (kernelRun.sl.r_2 c M0 f0)
  (kernelRun.sl.r_3 c M0 f0) (kernelRun.sl.r_4 c M0 f0) (kernelRun.sl.r_5 c M1 f1) (kernelRun.sl.r_6 c M1 f1)
  (kernelRun.sl.r_7 c M1 f1) (kernelRun.sl.r_8 c M1 f1) k0_pay305 kernelRun.sl.cst_210 (X3 c M0 M1 M3 f0 f1 f3) k0_pay326 k0_t1_loop.trips

/-- The second loop's state. -/
def s2 := st_k0_t2 (F := Ideal) Variants.none c none M0 h0 M1 h1 M2 h2 M3 h3 M4 h4 M5 h5 M6 h6 M7 h7 M8 h8 (kernelRun.sl.r_10 c M0 f0) (kernelRun.sl.r_11 c M0 f0)
  (kernelRun.sl.r_12 c M0 f0) (kernelRun.sl.r_13 c M0 f0) (kernelRun.sl.r_18 c M0 f0) (kernelRun.sl.r_19 c M0 f0)
  (kernelRun.sl.r_20 c M0 f0) (kernelRun.sl.r_21 c M0 f0) (kernelRun.sl.r_27 c M0 f0) (s1 c M0 h0 M1 h1 M2 h2 M3 h3 M4 h4 M5 h5 M6 h6 M7 h7 M8 h8 f0 f1 f3).1 kernelRun.sl.cst_214
  (X3 c M0 M1 M3 f0 f1 f3) (s1 c M0 h0 M1 h1 M2 h2 M3 h3 M4 h4 M5 h5 M6 h6 M7 h7 M8 h8 f0 f1 f3).1 k0_t2_loop.trips

/-- The third loop's state. -/
def s3 := st_k0_t3 (F := Ideal) Variants.none c none M0 h0 M1 h1 M2 h2 M3 h3 M4 h4 M5 h5 M6 h6 M7 h7 M8 h8 (kernelRun.sl.r_10 c M0 f0) (kernelRun.sl.r_11 c M0 f0)
  (kernelRun.sl.r_12 c M0 f0) (kernelRun.sl.r_13 c M0 f0) (kernelRun.sl.r_18 c M0 f0) (kernelRun.sl.r_19 c M0 f0)
  (kernelRun.sl.r_20 c M0 f0) (kernelRun.sl.r_21 c M0 f0) (kernelRun.sl.r_27 c M0 f0) (s1 c M0 h0 M1 h1 M2 h2 M3 h3 M4 h4 M5 h5 M6 h6 M7 h7 M8 h8 f0 f1 f3).1 kernelRun.sl.cst_214
  (Scalar.ofBits .f32 0x3F0BE1F6#32) (X3 c M0 M1 M3 f0 f1 f3) k0_pay334 k0_t3_loop.trips

/-- The stored words. -/
def X8 : BufTy.Contents (Elt Ideal) M8.view.ty :=
  M8.view.writes (Elt Ideal) f8 ((s3 c M0 h0 M1 h1 M2 h2 M3 h3 M4 h4 M5 h5 M6 h6 M7 h7 M8 h8 f0 f1 f3).2 ++ ((s2 c M0 h0 M1 h1 M2 h2 M3 h3 M4 h4 M5 h5 M6 h6 M7 h7 M8 h8 f0 f1 f3).2 ++ (s1 c M0 h0 M1 h1 M2 h2 M3 h3 M4 h4 M5 h5 M6 h6 M7 h7 M8 h8 f0 f1 f3).2))

/-- The stores of the first pass's result. -/
def L4 : List (View.Piece (Elt Ideal) S8x40x384 .f32) :=
  ⟨Rect.unit (s := S8x40x384) ![4, 4, 128] S4x32x128.size inb_S8x40x384_S4x32x128_4_4_128,
      k0_pay338 (kernelRun.sl.r_18 c M0 f0) (s3 c M0 h0 M1 h1 M2 h2 M3 h3 M4 h4 M5 h5 M6 h6 M7 h7 M8 h8 f0 f1 f3).1⟩
    :: ⟨Rect.unit (s := S8x40x384) ![0, 4, 128] S4x32x128.size inb_S8x40x384_S4x32x128_0_4_128,
      k0_pay332 (kernelRun.sl.r_27 c M0 f0) (s2 c M0 h0 M1 h1 M2 h2 M3 h3 M4 h4 M5 h5 M6 h6 M7 h7 M8 h8 f0 f1 f3).1⟩ :: kernelRun.sl.H4_1

/-- A shifted copy of the first pass's result. -/
def cov4 (d : Fin 5) : S8x32x384.Idx → EReal :=
  M4.view.readCov (L4 c M0 h0 M1 h1 M2 h2 M3 h3 M4 h4 M5 h5 M6 h6 M7 h7 M8 h8 f0 f1 f3) (Rect.unit (s := S8x40x384) ![0, d.val + 2, 0] S8x32x384.size (by revert d; decide)).toLoadRect

/-- The stored copies of the first pass's result. -/
def X6 : BufTy.Contents (Elt Ideal) M6.view.ty :=
  M6.view.writes (Elt Ideal) f6 (([4, 3, 2, 1, 0] : List (Fin 5)).map fun d => cpPiece d (cov4 c M0 h0 M1 h1 M2 h2 M3 h3 M4 h4 M5 h5 M6 h6 M7 h7 M8 h8 f0 f1 f3 d))

/-- The second pass's result for the first group. -/
def s5 := st_k0_t5 (F := Ideal) Variants.none c none M0 h0 M1 h1 M2 h2 M3 h3 M4 h4 M5 h5 M6 h6 M7 h7 M8 h8 (kernelRun.sl.r_26 c M0 f0) (X6 c M0 h0 M1 h1 M2 h2 M3 h3 M4 h4 M5 h5 M6 h6 M7 h7 M8 h8 f0 f1 f3 f6)
  (X8 c M0 h0 M1 h1 M2 h2 M3 h3 M4 h4 M5 h5 M6 h6 M7 h7 M8 h8 f0 f1 f3 f8)
  (st_k0_t4 (F := Ideal) Variants.none c none M0 h0 M1 h1 M2 h2 M3 h3 M4 h4 M5 h5 M6 h6 M7 h7 M8 h8 (kernelRun.sl.r_26 c M0 f0) (X6 c M0 h0 M1 h1 M2 h2 M3 h3 M4 h4 M5 h5 M6 h6 M7 h7 M8 h8 f0 f1 f3 f6)
    (X8 c M0 h0 M1 h1 M2 h2 M3 h3 M4 h4 M5 h5 M6 h6 M7 h7 M8 h8 f0 f1 f3 f8) k0_pay344 k0_t4_loop.trips) k0_t5_loop.trips

/-- The second pass's result for the second group. -/
def s6 := st_k0_t6 (F := Ideal) Variants.none c none M0 h0 M1 h1 M2 h2 M3 h3 M4 h4 M5 h5 M6 h6 M7 h7 M8 h8 (kernelRun.sl.r_29 c M0 f0)
  (k0_pay348 (kernelRun.sl.r_26 c M0 f0) (s5 c M0 h0 M1 h1 M2 h2 M3 h3 M4 h4 M5 h5 M6 h6 M7 h7 M8 h8 f0 f1 f3 f6 f8)) (kernelRun.sl.v322 M5) (X6 c M0 h0 M1 h1 M2 h2 M3 h3 M4 h4 M5 h5 M6 h6 M7 h7 M8 h8 f0 f1 f3 f6)
  (X8 c M0 h0 M1 h1 M2 h2 M3 h3 M4 h4 M5 h5 M6 h6 M7 h7 M8 h8 f0 f1 f3 f8) k0_pay350 k0_t6_loop.trips

/-- The stores of the second pass's result. -/
def L5 : List (View.Piece (Elt Ideal) S8x40x384 .f32) :=
  ⟨Rect.unit (s := S8x40x384) ![4, 4, 128] S4x32x128.size inb_S8x40x384_S4x32x128_4_4_128,
      k0_pay353 (kernelRun.sl.r_29 c M0 f0) (s6 c M0 h0 M1 h1 M2 h2 M3 h3 M4 h4 M5 h5 M6 h6 M7 h7 M8 h8 f0 f1 f3 f6 f8)⟩
    :: ⟨Rect.unit (s := S8x40x384) ![0, 4, 128] S4x32x128.size inb_S8x40x384_S4x32x128_0_4_128,
      k0_pay349 (k0_pay348 (kernelRun.sl.r_26 c M0 f0) (s5 c M0 h0 M1 h1 M2 h2 M3 h3 M4 h4 M5 h5 M6 h6 M7 h7 M8 h8 f0 f1 f3 f6 f8))⟩ :: kernelRun.sl.H5_1

/-- A shifted copy of the second pass's result. -/
def cov5 (d : Fin 5) : S8x32x384.Idx → EReal :=
  M5.view.readCov (L5 c M0 h0 M1 h1 M2 h2 M3 h3 M4 h4 M5 h5 M6 h6 M7 h7 M8 h8 f0 f1 f3 f6 f8) (Rect.unit (s := S8x40x384) ![0, d.val + 2, 0] S8x32x384.size (by revert d; decide)).toLoadRect

/-- The stored copies of the second pass's result. -/
def X7 : BufTy.Contents (Elt Ideal) M7.view.ty :=
  M7.view.writes (Elt Ideal) f7 (([3, 2, 1] : List (Fin 5)).map fun d => cpPiece d (cov5 c M0 h0 M1 h1 M2 h2 M3 h3 M4 h4 M5 h5 M6 h6 M7 h7 M8 h8 f0 f1 f3 f6 f8 d))

/-- The first group's matching. -/
def s7 := st_k0_t7 (F := Ideal) Variants.none c none M0 h0 M1 h1 M2 h2 M3 h3 M4 h4 M5 h5 M6 h6 M7 h7 M8 h8 kernelRun.sl.v53 (kernelRun.sl.r_11 c M0 f0) (kernelRun.sl.r_12 c M0 f0)
  (kernelRun.sl.r_13 c M0 f0) (kernelRun.sl.r_14 c M1 f1) (kernelRun.sl.r_15 c M1 f1) (kernelRun.sl.r_16 c M1 f1)
  (kernelRun.sl.r_17 c M1 f1) (k0_pay347 (kernelRun.sl.r_26 c M0 f0) (s5 c M0 h0 M1 h1 M2 h2 M3 h3 M4 h4 M5 h5 M6 h6 M7 h7 M8 h8 f0 f1 f3 f6 f8)) (X3 c M0 M1 M3 f0 f1 f3)
  (X7 c M0 h0 M1 h1 M2 h2 M3 h3 M4 h4 M5 h5 M6 h6 M7 h7 M8 h8 f0 f1 f3 f6 f7 f8) (k0_pay358, k0_pay359) k0_t7_loop.trips

/-- The second group's matching. -/
def s8 := st_k0_t8 (F := Ideal) Variants.none c none M0 h0 M1 h1 M2 h2 M3 h3 M4 h4 M5 h5 M6 h6 M7 h7 M8 h8 kernelRun.sl.v53 (kernelRun.sl.r_19 c M0 f0) (kernelRun.sl.r_20 c M0 f0)
  (kernelRun.sl.r_21 c M0 f0) (kernelRun.sl.r_22 c M1 f1) (kernelRun.sl.r_23 c M1 f1) (kernelRun.sl.r_24 c M1 f1)
  (kernelRun.sl.r_25 c M1 f1) (k0_pay352 (kernelRun.sl.r_29 c M0 f0) (s6 c M0 h0 M1 h1 M2 h2 M3 h3 M4 h4 M5 h5 M6 h6 M7 h7 M8 h8 f0 f1 f3 f6 f8))
  (kernelRun.sl.r_33 c M0 h0 M1 h1 M2 h2 M3 h3 M4 h4 M5 h5 M6 h6 M7 h7 M8 h8 f0 f1 f3 f6 f7 f8) (kernelRun.sl.r_34 c M0 h0 M1 h1 M2 h2 M3 h3 M4 h4 M5 h5 M6 h6 M7 h7 M8 h8 f0 f1 f3 f6 f7 f8) (k0_pay363 kernelRun.sl.v53) (k0_pay364 kernelRun.sl.v53) (kernelRun.sl.r_35 c M0 h0 M1 h1 M2 h2 M3 h3 M4 h4 M5 h5 M6 h6 M7 h7 M8 h8 f0 f1 f3 f6 f7 f8)
  (X3 c M0 M1 M3 f0 f1 f3) (X7 c M0 h0 M1 h1 M2 h2 M3 h3 M4 h4 M5 h5 M6 h6 M7 h7 M8 h8 f0 f1 f3 f6 f7 f8) (k0_pay368, k0_pay369) k0_t8_loop.trips

/-- What the body stores in the result. -/
theorem H2_eq : kernelRun.sl.H2_2 c M0 h0 M1 h1 M2 h2 M3 h3 M4 h4 M5 h5 M6 h6 M7 h7 M8 h8 f0 f1 f3 f6 f7 f8
    = [⟨Rect.unit (s := S8x128) ![4, 0] S4x128.size inb_S8x128_S4x128_4_0,
        k0_pay1 kernelRun.sl.v53 (k0_pay371 (kernelRun.sl.r_22 c M1 f1) (s8 c M0 h0 M1 h1 M2 h2 M3 h3 M4 h4 M5 h5 M6 h6 M7 h7 M8 h8 f0 f1 f3 f6 f7 f8).1)
          (k0_pay372 (kernelRun.sl.r_22 c M1 f1) (s8 c M0 h0 M1 h1 M2 h2 M3 h3 M4 h4 M5 h5 M6 h6 M7 h7 M8 h8 f0 f1 f3 f6 f7 f8).1)
          (k0_pay373 (k0_pay352 (kernelRun.sl.r_29 c M0 f0) (s6 c M0 h0 M1 h1 M2 h2 M3 h3 M4 h4 M5 h5 M6 h6 M7 h7 M8 h8 f0 f1 f3 f6 f8)) (s8 c M0 h0 M1 h1 M2 h2 M3 h3 M4 h4 M5 h5 M6 h6 M7 h7 M8 h8 f0 f1 f3 f6 f7 f8).2)
          (k0_pay374 kernelRun.sl.v53) 1#32⟩,
       ⟨Rect.unit (s := S8x128) ![0, 0] S4x128.size inb_S8x128_S4x128_0_0,
        k0_pay366 (k0_pay361 (kernelRun.sl.r_14 c M1 f1) (s7 c M0 h0 M1 h1 M2 h2 M3 h3 M4 h4 M5 h5 M6 h6 M7 h7 M8 h8 f0 f1 f3 f6 f7 f8).1)
          (k0_pay362 (k0_pay347 (kernelRun.sl.r_26 c M0 f0) (s5 c M0 h0 M1 h1 M2 h2 M3 h3 M4 h4 M5 h5 M6 h6 M7 h7 M8 h8 f0 f1 f3 f6 f8)) (s7 c M0 h0 M1 h1 M2 h2 M3 h3 M4 h4 M5 h5 M6 h6 M7 h7 M8 h8 f0 f1 f3 f6 f7 f8).2)
          (k0_pay363 kernelRun.sl.v53) (k0_pay364 kernelRun.sl.v53)
          (k0_pay365 kernelRun.sl.v53 (kernelRun.sl.r_14 c M1 f1) (s7 c M0 h0 M1 h1 M2 h2 M3 h3 M4 h4 M5 h5 M6 h6 M7 h7 M8 h8 f0 f1 f3 f6 f7 f8).1)⟩] := by
  with_unfolding_all rfl

end Cert.KernelIdeal.Body

end
-- ==== Proof.Values.lean ====
module

public import proofs.«01_k».proof.Proof.Contents

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem

/-! What the passes hold at a place, in terms of the channels. -/

/-- A loop of the first pass over some of the stored planes. -/
theorem ex_hits {M : Memref sig .tc .vmem S8x5x8x40x384 .f32} {X : BufTy.Contents (Elt Ideal) M.view.ty} {k : Fld}
    (hX : Holds M X k) (thr : Ideal .f32) {conf cz cx cy : FVec Ideal S4x32x128 .f32} {g : ℕ} {hg : g ≤ 4}
    (h0 : Cen conf (k 0) g hg) (h1 : Cen cz (k 1) g hg) (h2 : Cen cx (k 2) g hg) (h3 : Cen cy (k 3) g hg)
    {T : ℕ} (D : Fin T → BitVec 32) (hD : ∀ k, (Scalar.indexCast (D k)).toNat < 5)
    (hw : ∀ k, D k = BitVec.ofNat 32 (Scalar.indexCast (D k)).toNat) (ds : List (Fin 5))
    (e1 : ∀ k, (⟨(Scalar.indexCast (D k)).toNat, hD k⟩ : Fin 5) ∈ ds)
    (e2 : ∀ d ∈ ds, ∃ k, (⟨(Scalar.indexCast (D k)).toNat, hD k⟩ : Fin 5) = d) (l : List Sh) (b : Fin 4) (x : Fin 32)
    (L : Fin 128) :
    (∃ k, ∃ s ∈ l, hit M X thr conf cz cx cy (D k) (Scalar.indexCast (D k)).toNat g (hD k) hg s (ix3 b x L) = 1#1)
      ↔ ∃ d ∈ ds, ∃ s ∈ l, HitP thr k (gr g hg b) d s x L :=
  (exists_congr fun k => exists_congr fun s => and_congr_right fun _ =>
    hit_iff hX thr h0 h1 h2 h3 (hw k) s b x L).trans
    (ex_dx (fun k => ⟨(Scalar.indexCast (D k)).toNat, hD k⟩) ds e1 e2
      fun d => ∃ s ∈ l, HitP thr _ (gr g hg b) d s x L)

/-- A loop of the second pass over some of the stored planes. -/
theorem ex_second {M : Memref sig .tc .vmem S8x5x8x40x384 .f32} {X : BufTy.Contents (Elt Ideal) M.view.ty} {k : Fld}
    (hX : Holds M X k) (thr : Ideal .f32) {conf cz cx cy : FVec Ideal S4x32x128 .f32} {g : ℕ} {hg : g ≤ 4}
    (h0 : Cen conf (k 0) g hg) (h1 : Cen cz (k 1) g hg) (h2 : Cen cx (k 2) g hg) (h3 : Cen cy (k 3) g hg)
    {T : ℕ} (D : Fin T → BitVec 32) (hD : ∀ k, (Scalar.indexCast (D k)).toNat < 5) (ds : List (Fin 5))
    (e1 : ∀ k, (⟨(Scalar.indexCast (D k)).toNat, hD k⟩ : Fin 5) ∈ ds)
    (e2 : ∀ d ∈ ds, ∃ k, (⟨(Scalar.indexCast (D k)).toNat, hD k⟩ : Fin 5) = d) (l : List Sh) (hl : l.length ≤ 32)
    {N : Memref sig .tc .vmem S5x8x40x384 .f32} {Y : BufTy.Contents (Elt Ideal) N.view.ty}
    {R : Fin 8 → Fin 40 → Fin 384 → EReal} {ds' : List (Fin 5)} (hY : Holds1 N Y R ds') (hds : ∀ d ∈ ds, d ∈ ds')
    {W : Memref sig .tc .vmem S5x8x32x128 .i32} {Z : BufTy.Contents (Elt Ideal) W.view.ty} (b : Fin 4) (x : Fin 32)
    (L : Fin 128)
    (hZ : ∀ d ∈ ds, W.view.read (Elt Ideal) Z (ix4 d (⟨g + b.val, by omega⟩ : Fin 8) x L)
      = words M X thr conf cz cx cy g hg l d (ix3 b x L)) :
    (∃ k, ∃ t ∈ (bitsOf 0 l).map (fun s => hit2 N Y (wbits W Z (Scalar.indexCast (D k)).toNat g (hD k) hg)
        (Scalar.indexCast (D k)).toNat g (hD k) hg s.1 s.2.1), t (ix3 b x L) = 1#1)
      ↔ ∃ d ∈ ds, ∃ s ∈ l, HitP thr k (gr g hg b) d s x L ∧ R (gr g hg b) (shr x d) (lan s.1 L) = 0 := by
  refine Iff.trans (exists_congr fun k => ?_)
    (ex_dx (fun k => ⟨(Scalar.indexCast (D k)).toNat, hD k⟩) ds e1 e2
      fun d => ∃ s ∈ l, HitP thr _ (gr g hg b) d s x L ∧ R (gr g hg b) (shr x d) (lan s.1 L) = 0)
  have hb := (wbits_at W Z (Scalar.indexCast (D k)).toNat g (hD k) hg b x L).trans (hZ _ (e1 k))
  refine (second_iff (fun s => hit M X thr conf cz cx cy (BitVec.ofNat 32 (Scalar.indexCast (D k)).toNat)
    (Scalar.indexCast (D k)).toNat g (hD k) hg s) N Y _ _ g (hD k) hg (ix3 b x L) l hl hb).trans ?_
  refine exists_congr fun s => and_congr_right fun _ => and_congr (hit_iff hX thr h0 h1 h2 h3 rfl s b x L) ?_
  rw [(win1_at N Y _ g (hD k) hg s.1 b x L).trans (hY _ (hds _ (e1 k)) _ x _)]
  rfl

variable (c : Dev nD)
  (M0 : Memref sig .tc .vmem S8x4x40x384 .f32) (h0 : M0.IsWhole) (M1 : Memref sig .tc .vmem S8x4x40x384 .f32) (h1 : M1.IsWhole)
  (M2 : Memref sig .tc .vmem S8x128 .f32) (h2 : M2.IsWhole) (M3 : Memref sig .tc .vmem S8x5x8x40x384 .f32) (h3 : M3.IsWhole)
  (M4 : Memref sig .tc .vmem S8x40x384 .f32) (h4 : M4.IsWhole) (M5 : Memref sig .tc .vmem S8x40x384 .f32) (h5 : M5.IsWhole)
  (M6 : Memref sig .tc .vmem S5x8x40x384 .f32) (h6 : M6.IsWhole) (M7 : Memref sig .tc .vmem S5x8x40x384 .f32) (h7 : M7.IsWhole)
  (M8 : Memref sig .tc .vmem S5x8x32x128 .i32) (h8 : M8.IsWhole)
  (f0 : Bf (F := Ideal) c M0) (f1 : Bf (F := Ideal) c M1) (f3 : Bf (F := Ideal) c M3)
  (f6 : Bf (F := Ideal) c M6) (f7 : Bf (F := Ideal) c M7) (f8 : Bf (F := Ideal) c M8)

/-- The first group's centres of the predictions hold their confidence. -/
theorem cen10 : Cen (kernelRun.sl.r_10 c M0 f0) (kf c M0 M1 f0 f1 0) 0 (by decide) := fun b x L =>
  (slice0_at (kernelRun.sl.r_1 c M0 f0) b x L).trans (planes_at c M0 f0 M1 f1 0 _ _ _)

/-- The second group's centres of the predictions hold their confidence. -/
theorem cen18 : Cen (kernelRun.sl.r_18 c M0 f0) (kf c M0 M1 f0 f1 0) 4 (by decide) := fun b x L =>
  (slice4_at (kernelRun.sl.r_1 c M0 f0) b x L).trans (planes_at c M0 f0 M1 f1 0 _ _ _)

/-- The first group's centres of the predictions hold their first coordinate. -/
theorem cen11 : Cen (kernelRun.sl.r_11 c M0 f0) (kf c M0 M1 f0 f1 1) 0 (by decide) := fun b x L =>
  (slice0_at (kernelRun.sl.r_2 c M0 f0) b x L).trans (planes_at c M0 f0 M1 f1 1 _ _ _)

/-- The second group's centres of the predictions hold their first coordinate. -/
theorem cen19 : Cen (kernelRun.sl.r_19 c M0 f0) (kf c M0 M1 f0 f1 1) 4 (by decide) := fun b x L =>
  (slice4_at (kernelRun.sl.r_2 c M0 f0) b x L).trans (planes_at c M0 f0 M1 f1 1 _ _ _)

/-- The first group's centres of the predictions hold their second coordinate. -/
theorem cen12 : Cen (kernelRun.sl.r_12 c M0 f0) (kf c M0 M1 f0 f1 2) 0 (by decide) := fun b x L =>
  (slice0_at (kernelRun.sl.r_3 c M0 f0) b x L).trans (planes_at c M0 f0 M1 f1 2 _ _ _)

/-- The second group's centres of the predictions hold their second coordinate. -/
theorem cen20 : Cen (kernelRun.sl.r_20 c M0 f0) (kf c M0 M1 f0 f1 2) 4 (by decide) := fun b x L =>
  (slice4_at (kernelRun.sl.r_3 c M0 f0) b x L).trans (planes_at c M0 f0 M1 f1 2 _ _ _)

/-- The first group's centres of the predictions hold their third coordinate. -/
theorem cen13 : Cen (kernelRun.sl.r_13 c M0 f0) (kf c M0 M1 f0 f1 3) 0 (by decide) := fun b x L =>
  (slice0_at (kernelRun.sl.r_4 c M0 f0) b x L).trans (planes_at c M0 f0 M1 f1 3 _ _ _)

/-- The second group's centres of the predictions hold their third coordinate. -/
theorem cen21 : Cen (kernelRun.sl.r_21 c M0 f0) (kf c M0 M1 f0 f1 3) 4 (by decide) := fun b x L =>
  (slice4_at (kernelRun.sl.r_4 c M0 f0) b x L).trans (planes_at c M0 f0 M1 f1 3 _ _ _)

/-- The first group's centres of the targets hold their confidence. -/
theorem cen14 : Cen (kernelRun.sl.r_14 c M1 f1) (kf c M0 M1 f0 f1 4) 0 (by decide) := fun b x L =>
  (slice0_at (kernelRun.sl.r_5 c M1 f1) b x L).trans (planes_at c M0 f0 M1 f1 4 _ _ _)

/-- The second group's centres of the targets hold their confidence. -/
theorem cen22 : Cen (kernelRun.sl.r_22 c M1 f1) (kf c M0 M1 f0 f1 4) 4 (by decide) := fun b x L =>
  (slice4_at (kernelRun.sl.r_5 c M1 f1) b x L).trans (planes_at c M0 f0 M1 f1 4 _ _ _)

/-- The first group's centres of the targets hold their first coordinate. -/
theorem cen15 : Cen (kernelRun.sl.r_15 c M1 f1) (kf c M0 M1 f0 f1 5) 0 (by decide) := fun b x L =>
  (slice0_at (kernelRun.sl.r_6 c M1 f1) b x L).trans (planes_at c M0 f0 M1 f1 5 _ _ _)

/-- The second group's centres of the targets hold their first coordinate. -/
theorem cen23 : Cen (kernelRun.sl.r_23 c M1 f1) (kf c M0 M1 f0 f1 5) 4 (by decide) := fun b x L =>
  (slice4_at (kernelRun.sl.r_6 c M1 f1) b x L).trans (planes_at c M0 f0 M1 f1 5 _ _ _)

/-- The first group's centres of the targets hold their second coordinate. -/
theorem cen16 : Cen (kernelRun.sl.r_16 c M1 f1) (kf c M0 M1 f0 f1 6) 0 (by decide) := fun b x L =>
  (slice0_at (kernelRun.sl.r_7 c M1 f1) b x L).trans (planes_at c M0 f0 M1 f1 6 _ _ _)

/-- The second group's centres of the targets hold their second coordinate. -/
theorem cen24 : Cen (kernelRun.sl.r_24 c M1 f1) (kf c M0 M1 f0 f1 6) 4 (by decide) := fun b x L =>
  (slice4_at (kernelRun.sl.r_7 c M1 f1) b x L).trans (planes_at c M0 f0 M1 f1 6 _ _ _)

/-- The first group's centres of the targets hold their third coordinate. -/
theorem cen17 : Cen (kernelRun.sl.r_17 c M1 f1) (kf c M0 M1 f0 f1 7) 0 (by decide) := fun b x L =>
  (slice0_at (kernelRun.sl.r_8 c M1 f1) b x L).trans (planes_at c M0 f0 M1 f1 7 _ _ _)

/-- The second group's centres of the targets hold their third coordinate. -/
theorem cen25 : Cen (kernelRun.sl.r_25 c M1 f1) (kf c M0 M1 f0 f1 7) 4 (by decide) := fun b x L =>
  (slice4_at (kernelRun.sl.r_8 c M1 f1) b x L).trans (planes_at c M0 f0 M1 f1 7 _ _ _)

/-- The stored planes hold the eight channels. -/
theorem holds3 : Holds M3 (X3 c M0 M1 M3 f0 f1 f3) (kf c M0 M1 f0 f1) := fun k d h q x l =>
  ch_at c M0 f0 M1 f1 M3 f3 k d h q x (row x) rfl l

/-- The first group's threshold. -/
def thrO : EReal := Ideal.ofBits .f32 1065968067#32

/-- The second group's threshold. -/
def thrH : EReal := Ideal.ofBits .f32 0x3F0BE1F6#32

/-- The first pass starts with no test met. -/
theorem start_ind (i : S4x32x128.Idx) : Ind (k0_pay326 (F := Ideal) i) False := zeroV_ind i

/-- The first pass of the first group after its inner row shifts: whether one of their tests is met. -/
theorem s1_ind (b : Fin 4) (x : Fin 32) (L : Fin 128) : Ind ((s1 c M0 h0 M1 h1 M2 h2 M3 h3 M4 h4 M5 h5 M6 h6 M7 h7 M8 h8 f0 f1 f3).1 (ix3 b x L))
    (∃ d ∈ ([1, 2, 3] : List (Fin 5)), ∃ s ∈ shifts21, HitP thrO (kf c M0 M1 f0 f1) (gr 0 (by decide) b) d s x L) :=
  (st1_ind _ _ _ _ _ _ _ _ _ _ _ _ _ _ (start_ind _)).congr ((iff_of_eq (false_or _)).trans
    (ex_hits (holds3 c M0 M1 M3 f0 f1 f3) thrO (cen10 c M0 M1 f0 f1) (cen11 c M0 M1 f0 f1) (cen12 c M0 M1 f0 f1) (cen13 c M0 M1 f0 f1) dx1 dx1_lt (by decide) _ (by decide) (by decide) _ b x L))

/-- The first pass of the first group after all row shifts: whether any test is met. -/
theorem s2_ind (b : Fin 4) (x : Fin 32) (L : Fin 128) : Ind ((s2 c M0 h0 M1 h1 M2 h2 M3 h3 M4 h4 M5 h5 M6 h6 M7 h7 M8 h8 f0 f1 f3).1 (ix3 b x L))
    (Any 0 fun d s => HitP thrO (kf c M0 M1 f0 f1) (gr 0 (by decide) b) d s x L) :=
  (st2_ind _ _ _ _ _ _ _ _ _ _ _ _ _ _ _ (s1_ind c M0 h0 M1 h1 M2 h2 M3 h3 M4 h4 M5 h5 M6 h6 M7 h7 M8 h8 f0 f1 f3 b x L)).congr (or_congr Iff.rfl
    (ex_hits (holds3 c M0 M1 M3 f0 f1 f3) thrO (cen10 c M0 M1 f0 f1) (cen11 c M0 M1 f0 f1) (cen12 c M0 M1 f0 f1) (cen13 c M0 M1 f0 f1) dx2 dx2_lt (by decide) _ (by decide) (by decide) _ b x L))

/-- The first pass of the second group: whether any test is met. -/
theorem s3_ind (b : Fin 4) (x : Fin 32) (L : Fin 128) : Ind ((s3 c M0 h0 M1 h1 M2 h2 M3 h3 M4 h4 M5 h5 M6 h6 M7 h7 M8 h8 f0 f1 f3).1 (ix3 b x L))
    (Any 4 fun d s => HitP thrH (kf c M0 M1 f0 f1) (gr 4 (by decide) b) d s x L) :=
  (st3_ind _ _ _ _ _ _ _ _ _ _ _ _ _ _ _ (start_ind _)).congr ((iff_of_eq (false_or _)).trans
    (ex_hits (holds3 c M0 M1 M3 f0 f1 f3) thrH (cen18 c M0 M1 f0 f1) (cen19 c M0 M1 f0 f1) (cen20 c M0 M1 f0 f1) (cen21 c M0 M1 f0 f1) dx3 dx3_lt (by decide) _ (by decide) (by decide) _ b x L))

/-- The stored words at a place. -/
theorem X8_at (b : Fin 4) (x : Fin 32) (L : Fin 128) :
    (∀ d ∈ ([1, 2, 3] : List (Fin 5)), M8.view.read (Elt Ideal) (X8 c M0 h0 M1 h1 M2 h2 M3 h3 M4 h4 M5 h5 M6 h6 M7 h7 M8 h8 f0 f1 f3 f8) (ix4 d (⟨0 + b.val, by omega⟩ : Fin 8) x L)
      = words M3 (X3 c M0 M1 M3 f0 f1 f3) thrO (kernelRun.sl.r_10 c M0 f0) (kernelRun.sl.r_11 c M0 f0)
          (kernelRun.sl.r_12 c M0 f0) (kernelRun.sl.r_13 c M0 f0) 0 (by decide) shifts21 d (ix3 b x L))
    ∧ (∀ d ∈ ([0, 4] : List (Fin 5)), M8.view.read (Elt Ideal) (X8 c M0 h0 M1 h1 M2 h2 M3 h3 M4 h4 M5 h5 M6 h6 M7 h7 M8 h8 f0 f1 f3 f8) (ix4 d (⟨0 + b.val, by omega⟩ : Fin 8) x L)
      = words M3 (X3 c M0 M1 M3 f0 f1 f3) thrO (kernelRun.sl.r_10 c M0 f0) (kernelRun.sl.r_11 c M0 f0)
          (kernelRun.sl.r_12 c M0 f0) (kernelRun.sl.r_13 c M0 f0) 0 (by decide) shifts9 d (ix3 b x L))
    ∧ (∀ d ∈ ([1, 2, 3] : List (Fin 5)), M8.view.read (Elt Ideal) (X8 c M0 h0 M1 h1 M2 h2 M3 h3 M4 h4 M5 h5 M6 h6 M7 h7 M8 h8 f0 f1 f3 f8) (ix4 d (⟨4 + b.val, by omega⟩ : Fin 8) x L)
      = words M3 (X3 c M0 M1 M3 f0 f1 f3) thrH (kernelRun.sl.r_18 c M0 f0) (kernelRun.sl.r_19 c M0 f0)
          (kernelRun.sl.r_20 c M0 f0) (kernelRun.sl.r_21 c M0 f0) 4 (by decide) shifts9 d (ix3 b x L)) := by
  have e : X8 c M0 h0 M1 h1 M2 h2 M3 h3 M4 h4 M5 h5 M6 h6 M7 h7 M8 h8 f0 f1 f3 f8 = _ := congrArg (M8.view.writes (Elt Ideal) f8)
    (congrArg₂ (· ++ ·) (st3_list _ _ _ _ _ _ _ _ _ _ _ _ _) (congrArg₂ (· ++ ·) (st2_list _ _ _ _ _ _ _ _ _ _ _ _ _)
      (st1_list _ _ _ _ _ _ _ _ _ _ _ _)))
  rw [e]
  refine ⟨fun d hd => ?_, fun d hd => ?_, fun d hd => ?_⟩
  · exact read_words M8 f8 _ _ _ b x L d 0 (by decide) _ (.inl ⟨rfl, by simpa using hd, rfl⟩)
  · exact read_words M8 f8 _ _ _ b x L d 0 (by decide) _ (.inr (.inl ⟨rfl, by simpa using hd, rfl⟩))
  · exact read_words M8 f8 _ _ _ b x L d 4 (by decide) _ (.inr (.inr ⟨rfl, by simpa using hd, rfl⟩))

/-- A confident centre. -/
def sureC (k : Fld) (q : Fin 8) (x : Fin 32) (L : Fin 128) : Prop := Ideal.ofBits .f32 0x3F333333#32 < k 0 q (row x) (lan 128 L)

/-- The kernel's bit for a confident prediction, in the first group. -/
theorem sure0 (b : Fin 4) (x : Fin 32) (L : Fin 128) :
    kernelRun.sl.r_26 c M0 f0 (ix3 b x L) = 1#1 ↔ sureC (kf c M0 M1 f0 f1) (gr 0 (by decide) b) x L := by
  rw [sureC, ← cen10 c M0 M1 f0 f1 b x L]
  exact bit_iff

/-- The kernel's bit for a confident prediction, in the second group. -/
theorem sure4 (b : Fin 4) (x : Fin 32) (L : Fin 128) :
    kernelRun.sl.r_29 c M0 f0 (ix3 b x L) = 1#1 ↔ sureC (kf c M0 M1 f0 f1) (gr 4 (by decide) b) x L := by
  rw [sureC, ← cen18 c M0 M1 f0 f1 b x L]
  exact bit_iff

/-- The first pass's result, stored. -/
abbrev Rp : Fin 8 → Fin 40 → Fin 384 → EReal := plane M4 (L4 c M0 h0 M1 h1 M2 h2 M3 h3 M4 h4 M5 h5 M6 h6 M7 h7 M8 h8 f0 f1 f3)

/-- A change of shape to the same shape changes nothing. -/
theorem same_cast (v : FVec Ideal S4x32x128 .f32) (h) (b : Fin 4) (x : Fin 32) (L : Fin 128) :
    shapeCast S4x32x128 v h (ix3 b x L) = v (ix3 b x L) := by
  pointwise []

/-- The stored plane after the first pass, first group: a confident prediction that met a test. -/
theorem R0_ind (b : Fin 4) (x : Fin 32) (L : Fin 128) : Ind (Rp c M0 h0 M1 h1 M2 h2 M3 h3 M4 h4 M5 h5 M6 h6 M7 h7 M8 h8 f0 f1 f3 (gr 0 (by decide) b) (row x) (lan 128 L))
    ((Any 0 fun d s => HitP thrO (kf c M0 M1 f0 f1) (gr 0 (by decide) b) d s x L) ∧ sureC (kf c M0 M1 f0 f1) (gr 0 (by decide) b) x L) := by
  show Ind (plane M4 (L4 c M0 h0 M1 h1 M2 h2 M3 h3 M4 h4 M5 h5 M6 h6 M7 h7 M8 h8 f0 f1 f3) _ _ _) _
  unfold L4
  rw [plane_lo M4 _ _ _ _ _ b x L _ _ _ rfl rfl rfl]
  unfold k0_pay332
  rw [same_cast]
  exact (s2_ind c M0 h0 M1 h1 M2 h2 M3 h3 M4 h4 M5 h5 M6 h6 M7 h7 M8 h8 f0 f1 f3 b x L).mul ((ind_bit (kernelRun.sl.r_26 c M0 f0 (ix3 b x L))).congr (sure0 c M0 M1 f0 f1 b x L))

/-- The stored plane after the first pass, second group: a confident prediction that met a test. -/
theorem R4_ind (b : Fin 4) (x : Fin 32) (L : Fin 128) : Ind (Rp c M0 h0 M1 h1 M2 h2 M3 h3 M4 h4 M5 h5 M6 h6 M7 h7 M8 h8 f0 f1 f3 (gr 4 (by decide) b) (row x) (lan 128 L))
    ((Any 4 fun d s => HitP thrH (kf c M0 M1 f0 f1) (gr 4 (by decide) b) d s x L) ∧ sureC (kf c M0 M1 f0 f1) (gr 4 (by decide) b) x L) := by
  show Ind (plane M4 (L4 c M0 h0 M1 h1 M2 h2 M3 h3 M4 h4 M5 h5 M6 h6 M7 h7 M8 h8 f0 f1 f3) _ _ _) _
  unfold L4
  rw [plane_hi M4 _ _ _ b x L _ _ _ rfl rfl rfl]
  unfold k0_pay338
  rw [same_cast]
  exact (s3_ind c M0 h0 M1 h1 M2 h2 M3 h3 M4 h4 M5 h5 M6 h6 M7 h7 M8 h8 f0 f1 f3 b x L).mul ((ind_bit (kernelRun.sl.r_29 c M0 f0 (ix3 b x L))).congr (sure4 c M0 M1 f0 f1 b x L))

/-- The shifted copies after the first pass hold its stored plane. -/
theorem holds6 : Holds1 M6 (X6 c M0 h0 M1 h1 M2 h2 M3 h3 M4 h4 M5 h5 M6 h6 M7 h7 M8 h8 f0 f1 f3 f6) (Rp c M0 h0 M1 h1 M2 h2 M3 h3 M4 h4 M5 h5 M6 h6 M7 h7 M8 h8 f0 f1 f3) [4, 3, 2, 1, 0] := by
  intro d hd q x l
  unfold X6
  simp only [List.map]
  repeat rw [read_cp_cons]
  simp only [List.mem_cons, List.not_mem_nil, or_false] at hd
  rcases hd with rfl | rfl | rfl | rfl | rfl <;> exact cov_at M4 _ _ _ q x l

/-- The second pass starts with no test met. -/
theorem start4_ind (i : S4x32x128.Idx) : Ind (k0_pay344 (F := Ideal) i) False := zeroV_ind i

/-- The second pass for the first group. -/
theorem s5_ind (b : Fin 4) (x : Fin 32) (L : Fin 128) : Ind (s5 c M0 h0 M1 h1 M2 h2 M3 h3 M4 h4 M5 h5 M6 h6 M7 h7 M8 h8 f0 f1 f3 f6 f8 (ix3 b x L))
    (Any 0 fun d s => HitP thrO (kf c M0 M1 f0 f1) (gr 0 (by decide) b) d s x L ∧ Rp c M0 h0 M1 h1 M2 h2 M3 h3 M4 h4 M5 h5 M6 h6 M7 h7 M8 h8 f0 f1 f3 (gr 0 (by decide) b) (shr x d) (lan s.1 L) = 0) :=
  (st5_ind _ _ _ _ _ _ ((st4_ind _ _ _ _ _ _ (start4_ind _)).congr (iff_of_eq (false_or _)))).congr (or_congr
    (ex_second (holds3 c M0 M1 M3 f0 f1 f3) thrO (cen10 c M0 M1 f0 f1) (cen11 c M0 M1 f0 f1) (cen12 c M0 M1 f0 f1) (cen13 c M0 M1 f0 f1) dx4 dx4_lt _ (by decide) (by decide) _ (by decide) (holds6 c M0 h0 M1 h1 M2 h2 M3 h3 M4 h4 M5 h5 M6 h6 M7 h7 M8 h8 f0 f1 f3 f6) (by decide)
      b x L (X8_at c M0 h0 M1 h1 M2 h2 M3 h3 M4 h4 M5 h5 M6 h6 M7 h7 M8 h8 f0 f1 f3 f8 b x L).1)
    (ex_second (holds3 c M0 M1 M3 f0 f1 f3) thrO (cen10 c M0 M1 f0 f1) (cen11 c M0 M1 f0 f1) (cen12 c M0 M1 f0 f1) (cen13 c M0 M1 f0 f1) dx5 dx5_lt _ (by decide) (by decide) _ (by decide) (holds6 c M0 h0 M1 h1 M2 h2 M3 h3 M4 h4 M5 h5 M6 h6 M7 h7 M8 h8 f0 f1 f3 f6) (by decide)
      b x L (X8_at c M0 h0 M1 h1 M2 h2 M3 h3 M4 h4 M5 h5 M6 h6 M7 h7 M8 h8 f0 f1 f3 f8 b x L).2.1))

/-- The second pass for the second group. -/
theorem s6_ind (b : Fin 4) (x : Fin 32) (L : Fin 128) : Ind (s6 c M0 h0 M1 h1 M2 h2 M3 h3 M4 h4 M5 h5 M6 h6 M7 h7 M8 h8 f0 f1 f3 f6 f8 (ix3 b x L))
    (Any 4 fun d s => HitP thrH (kf c M0 M1 f0 f1) (gr 4 (by decide) b) d s x L ∧ Rp c M0 h0 M1 h1 M2 h2 M3 h3 M4 h4 M5 h5 M6 h6 M7 h7 M8 h8 f0 f1 f3 (gr 4 (by decide) b) (shr x d) (lan s.1 L) = 0) :=
  (st6_ind _ _ _ _ _ _ _ _ (start4_ind _)).congr ((iff_of_eq (false_or _)).trans
    (ex_second (holds3 c M0 M1 M3 f0 f1 f3) thrH (cen18 c M0 M1 f0 f1) (cen19 c M0 M1 f0 f1) (cen20 c M0 M1 f0 f1) (cen21 c M0 M1 f0 f1) dx6 dx6_lt _ (by decide) (by decide) _ (by decide) (holds6 c M0 h0 M1 h1 M2 h2 M3 h3 M4 h4 M5 h5 M6 h6 M7 h7 M8 h8 f0 f1 f3 f6) (by decide)
      b x L (X8_at c M0 h0 M1 h1 M2 h2 M3 h3 M4 h4 M5 h5 M6 h6 M7 h7 M8 h8 f0 f1 f3 f8 b x L).2.2))

/-- A prediction is kept. -/
def SelO (b : Fin 4) (x : Fin 32) (L : Fin 128) : Prop :=
  ¬(Any 0 fun d s => HitP thrO (kf c M0 M1 f0 f1) (gr 0 (by decide) b) d s x L ∧ Rp c M0 h0 M1 h1 M2 h2 M3 h3 M4 h4 M5 h5 M6 h6 M7 h7 M8 h8 f0 f1 f3 (gr 0 (by decide) b) (shr x d) (lan s.1 L) = 0) ∧ sureC (kf c M0 M1 f0 f1) (gr 0 (by decide) b) x L

/-- A prediction of the second group is kept. -/
def SelH (b : Fin 4) (x : Fin 32) (L : Fin 128) : Prop :=
  ¬(Any 4 fun d s => HitP thrH (kf c M0 M1 f0 f1) (gr 4 (by decide) b) d s x L ∧ Rp c M0 h0 M1 h1 M2 h2 M3 h3 M4 h4 M5 h5 M6 h6 M7 h7 M8 h8 f0 f1 f3 (gr 4 (by decide) b) (shr x d) (lan s.1 L) = 0) ∧ sureC (kf c M0 M1 f0 f1) (gr 4 (by decide) b) x L

/-- The vector of zeros is zero at every place. -/
theorem zero_at (i : S4x32x128.Idx) : (broadcast S4x32x128 (Scalar.ofBits (F := Ideal) FTy.f32 0x00000000#32)) i = 0 := zero_word

/-- Testing a zero-or-one number for being zero tests that its property fails. -/
theorem eq_zero_iff (v : FVec Ideal S4x32x128 .f32) (i : S4x32x128.Idx) {p : Prop} (h : Ind (v i) p) :
    cmpf .oeq v (broadcast S4x32x128 (Scalar.ofBits (F := Ideal) FTy.f32 0x00000000#32)) i = 1#1 ↔ ¬p := by
  refine bit_iff.trans ?_
  rw [zero_at]
  exact h.eq_zero

/-- The kernel's bit for a kept prediction, in the first group. -/
theorem sel0 (b : Fin 4) (x : Fin 32) (L : Fin 128) :
    k0_pay347 (kernelRun.sl.r_26 c M0 f0) (s5 c M0 h0 M1 h1 M2 h2 M3 h3 M4 h4 M5 h5 M6 h6 M7 h7 M8 h8 f0 f1 f3 f6 f8) (ix3 b x L) = 1#1 ↔ SelO c M0 h0 M1 h1 M2 h2 M3 h3 M4 h4 M5 h5 M6 h6 M7 h7 M8 h8 f0 f1 f3 b x L :=
  (and_iff _ _).trans (and_congr (eq_zero_iff _ _ (s5_ind c M0 h0 M1 h1 M2 h2 M3 h3 M4 h4 M5 h5 M6 h6 M7 h7 M8 h8 f0 f1 f3 f6 f8 b x L)) (sure0 c M0 M1 f0 f1 b x L))

/-- The kernel's bit for a kept prediction, in the second group. -/
theorem sel4 (b : Fin 4) (x : Fin 32) (L : Fin 128) :
    k0_pay352 (kernelRun.sl.r_29 c M0 f0) (s6 c M0 h0 M1 h1 M2 h2 M3 h3 M4 h4 M5 h5 M6 h6 M7 h7 M8 h8 f0 f1 f3 f6 f8) (ix3 b x L) = 1#1 ↔ SelH c M0 h0 M1 h1 M2 h2 M3 h3 M4 h4 M5 h5 M6 h6 M7 h7 M8 h8 f0 f1 f3 b x L :=
  (and_iff _ _).trans (and_congr (eq_zero_iff _ _ (s6_ind c M0 h0 M1 h1 M2 h2 M3 h3 M4 h4 M5 h5 M6 h6 M7 h7 M8 h8 f0 f1 f3 f6 f8 b x L)) (sure4 c M0 M1 f0 f1 b x L))

/-- The second pass's result, stored. -/
abbrev Sp : Fin 8 → Fin 40 → Fin 384 → EReal := plane M5 (L5 c M0 h0 M1 h1 M2 h2 M3 h3 M4 h4 M5 h5 M6 h6 M7 h7 M8 h8 f0 f1 f3 f6 f8)

/-- The stored plane after the second pass, first group: the kept predictions. -/
theorem S0_ind (b : Fin 4) (x : Fin 32) (L : Fin 128) : Ind (Sp c M0 h0 M1 h1 M2 h2 M3 h3 M4 h4 M5 h5 M6 h6 M7 h7 M8 h8 f0 f1 f3 f6 f8 (gr 0 (by decide) b) (row x) (lan 128 L)) (SelO c M0 h0 M1 h1 M2 h2 M3 h3 M4 h4 M5 h5 M6 h6 M7 h7 M8 h8 f0 f1 f3 b x L) := by
  show Ind (plane M5 (L5 c M0 h0 M1 h1 M2 h2 M3 h3 M4 h4 M5 h5 M6 h6 M7 h7 M8 h8 f0 f1 f3 f6 f8) _ _ _) _
  unfold L5
  rw [plane_lo M5 _ _ _ _ _ b x L _ _ _ rfl rfl rfl]
  unfold k0_pay349
  rw [same_cast]
  exact (ind_bit _).congr (sel0 c M0 h0 M1 h1 M2 h2 M3 h3 M4 h4 M5 h5 M6 h6 M7 h7 M8 h8 f0 f1 f3 f6 f8 b x L)

/-- The stored plane after the second pass, second group: the kept predictions. -/
theorem S4_ind (b : Fin 4) (x : Fin 32) (L : Fin 128) : Ind (Sp c M0 h0 M1 h1 M2 h2 M3 h3 M4 h4 M5 h5 M6 h6 M7 h7 M8 h8 f0 f1 f3 f6 f8 (gr 4 (by decide) b) (row x) (lan 128 L)) (SelH c M0 h0 M1 h1 M2 h2 M3 h3 M4 h4 M5 h5 M6 h6 M7 h7 M8 h8 f0 f1 f3 b x L) := by
  show Ind (plane M5 (L5 c M0 h0 M1 h1 M2 h2 M3 h3 M4 h4 M5 h5 M6 h6 M7 h7 M8 h8 f0 f1 f3 f6 f8) _ _ _) _
  unfold L5
  rw [plane_hi M5 _ _ _ b x L _ _ _ rfl rfl rfl]
  unfold k0_pay353
  rw [same_cast]
  exact (ind_bit _).congr (sel4 c M0 h0 M1 h1 M2 h2 M3 h3 M4 h4 M5 h5 M6 h6 M7 h7 M8 h8 f0 f1 f3 f6 f8 b x L)

/-- The shifted copies after the second pass hold its stored plane. -/
theorem holds7 : Holds1 M7 (X7 c M0 h0 M1 h1 M2 h2 M3 h3 M4 h4 M5 h5 M6 h6 M7 h7 M8 h8 f0 f1 f3 f6 f7 f8) (Sp c M0 h0 M1 h1 M2 h2 M3 h3 M4 h4 M5 h5 M6 h6 M7 h7 M8 h8 f0 f1 f3 f6 f8) [3, 2, 1] := by
  intro d hd q x l
  unfold X7
  simp only [List.map]
  repeat rw [read_cp_cons]
  simp only [List.mem_cons, List.not_mem_nil, or_false] at hd
  rcases hd with rfl | rfl | rfl <;> exact cov_at M5 _ _ _ q x l

/-- The matching of the first group, first maximum: whether a kept prediction lies near the target. -/
theorem s7_ind1 (b : Fin 4) (x : Fin 32) (L : Fin 128) : Ind ((s7 c M0 h0 M1 h1 M2 h2 M3 h3 M4 h4 M5 h5 M6 h6 M7 h7 M8 h8 f0 f1 f3 f6 f7 f8).1 (ix3 b x L))
    (∃ d ∈ ([3, 2, 1] : List (Fin 5)), ∃ s ∈ shifts9, Near1 (kf c M0 M1 f0 f1) (Sp c M0 h0 M1 h1 M2 h2 M3 h3 M4 h4 M5 h5 M6 h6 M7 h7 M8 h8 f0 f1 f3 f6 f8) (gr 0 (by decide) b) d s.1 x L) := by
  have hm : ∀ k, (⟨(Scalar.indexCast (dx7 k)).toNat, dx7_lt k⟩ : Fin 5) ∈ ([3, 2, 1] : List (Fin 5)) := by decide
  refine (st7_ind1 _ _ _ _ _ _ _ _ _ _ _ _ _ _ (zeroV_ind (ix3 b x L))).congr ((iff_of_eq (false_or _)).trans (Iff.trans (exists_congr fun k =>
    exists_congr fun s => and_congr_right fun _ => near1_iff (holds3 c M0 M1 M3 f0 f1 f3) (holds7 c M0 h0 M1 h1 M2 h2 M3 h3 M4 h4 M5 h5 M6 h6 M7 h7 M8 h8 f0 f1 f3 f6 f7 f8) (cen15 c M0 M1 f0 f1) (cen16 c M0 M1 f0 f1) (cen17 c M0 M1 f0 f1) (hm k) s.1 b x L)
    (ex_dx (fun k => ⟨(Scalar.indexCast (dx7 k)).toNat, dx7_lt k⟩) _ hm (by decide)
      fun d => ∃ s ∈ shifts9, Near1 (kf c M0 M1 f0 f1) (Sp c M0 h0 M1 h1 M2 h2 M3 h3 M4 h4 M5 h5 M6 h6 M7 h7 M8 h8 f0 f1 f3 f6 f8) (gr 0 (by decide) b) d s.1 x L)))

/-- The matching of the first group, second maximum: whether a target lies near the prediction. -/
theorem s7_ind2 (b : Fin 4) (x : Fin 32) (L : Fin 128) : Ind ((s7 c M0 h0 M1 h1 M2 h2 M3 h3 M4 h4 M5 h5 M6 h6 M7 h7 M8 h8 f0 f1 f3 f6 f7 f8).2 (ix3 b x L))
    (∃ d ∈ ([1, 2, 3] : List (Fin 5)), ∃ s ∈ shifts9, Near2 (kf c M0 M1 f0 f1) (gr 0 (by decide) b) d s.1 x L) := by
  have hm : ∀ k, (⟨(Scalar.indexCast (dx7 k)).toNat, dx7_lt k⟩ : Fin 5) ∈ ([1, 2, 3] : List (Fin 5)) := by decide
  refine (st7_ind2 _ _ _ _ _ _ _ _ _ _ _ _ _ _ (zeroV_ind (ix3 b x L))).congr ((iff_of_eq (false_or _)).trans (Iff.trans (exists_congr fun k =>
    exists_congr fun s => and_congr_right fun _ => near2_iff (holds3 c M0 M1 M3 f0 f1 f3) (cen11 c M0 M1 f0 f1) (cen12 c M0 M1 f0 f1) (cen13 c M0 M1 f0 f1) (hm k) s.1 b x L)
    (ex_dx (fun k => ⟨(Scalar.indexCast (dx7 k)).toNat, dx7_lt k⟩) _ hm (by decide)
      fun d => ∃ s ∈ shifts9, Near2 (kf c M0 M1 f0 f1) (gr 0 (by decide) b) d s.1 x L)))

/-- The matching of the second group, first maximum: whether a kept prediction lies near the target. -/
theorem s8_ind1 (b : Fin 4) (x : Fin 32) (L : Fin 128) : Ind ((s8 c M0 h0 M1 h1 M2 h2 M3 h3 M4 h4 M5 h5 M6 h6 M7 h7 M8 h8 f0 f1 f3 f6 f7 f8).1 (ix3 b x L))
    (∃ d ∈ ([3, 2, 1] : List (Fin 5)), ∃ s ∈ shifts9, Near1 (kf c M0 M1 f0 f1) (Sp c M0 h0 M1 h1 M2 h2 M3 h3 M4 h4 M5 h5 M6 h6 M7 h7 M8 h8 f0 f1 f3 f6 f8) (gr 4 (by decide) b) d s.1 x L) := by
  have hm : ∀ k, (⟨(Scalar.indexCast (dx8 k)).toNat, dx8_lt k⟩ : Fin 5) ∈ ([3, 2, 1] : List (Fin 5)) := by decide
  refine (st8_ind1 _ _ _ _ _ _ _ _ _ _ _ _ _ _ _ _ _ _ _ (zeroV_ind (ix3 b x L))).congr ((iff_of_eq (false_or _)).trans (Iff.trans (exists_congr fun k =>
    exists_congr fun s => and_congr_right fun _ => near1_iff (holds3 c M0 M1 M3 f0 f1 f3) (holds7 c M0 h0 M1 h1 M2 h2 M3 h3 M4 h4 M5 h5 M6 h6 M7 h7 M8 h8 f0 f1 f3 f6 f7 f8) (cen23 c M0 M1 f0 f1) (cen24 c M0 M1 f0 f1) (cen25 c M0 M1 f0 f1) (hm k) s.1 b x L)
    (ex_dx (fun k => ⟨(Scalar.indexCast (dx8 k)).toNat, dx8_lt k⟩) _ hm (by decide)
      fun d => ∃ s ∈ shifts9, Near1 (kf c M0 M1 f0 f1) (Sp c M0 h0 M1 h1 M2 h2 M3 h3 M4 h4 M5 h5 M6 h6 M7 h7 M8 h8 f0 f1 f3 f6 f8) (gr 4 (by decide) b) d s.1 x L)))

/-- The matching of the second group, second maximum: whether a target lies near the prediction. -/
theorem s8_ind2 (b : Fin 4) (x : Fin 32) (L : Fin 128) : Ind ((s8 c M0 h0 M1 h1 M2 h2 M3 h3 M4 h4 M5 h5 M6 h6 M7 h7 M8 h8 f0 f1 f3 f6 f7 f8).2 (ix3 b x L))
    (∃ d ∈ ([1, 2, 3] : List (Fin 5)), ∃ s ∈ shifts9, Near2 (kf c M0 M1 f0 f1) (gr 4 (by decide) b) d s.1 x L) := by
  have hm : ∀ k, (⟨(Scalar.indexCast (dx8 k)).toNat, dx8_lt k⟩ : Fin 5) ∈ ([1, 2, 3] : List (Fin 5)) := by decide
  refine (st8_ind2 _ _ _ _ _ _ _ _ _ _ _ _ _ _ _ _ _ _ _ (zeroV_ind (ix3 b x L))).congr ((iff_of_eq (false_or _)).trans (Iff.trans (exists_congr fun k =>
    exists_congr fun s => and_congr_right fun _ => near2_iff (holds3 c M0 M1 M3 f0 f1 f3) (cen19 c M0 M1 f0 f1) (cen20 c M0 M1 f0 f1) (cen21 c M0 M1 f0 f1) (hm k) s.1 b x L)
    (ex_dx (fun k => ⟨(Scalar.indexCast (dx8 k)).toNat, dx8_lt k⟩) _ hm (by decide)
      fun d => ∃ s ∈ shifts9, Near2 (kf c M0 M1 f0 f1) (gr 4 (by decide) b) d s.1 x L)))

end Cert.KernelIdeal.Body

end
-- ==== Proof.Out.lean ====
module

public import proofs.«01_k».proof.Proof.Values

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem

/-! What the body stores: counts in three lanes. -/

open scoped Classical in
/-- The number of places of the grid with a property. -/
def num (P : Fin 32 → Fin 128 → Prop) : EReal := ((Nat.card {p : Fin 32 × Fin 128 // P p.1 p.2} : ℕ) : EReal)

/-- Equivalent properties have equal counts. -/
theorem num_congr {P Q : Fin 32 → Fin 128 → Prop} (h : ∀ x L, P x L ↔ Q x L) : num P = num Q := by
  have : P = Q := funext fun x => funext fun L => propext (h x L)
  rw [this]

open scoped Classical in
/-- A count is the sum of ones over the places that have the property. -/
theorem num_sum (P : Fin 32 → Fin 128 → Prop) : num P = ∑ x, ∑ L, if P x L then (1 : EReal) else 0 := by
  rw [← Fintype.sum_prod_type' (f := fun x L => if P x L then (1 : EReal) else 0), Finset.sum_boole, num,
    Nat.card_eq_fintype_card, Fintype.card_subtype]

/-- A bit made a number is one when its property holds and zero otherwise. -/
theorem bit_val (t : BitVec 1) {p : Prop} [Decidable p] (h : t = 1#1 ↔ p) :
    (((BitVec.setWidth 32 t).toInt : ℝ) : EReal) = if p then 1 else 0 := by
  rcases (ind_bit t).congr h with ⟨hp, e⟩ | ⟨hp, e⟩
  · rw [e, if_pos hp]
  · rw [e, if_neg hp]

/-- A count over the grid. -/
def cnt (v : IVec S4x32x128 1) : FVec Ideal S4x1 .f32 :=
  shapeCast S4x1 (multiReduction .add [1] S4 (multiReduction .add [2] S4x32
    (sitofp .f32 (extui 32 v natLt_1_32)) 0x00000000#32 reduces_S4x32x128_S4x32 (.inl rfl) rfl)
    0x00000000#32 reduces_S4x32_S4 (.inl rfl) rfl) shapeCasts_S4_S4x1

/-- The kernel's sum over the grid counts the places where the bit is set. -/
theorem cnt_at (v : IVec S4x32x128 1) (b : Fin 4) (P : Fin 32 → Fin 128 → Prop)
    (h : ∀ x L, v (ix3 b x L) = 1#1 ↔ P x L) : cnt v (ix2 b 0) = num P := by
  classical
  unfold cnt
  pointwise []
  rw [num_sum]
  exact Finset.sum_congr rfl fun x _ => Finset.sum_congr rfl fun L _ => bit_val _ (h x L)

/-- The row of results: a count in each of the first three lanes, zero in the others. -/
def lanes (t f n : EReal) (l : Fin 128) : EReal := if l = 0 then t else if l = 1 then f else if l = 2 then n else 0

/-- Comparing the words of two lanes compares the lanes. -/
theorem lane_word (w : Fin 128) : ∀ l : Fin 128, IntOp.cmpi .eq (BitVec.ofNat 32 l.val) (BitVec.ofNat 32 w.val) = 1#1 ↔ l = w := by
  revert w
  decide +kernel

/-- A column of values along the lanes. -/
theorem along (v : FVec Ideal S4x1 .f32) (h h') (b : Fin 4) (l : Fin 128) :
    broadcastTo S4x128 (shapeCast S4x1 v h) h' (ix2 b l) = v (ix2 b 0) := by
  pointwise []

/-- Three selections by lane lay out the row of results. -/
theorem lanes_sel (t f n : EReal) (l : Fin 128) (c0 c1 c2 : BitVec 1) (h0 : c0 = 1#1 ↔ l = 0) (h1 : c1 = 1#1 ↔ l = 1)
    (h2 : c2 = 1#1 ↔ l = 2) : Scalar.select c0 t (Scalar.select c1 f (Scalar.select c2 n 0)) = lanes t f n l := by
  unfold lanes
  show (if c0 = 1#1 then t else if c1 = 1#1 then f else if c2 = 1#1 then n else 0) = _
  simp only [h0, h1, h2]

/-- The kernel's test of a lane's number holds in that lane only. -/
theorem v53_at (b : Fin 4) (l w : Fin 128) :
    cmpi .eq kernelRun.sl.v53 (broadcast S4x128 (BitVec.ofNat 32 w.val)) (ix2 b l) = 1#1 ↔ l = w := by
  delta kernelRun.sl.v53
  have e : iota .tc S4x128 32 [1] iota_S4x128_d1_w32 (ix2 b l) = BitVec.ofNat 32 l.val := by pointwise []
  show IntOp.cmpi .eq (iota .tc S4x128 32 [1] iota_S4x128_d1_w32 (ix2 b l)) (BitVec.ofNat 32 w.val) = 1#1 ↔ _
  rw [e]
  exact lane_word w l

/-- The row the kernel stores for the second group: its three counts in the first three lanes. -/
theorem row4_at (t f n : FVec Ideal S4x1 .f32) (b : Fin 4) (l : Fin 128) :
    k0_pay1 kernelRun.sl.v53 t n f (k0_pay374 kernelRun.sl.v53) 1#32 (ix2 b l)
      = lanes (t (ix2 b 0)) (f (ix2 b 0)) (n (ix2 b 0)) l := by
  refine Eq.trans ?_ (lanes_sel _ _ _ l _ _ _ (v53_at b l 0) (v53_at b l 1) (v53_at b l 2))
  rw [← along t shapeCasts_S4x1_S4x1 broadcasts_S4x1_S4x128 b l, ← along f shapeCasts_S4x1_S4x1 broadcasts_S4x1_S4x128 b l,
    ← along n shapeCasts_S4x1_S4x1 broadcasts_S4x1_S4x128 b l, ← zero_word]
  rfl

/-- The row the kernel stores for the first group: its three counts in the first three lanes. -/
theorem row0_at (t f : FVec Ideal S4x1 .f32) (w m : FVec Ideal S4x32x128 .f32) (b : Fin 4) (l : Fin 128) :
    k0_pay366 t f (k0_pay363 kernelRun.sl.v53) (k0_pay364 kernelRun.sl.v53) (k0_pay365 kernelRun.sl.v53 w m) (ix2 b l)
      = lanes (t (ix2 b 0)) (f (ix2 b 0)) (cnt (andi (cmpf .oeq m (broadcast S4x32x128 (Scalar.ofBits .f32 0x00000000#32)))
          (k0_pay357 w)) (ix2 b 0)) l := by
  refine Eq.trans ?_ (lanes_sel _ _ _ l _ _ _ (v53_at b l 0) (v53_at b l 1) (v53_at b l 2))
  rw [← along t shapeCasts_S4x1_S4x1 broadcasts_S4x1_S4x128 b l, ← along f shapeCasts_S4x1_S4x1 broadcasts_S4x1_S4x128 b l,
    ← along (cnt _) shapeCasts_S4x1_S4x1 broadcasts_S4x1_S4x128 b l, ← zero_word]
  rfl

variable (c : Dev nD)
  (M0 : Memref sig .tc .vmem S8x4x40x384 .f32) (h0 : M0.IsWhole) (M1 : Memref sig .tc .vmem S8x4x40x384 .f32) (h1 : M1.IsWhole)
  (M2 : Memref sig .tc .vmem S8x128 .f32) (h2 : M2.IsWhole) (M3 : Memref sig .tc .vmem S8x5x8x40x384 .f32) (h3 : M3.IsWhole)
  (M4 : Memref sig .tc .vmem S8x40x384 .f32) (h4 : M4.IsWhole) (M5 : Memref sig .tc .vmem S8x40x384 .f32) (h5 : M5.IsWhole)
  (M6 : Memref sig .tc .vmem S5x8x40x384 .f32) (h6 : M6.IsWhole) (M7 : Memref sig .tc .vmem S5x8x40x384 .f32) (h7 : M7.IsWhole)
  (M8 : Memref sig .tc .vmem S5x8x32x128 .i32) (h8 : M8.IsWhole)
  (f0 : Bf (F := Ideal) c M0) (f1 : Bf (F := Ideal) c M1) (f3 : Bf (F := Ideal) c M3)
  (f6 : Bf (F := Ideal) c M6) (f7 : Bf (F := Ideal) c M7) (f8 : Bf (F := Ideal) c M8)

/-- Testing a zero-or-one number for not being zero tests its property. -/
theorem ne_zero_iff (v : FVec Ideal S4x32x128 .f32) (i : S4x32x128.Idx) {p : Prop} (h : Ind (v i) p) :
    cmpf .one v (broadcast S4x32x128 (Scalar.ofBits (F := Ideal) FTy.f32 0x00000000#32)) i = 1#1 ↔ p := by
  refine bit_iff.trans ?_
  rw [zero_at]
  exact (not_congr h.eq_zero).trans not_not

/-- A target that counts. -/
def sureT (k : Fld) (q : Fin 8) (x : Fin 32) (L : Fin 128) : Prop := Ideal.ofBits .f32 0x3F000000#32 < k 4 q (row x) (lan 128 L)

/-- The kernel's bit for a target that counts, in the first group. -/
theorem sureT0 (b : Fin 4) (x : Fin 32) (L : Fin 128) :
    k0_pay357 (kernelRun.sl.r_14 c M1 f1) (ix3 b x L) = 1#1 ↔ sureT (kf c M0 M1 f0 f1) (gr 0 (by decide) b) x L := by
  rw [sureT, ← cen14 c M0 M1 f0 f1 b x L]
  exact bit_iff

/-- The kernel's bit for a target that counts, in the second group. -/
theorem sureT4 (b : Fin 4) (x : Fin 32) (L : Fin 128) :
    k0_pay367 (kernelRun.sl.r_22 c M1 f1) (ix3 b x L) = 1#1 ↔ sureT (kf c M0 M1 f0 f1) (gr 4 (by decide) b) x L := by
  rw [sureT, ← cen22 c M0 M1 f0 f1 b x L]
  exact bit_iff

/-- A kept prediction lies near a target. -/
def MetT (S : Fin 8 → Fin 40 → Fin 384 → EReal) (k : Fld) (q : Fin 8) (x : Fin 32) (L : Fin 128) : Prop :=
  ∃ d ∈ ([3, 2, 1] : List (Fin 5)), ∃ s ∈ shifts9, Near1 k S q d s.1 x L

/-- A target lies near a prediction. -/
def MetP (k : Fld) (q : Fin 8) (x : Fin 32) (L : Fin 128) : Prop :=
  ∃ d ∈ ([1, 2, 3] : List (Fin 5)), ∃ s ∈ shifts9, Near2 k q d s.1 x L

/-- The first group's first count: targets that count with a kept prediction near. -/
theorem t0_at (b : Fin 4) : k0_pay361 (kernelRun.sl.r_14 c M1 f1) (s7 c M0 h0 M1 h1 M2 h2 M3 h3 M4 h4 M5 h5 M6 h6 M7 h7 M8 h8 f0 f1 f3 f6 f7 f8).1 (ix2 b 0) = num fun x L => MetT (Sp c M0 h0 M1 h1 M2 h2 M3 h3 M4 h4 M5 h5 M6 h6 M7 h7 M8 h8 f0 f1 f3 f6 f8) (kf c M0 M1 f0 f1) (gr 0 (by decide) b) x L ∧ sureT (kf c M0 M1 f0 f1) (gr 0 (by decide) b) x L :=
  cnt_at _ b _ fun x L => (and_iff _ _).trans (and_congr (ne_zero_iff _ _ (s7_ind1 c M0 h0 M1 h1 M2 h2 M3 h3 M4 h4 M5 h5 M6 h6 M7 h7 M8 h8 f0 f1 f3 f6 f7 f8 b x L)) (sureT0 c M0 M1 f0 f1 b x L))

/-- The first group's second count: kept predictions with no target near. -/
theorem f0_at (b : Fin 4) : k0_pay362 (k0_pay347 (kernelRun.sl.r_26 c M0 f0) (s5 c M0 h0 M1 h1 M2 h2 M3 h3 M4 h4 M5 h5 M6 h6 M7 h7 M8 h8 f0 f1 f3 f6 f8)) (s7 c M0 h0 M1 h1 M2 h2 M3 h3 M4 h4 M5 h5 M6 h6 M7 h7 M8 h8 f0 f1 f3 f6 f7 f8).2 (ix2 b 0) = num fun x L => SelO c M0 h0 M1 h1 M2 h2 M3 h3 M4 h4 M5 h5 M6 h6 M7 h7 M8 h8 f0 f1 f3 b x L ∧ ¬MetP (kf c M0 M1 f0 f1) (gr 0 (by decide) b) x L :=
  cnt_at _ b _ fun x L => (and_iff _ _).trans (and_congr (sel0 c M0 h0 M1 h1 M2 h2 M3 h3 M4 h4 M5 h5 M6 h6 M7 h7 M8 h8 f0 f1 f3 f6 f8 b x L) (eq_zero_iff _ _ (s7_ind2 c M0 h0 M1 h1 M2 h2 M3 h3 M4 h4 M5 h5 M6 h6 M7 h7 M8 h8 f0 f1 f3 f6 f7 f8 b x L)))

/-- The first group's third count: targets that count with no kept prediction near. -/
theorem n0_at (b : Fin 4) : cnt (andi (cmpf .oeq (s7 c M0 h0 M1 h1 M2 h2 M3 h3 M4 h4 M5 h5 M6 h6 M7 h7 M8 h8 f0 f1 f3 f6 f7 f8).1 (broadcast S4x32x128 (Scalar.ofBits .f32 0x00000000#32))) (k0_pay357 (kernelRun.sl.r_14 c M1 f1))) (ix2 b 0) = num fun x L => ¬MetT (Sp c M0 h0 M1 h1 M2 h2 M3 h3 M4 h4 M5 h5 M6 h6 M7 h7 M8 h8 f0 f1 f3 f6 f8) (kf c M0 M1 f0 f1) (gr 0 (by decide) b) x L ∧ sureT (kf c M0 M1 f0 f1) (gr 0 (by decide) b) x L :=
  cnt_at _ b _ fun x L => (and_iff _ _).trans (and_congr (eq_zero_iff _ _ (s7_ind1 c M0 h0 M1 h1 M2 h2 M3 h3 M4 h4 M5 h5 M6 h6 M7 h7 M8 h8 f0 f1 f3 f6 f7 f8 b x L)) (sureT0 c M0 M1 f0 f1 b x L))

/-- The second group's first count: targets that count with a kept prediction near. -/
theorem t4_at (b : Fin 4) : k0_pay371 (kernelRun.sl.r_22 c M1 f1) (s8 c M0 h0 M1 h1 M2 h2 M3 h3 M4 h4 M5 h5 M6 h6 M7 h7 M8 h8 f0 f1 f3 f6 f7 f8).1 (ix2 b 0) = num fun x L => MetT (Sp c M0 h0 M1 h1 M2 h2 M3 h3 M4 h4 M5 h5 M6 h6 M7 h7 M8 h8 f0 f1 f3 f6 f8) (kf c M0 M1 f0 f1) (gr 4 (by decide) b) x L ∧ sureT (kf c M0 M1 f0 f1) (gr 4 (by decide) b) x L :=
  cnt_at _ b _ fun x L => (and_iff _ _).trans (and_congr (ne_zero_iff _ _ (s8_ind1 c M0 h0 M1 h1 M2 h2 M3 h3 M4 h4 M5 h5 M6 h6 M7 h7 M8 h8 f0 f1 f3 f6 f7 f8 b x L)) (sureT4 c M0 M1 f0 f1 b x L))

/-- The second group's second count: kept predictions with no target near. -/
theorem f4_at (b : Fin 4) : k0_pay373 (k0_pay352 (kernelRun.sl.r_29 c M0 f0) (s6 c M0 h0 M1 h1 M2 h2 M3 h3 M4 h4 M5 h5 M6 h6 M7 h7 M8 h8 f0 f1 f3 f6 f8)) (s8 c M0 h0 M1 h1 M2 h2 M3 h3 M4 h4 M5 h5 M6 h6 M7 h7 M8 h8 f0 f1 f3 f6 f7 f8).2 (ix2 b 0) = num fun x L => SelH c M0 h0 M1 h1 M2 h2 M3 h3 M4 h4 M5 h5 M6 h6 M7 h7 M8 h8 f0 f1 f3 b x L ∧ ¬MetP (kf c M0 M1 f0 f1) (gr 4 (by decide) b) x L :=
  cnt_at _ b _ fun x L => (and_iff _ _).trans (and_congr (sel4 c M0 h0 M1 h1 M2 h2 M3 h3 M4 h4 M5 h5 M6 h6 M7 h7 M8 h8 f0 f1 f3 f6 f8 b x L) (eq_zero_iff _ _ (s8_ind2 c M0 h0 M1 h1 M2 h2 M3 h3 M4 h4 M5 h5 M6 h6 M7 h7 M8 h8 f0 f1 f3 f6 f7 f8 b x L)))

/-- The second group's third count: targets that count with no kept prediction near. -/
theorem n4_at (b : Fin 4) : k0_pay372 (kernelRun.sl.r_22 c M1 f1) (s8 c M0 h0 M1 h1 M2 h2 M3 h3 M4 h4 M5 h5 M6 h6 M7 h7 M8 h8 f0 f1 f3 f6 f7 f8).1 (ix2 b 0) = num fun x L => ¬MetT (Sp c M0 h0 M1 h1 M2 h2 M3 h3 M4 h4 M5 h5 M6 h6 M7 h7 M8 h8 f0 f1 f3 f6 f8) (kf c M0 M1 f0 f1) (gr 4 (by decide) b) x L ∧ sureT (kf c M0 M1 f0 f1) (gr 4 (by decide) b) x L :=
  cnt_at _ b _ fun x L => (and_iff _ _).trans (and_congr (eq_zero_iff _ _ (s8_ind1 c M0 h0 M1 h1 M2 h2 M3 h3 M4 h4 M5 h5 M6 h6 M7 h7 M8 h8 f0 f1 f3 f6 f7 f8 b x L)) (sureT4 c M0 M1 f0 f1 b x L))

/-- The stored rows of the first group. -/
theorem out0 (f2 : BufTy.Contents (Elt Ideal) M2.view.ty) (b : Fin 4) (l : Fin 128) : M2.view.read (Elt Ideal) (M2.view.writes (Elt Ideal) f2
      (kernelRun.sl.H2_2 c M0 h0 M1 h1 M2 h2 M3 h3 M4 h4 M5 h5 M6 h6 M7 h7 M8 h8 f0 f1 f3 f6 f7 f8)) (ix2 (gr 0 (by decide) b) l)
    = lanes (num fun x L => MetT (Sp c M0 h0 M1 h1 M2 h2 M3 h3 M4 h4 M5 h5 M6 h6 M7 h7 M8 h8 f0 f1 f3 f6 f8) (kf c M0 M1 f0 f1) (gr 0 (by decide) b) x L ∧ sureT (kf c M0 M1 f0 f1) (gr 0 (by decide) b) x L)
        (num fun x L => SelO c M0 h0 M1 h1 M2 h2 M3 h3 M4 h4 M5 h5 M6 h6 M7 h7 M8 h8 f0 f1 f3 b x L ∧ ¬MetP (kf c M0 M1 f0 f1) (gr 0 (by decide) b) x L)
        (num fun x L => ¬MetT (Sp c M0 h0 M1 h1 M2 h2 M3 h3 M4 h4 M5 h5 M6 h6 M7 h7 M8 h8 f0 f1 f3 f6 f8) (kf c M0 M1 f0 f1) (gr 0 (by decide) b) x L ∧ sureT (kf c M0 M1 f0 f1) (gr 0 (by decide) b) x L) l := by
  rw [H2_eq]
  have h : ∀ a : Fin 2, ((ix2 (gr 0 (by decide) b) l : S8x128.Idx) a).val = (![0, 0] : Fin 2 → ℕ) a + ((ix2 b l : S4x128.Idx) a).val := by
    intro a
    fin_cases a
    · rfl
    · exact (Nat.zero_add _).symm
  have h' : 0 + b.val < 4 ∨ 4 + 4 ≤ 0 + b.val := by omega
  refine (View.read_writes_cons_unit_of_not_mem M2.view f2 inb_S8x128_S4x128_4_0 _ _ (ix2 (gr 0 (by decide) b) l) rfl 0 h').trans
    ((View.read_writes_cons_unit_of_mem M2.view f2 inb_S8x128_S4x128_0_0 _ [] (ix2 (gr 0 (by decide) b) l) (ix2 b l) rfl h).trans ?_)
  rw [row0_at, t0_at, f0_at, n0_at]

/-- The stored rows of the second group. -/
theorem out4 (f2 : BufTy.Contents (Elt Ideal) M2.view.ty) (b : Fin 4) (l : Fin 128) : M2.view.read (Elt Ideal) (M2.view.writes (Elt Ideal) f2
      (kernelRun.sl.H2_2 c M0 h0 M1 h1 M2 h2 M3 h3 M4 h4 M5 h5 M6 h6 M7 h7 M8 h8 f0 f1 f3 f6 f7 f8)) (ix2 (gr 4 (by decide) b) l)
    = lanes (num fun x L => MetT (Sp c M0 h0 M1 h1 M2 h2 M3 h3 M4 h4 M5 h5 M6 h6 M7 h7 M8 h8 f0 f1 f3 f6 f8) (kf c M0 M1 f0 f1) (gr 4 (by decide) b) x L ∧ sureT (kf c M0 M1 f0 f1) (gr 4 (by decide) b) x L)
        (num fun x L => SelH c M0 h0 M1 h1 M2 h2 M3 h3 M4 h4 M5 h5 M6 h6 M7 h7 M8 h8 f0 f1 f3 b x L ∧ ¬MetP (kf c M0 M1 f0 f1) (gr 4 (by decide) b) x L)
        (num fun x L => ¬MetT (Sp c M0 h0 M1 h1 M2 h2 M3 h3 M4 h4 M5 h5 M6 h6 M7 h7 M8 h8 f0 f1 f3 f6 f8) (kf c M0 M1 f0 f1) (gr 4 (by decide) b) x L ∧ sureT (kf c M0 M1 f0 f1) (gr 4 (by decide) b) x L) l := by
  rw [H2_eq]
  have h : ∀ a : Fin 2, ((ix2 (gr 4 (by decide) b) l : S8x128.Idx) a).val = (![4, 0] : Fin 2 → ℕ) a + ((ix2 b l : S4x128.Idx) a).val := by
    intro a
    fin_cases a
    · rfl
    · exact (Nat.zero_add _).symm
  refine (View.read_writes_cons_unit_of_mem M2.view f2 inb_S8x128_S4x128_4_0 _ _ (ix2 (gr 4 (by decide) b) l) (ix2 b l) rfl h).trans ?_
  rw [row4_at, t4_at, f4_at, n4_at]

end Cert.KernelIdeal.Body

end
-- ==== Proof.Geo.lean ====
module

public import proofs.«01_k».proof.Proof.Out

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem

/-! The geometry: which places of the padded grid lie near a centre. -/

/-- The place in reading order of a row and a lane. -/
def cell (x : Fin 32) (L : Fin 128) : Fin 4096 := ⟨L.val / 32 * 1024 + x.val * 32 + L.val % 32, by omega⟩

/-- A grid of places: inside, the scaled cell plus an offset within it; around it, far away. -/
structure Grid (fz fx fy : Fin 40 → Fin 384 → EReal) : Prop where
  inn : ∀ (x : Fin 32) (L : Fin 128), ∃ oz ox oy : ℝ, (0 ≤ oz ∧ oz ≤ 1) ∧ (0 ≤ ox ∧ ox ≤ 1) ∧ (0 ≤ oy ∧ oy ≤ 1)
    ∧ fz (row x) (lan 128 L) = (((oz + (L.val / 32 : ℕ)) * (3 / 4) : ℝ) : EReal)
    ∧ fx (row x) (lan 128 L) = (((ox + x.val) * (25 / 32) : ℝ) : EReal)
    ∧ fy (row x) (lan 128 L) = (((oy + (L.val % 32 : ℕ)) * (25 / 32) : ℝ) : EReal)
  out : ∀ (r : Fin 40) (l : Fin 384), ¬(4 ≤ r.val ∧ r.val < 36 ∧ 128 ≤ l.val ∧ l.val < 256) →
    ∃ z x y : ℝ, z ≤ -1000 ∧ fz r l = (z : EReal) ∧ fx r l = (x : EReal) ∧ fy r l = (y : EReal)

/-- The squared distance of real places is the real squared distance. -/
theorem sq_real (a1 a2 a3 b1 b2 b3 : ℝ) : sq (a1 : EReal) (a2 : EReal) (a3 : EReal) (b1 : EReal) (b2 : EReal) (b3 : EReal)
    = (((a1 - b1) * (a1 - b1) + (a2 - b2) * (a2 - b2) + (a3 - b3) * (a3 - b3) : ℝ) : EReal) := by
  unfold Trips.sq
  norm_cast

/-- Two offsets in cells at least two apart are at least one apart; three apart, two. -/
theorem sep (o o' : ℝ) (ho : 0 ≤ o ∧ o ≤ 1) (ho' : 0 ≤ o' ∧ o' ≤ 1) (a b : ℕ) :
    (((a : ℤ) - b ≥ 2 ∨ (a : ℤ) - b ≤ -2) → 1 ≤ ((o + a) - (o' + b)) * ((o + a) - (o' + b)))
    ∧ (((a : ℤ) - b ≥ 3 ∨ (a : ℤ) - b ≤ -3) → 4 ≤ ((o + a) - (o' + b)) * ((o + a) - (o' + b))) := by
  have key : ∀ n : ℝ, 0 ≤ n → ((a : ℝ) - b ≥ n + 1 ∨ (a : ℝ) - b ≤ -(n + 1)) →
      n * n ≤ ((o + a) - (o' + b)) * ((o + a) - (o' + b)) := by
    rintro n hn (h | h)
    · exact mul_self_le_mul_self hn (by linarith [ho.1, ho'.2])
    · have := mul_self_le_mul_self hn (show n ≤ -((o + a) - (o' + b)) by linarith [ho.2, ho'.1])
      linarith
  constructor
  · rintro (h | h)
    · have : ((2 : ℤ) : ℝ) ≤ (((a : ℤ) - b : ℤ) : ℝ) := Int.cast_le.2 h
      push_cast at this
      have := key 1 (by norm_num) (.inl (by linarith))
      linarith
    · have : (((a : ℤ) - b : ℤ) : ℝ) ≤ ((-2 : ℤ) : ℝ) := Int.cast_le.2 h
      push_cast at this
      have := key 1 (by norm_num) (.inr (by linarith))
      linarith
  · rintro (h | h)
    · have : ((3 : ℤ) : ℝ) ≤ (((a : ℤ) - b : ℤ) : ℝ) := Int.cast_le.2 h
      push_cast at this
      have := key 2 (by norm_num) (.inl (by linarith))
      linarith
    · have : (((a : ℤ) - b : ℤ) : ℝ) ≤ ((-3 : ℤ) : ℝ) := Int.cast_le.2 h
      push_cast at this
      have := key 2 (by norm_num) (.inr (by linarith))
      linarith

/-- How far two cells are apart when their places are near. -/
def Close (thr : EReal) (dz dx dy : ℤ) : Prop :=
  (-2 ≤ dz ∧ dz ≤ 2 ∧ -2 ≤ dx ∧ dx ≤ 2 ∧ -2 ≤ dy ∧ dy ≤ 2)
  ∧ ((2 ≤ dx ∨ dx ≤ -2) → -1 ≤ dz ∧ dz ≤ 1 ∧ -1 ≤ dy ∧ dy ≤ 1)
  ∧ ((2 ≤ dz ∨ dz ≤ -2) → -1 ≤ dy ∧ dy ≤ 1)
  ∧ (thr ≤ ((9 / 16 : ℝ) : EReal) → -1 ≤ dz ∧ dz ≤ 1 ∧ -1 ≤ dx ∧ dx ≤ 1 ∧ -1 ≤ dy ∧ dy ≤ 1)

/-- Two places in cells nearer than the threshold lie in cells close to each other. -/
theorem close_of (thr : EReal) (ht : thr ≤ ((27 / 25 : ℝ) : EReal)) (o1 o2 o3 p1 p2 p3 : ℝ)
    (h1 : 0 ≤ o1 ∧ o1 ≤ 1) (h2 : 0 ≤ o2 ∧ o2 ≤ 1) (h3 : 0 ≤ o3 ∧ o3 ≤ 1)
    (g1 : 0 ≤ p1 ∧ p1 ≤ 1) (g2 : 0 ≤ p2 ∧ p2 ≤ 1) (g3 : 0 ≤ p3 ∧ p3 ≤ 1) (a1 a2 a3 b1 b2 b3 : ℕ)
    (h : sq (((o1 + a1) * (3 / 4) : ℝ) : EReal) (((o2 + a2) * (25 / 32) : ℝ) : EReal) (((o3 + a3) * (25 / 32) : ℝ) : EReal)
      (((p1 + b1) * (3 / 4) : ℝ) : EReal) (((p2 + b2) * (25 / 32) : ℝ) : EReal) (((p3 + b3) * (25 / 32) : ℝ) : EReal) < thr) :
    Close thr ((a1 : ℤ) - b1) ((a2 : ℤ) - b2) ((a3 : ℤ) - b3) := by
  rw [sq_real] at h
  have s1 := sep o1 p1 h1 g1 a1 b1
  have s2 := sep o2 p2 h2 g2 a2 b2
  have s3 := sep o3 p3 h3 g3 a3 b3
  have n1 := mul_self_nonneg ((o1 + a1) - (p1 + b1))
  have n2 := mul_self_nonneg ((o2 + a2) - (p2 + b2))
  have n3 := mul_self_nonneg ((o3 + a3) - (p3 + b3))
  generalize e1 : ((o1 + a1) - (p1 + b1)) * ((o1 + a1) - (p1 + b1)) = t1 at s1 n1
  generalize e2 : ((o2 + a2) - (p2 + b2)) * ((o2 + a2) - (p2 + b2)) = t2 at s2 n2
  generalize e3 : ((o3 + a3) - (p3 + b3)) * ((o3 + a3) - (p3 + b3)) = t3 at s3 n3
  have e : ((o1 + a1) * (3 / 4) - (p1 + b1) * (3 / 4)) * ((o1 + a1) * (3 / 4) - (p1 + b1) * (3 / 4))
      + ((o2 + a2) * (25 / 32) - (p2 + b2) * (25 / 32)) * ((o2 + a2) * (25 / 32) - (p2 + b2) * (25 / 32))
      + ((o3 + a3) * (25 / 32) - (p3 + b3) * (25 / 32)) * ((o3 + a3) * (25 / 32) - (p3 + b3) * (25 / 32))
      = 9 / 16 * t1 + 625 / 1024 * t2 + 625 / 1024 * t3 := by
    rw [← e1, ← e2, ← e3]
    ring
  rw [e] at h
  have hb : 9 / 16 * t1 + 625 / 1024 * t2 + 625 / 1024 * t3 < 27 / 25 := EReal.coe_lt_coe_iff.1 (h.trans_le ht)
  generalize (a1 : ℤ) - b1 = d1 at *
  generalize (a2 : ℤ) - b2 = d2 at *
  generalize (a3 : ℤ) - b3 = d3 at *
  have far1 : ¬(d1 ≥ 3 ∨ d1 ≤ -3) := fun c => by have := s1.2 c; linarith
  have far2 : ¬(d2 ≥ 3 ∨ d2 ≤ -3) := fun c => by have := s2.2 c; linarith
  have far3 : ¬(d3 ≥ 3 ∨ d3 ≤ -3) := fun c => by have := s3.2 c; linarith
  have p12 : ¬((d1 ≥ 2 ∨ d1 ≤ -2) ∧ (d2 ≥ 2 ∨ d2 ≤ -2)) := fun c => by have := s1.1 c.1; have := s2.1 c.2; linarith
  have p13 : ¬((d1 ≥ 2 ∨ d1 ≤ -2) ∧ (d3 ≥ 2 ∨ d3 ≤ -2)) := fun c => by have := s1.1 c.1; have := s3.1 c.2; linarith
  have p23 : ¬((d2 ≥ 2 ∨ d2 ≤ -2) ∧ (d3 ≥ 2 ∨ d3 ≤ -2)) := fun c => by have := s2.1 c.1; have := s3.1 c.2; linarith
  refine ⟨by omega, by omega, by omega, fun hs => ?_⟩
  have hb' : 9 / 16 * t1 + 625 / 1024 * t2 + 625 / 1024 * t3 < 9 / 16 := EReal.coe_lt_coe_iff.1 (h.trans_le hs)
  have q1 : ¬(d1 ≥ 2 ∨ d1 ≤ -2) := fun c => by have := s1.1 c; linarith
  have q2 : ¬(d2 ≥ 2 ∨ d2 ≤ -2) := fun c => by have := s2.1 c; linarith
  have q3 : ¬(d3 ≥ 2 ∨ d3 ≤ -2) := fun c => by have := s3.1 c; linarith
  omega

/-- Two grids' places at two cells, compared. -/
theorem close_cells {fz fx fy gz gx gy : Fin 40 → Fin 384 → EReal} (hf : Grid fz fx fy) (hg : Grid gz gx gy) (thr : EReal)
    (ht : thr ≤ ((27 / 25 : ℝ) : EReal)) (x' : Fin 32) (L' : Fin 128) (x : Fin 32) (L : Fin 128)
    (h : sq (fz (row x') (lan 128 L')) (fx (row x') (lan 128 L')) (fy (row x') (lan 128 L'))
      (gz (row x) (lan 128 L)) (gx (row x) (lan 128 L)) (gy (row x) (lan 128 L)) < thr) :
    Close thr (((L'.val / 32 : ℕ) : ℤ) - (L.val / 32 : ℕ)) ((x'.val : ℤ) - x.val) (((L'.val % 32 : ℕ) : ℤ) - (L.val % 32 : ℕ)) := by
  obtain ⟨o1, o2, o3, h1, h2, h3, e1, e2, e3⟩ := hf.inn x' L'
  obtain ⟨p1, p2, p3, g1, g2, g3, k1, k2, k3⟩ := hg.inn x L
  rw [e1, e2, e3, k1, k2, k3] at h
  exact close_of thr ht o1 o2 o3 p1 p2 p3 h1 h2 h3 g1 g2 g3 _ _ _ _ _ _ h

/-- A place around the grid is near no centre. -/
theorem inside {fz fx fy gz gx gy : Fin 40 → Fin 384 → EReal} (hf : Grid fz fx fy) (hg : Grid gz gx gy) (thr : EReal)
    (ht : thr ≤ ((27 / 25 : ℝ) : EReal)) (r : Fin 40) (l : Fin 384) (x : Fin 32) (L : Fin 128)
    (h : sq (fz r l) (fx r l) (fy r l) (gz (row x) (lan 128 L)) (gx (row x) (lan 128 L)) (gy (row x) (lan 128 L)) < thr) :
    ∃ (x' : Fin 32) (L' : Fin 128), r = row x' ∧ l = lan 128 L' := by
  by_cases hi : 4 ≤ r.val ∧ r.val < 36 ∧ 128 ≤ l.val ∧ l.val < 256
  · exact ⟨⟨r.val - 4, by omega⟩, ⟨l.val - 128, by omega⟩, Fin.ext (by show r.val = 4 + (r.val - 4); omega),
      Fin.ext (by show l.val = 128 + (l.val - 128); omega)⟩
  · obtain ⟨z, u, v, hz, e1, e2, e3⟩ := hf.out r l hi
    obtain ⟨p1, p2, p3, g1, g2, g3, k1, k2, k3⟩ := hg.inn x L
    rw [e1, e2, e3, k1, k2, k3, sq_real] at h
    have hb := EReal.coe_lt_coe_iff.1 (h.trans_le ht)
    have hL : (0 : ℝ) ≤ (L.val / 32 : ℕ) := Nat.cast_nonneg _
    have n2 := mul_self_nonneg (u - (p2 + (x.val : ℕ)) * (25 / 32))
    have n3 := mul_self_nonneg (v - (p3 + (L.val % 32 : ℕ)) * (25 / 32))
    have n1 := mul_self_le_mul_self (show (0 : ℝ) ≤ 2 by norm_num)
      (show 2 ≤ -(z - (p1 + (L.val / 32 : ℕ)) * (3 / 4)) by nlinarith [g1.1])
    linarith

/-! The shifts. -/

/-- Which comparison goes with a shift by layers and columns. -/
def okCmp (a b : Fin 5) : Cmp → Prop
  | .ge => a.val < 2
  | .gt => 2 < a.val
  | .tie w => a.val = 2 ∧ w = BitVec.ofNat 32 b.val - 2#32

instance (a b : Fin 5) (t : Cmp) : Decidable (okCmp a b t) := by
  cases t <;> unfold okCmp <;> infer_instance

/-- Each of the twenty-one shifts is the offset of a layer and column step, with the right comparison. -/
theorem code21 : ∀ s ∈ shifts21, ∃ a b : Fin 5, s.1.val = 62 + 32 * a.val + b.val ∧ okCmp a b s.2 := by
  decide +kernel

/-- Every layer and column step the twenty-one shifts must cover is among them, with the right comparison. -/
theorem of_code21 : ∀ a b : Fin 5, ((a = 0 ∨ a = 4) → (1 ≤ b.val ∧ b.val ≤ 3)) →
    ∃ s ∈ shifts21, s.1.val = 62 + 32 * a.val + b.val ∧ okCmp a b s.2 := by
  decide +kernel

/-- Every step of at most one layer and one column is among the nine shifts, with the right comparison. -/
theorem of_code9 : ∀ a b : Fin 5, (1 ≤ a.val ∧ a.val ≤ 3) → (1 ≤ b.val ∧ b.val ≤ 3) →
    ∃ s ∈ shifts9, s.1.val = 62 + 32 * a.val + b.val ∧ okCmp a b s.2 := by
  decide +kernel

/-- Each of the nine shifts is the offset of a layer and column step, with the right comparison. -/
theorem code9 : ∀ s ∈ shifts9, ∃ a b : Fin 5, s.1.val = 62 + 32 * a.val + b.val ∧ okCmp a b s.2 := by
  decide +kernel

/-- The kernel's test that a row and column shift points backwards, as an inequality of whole numbers. -/
theorem slt_iff : ∀ d b : Fin 5, Scalar.cmpi .slt (Scalar.addi (Scalar.muli (Scalar.subi (BitVec.ofNat 32 d.val) 2#32) 32#32)
    (BitVec.ofNat 32 b.val - 2#32)) 0#32 = 1#1 ↔ 32 * d.val + b.val < 66 := by
  decide +kernel

/-- The rule of the order at a shift. -/
theorem rank_before (d a b : Fin 5) (t : Cmp) (ht : okCmp a b t) (cs conf : EReal) :
    rankP d cs conf t ↔ (conf < cs ∨ (cs = conf ∧ 1024 * a.val + 32 * d.val + b.val < 2114)) := by
  have ha := a.isLt
  have hb := b.isLt
  have hd := d.isLt
  cases t with
  | ge =>
    have : a.val < 2 := ht
    rw [show rankP d cs conf .ge = (conf ≤ cs) from rfl, le_iff_lt_or_eq]
    exact or_congr Iff.rfl ⟨fun e => ⟨e.symm, by omega⟩, fun e => e.1.symm⟩
  | gt =>
    have : 2 < a.val := ht
    rw [show rankP d cs conf .gt = (conf < cs) from rfl]
    exact ⟨.inl, fun h => h.elim id fun e => absurd e.2 (by omega)⟩
  | tie w =>
    obtain ⟨h2, rfl⟩ : a.val = 2 ∧ w = BitVec.ofNat 32 b.val - 2#32 := ht
    refine or_congr Iff.rfl (and_congr Iff.rfl ((slt_iff d b).trans ?_))
    omega

/-- A window's place, when it is near the centre: a cell at the shift's distance. -/
theorem window {fz fx fy gz gx gy : Fin 40 → Fin 384 → EReal} (hf : Grid fz fx fy) (hg : Grid gz gx gy) (thr : EReal)
    (ht : thr ≤ ((27 / 25 : ℝ) : EReal)) (d a b : Fin 5) (o : Fin 257) (ho : o.val = 62 + 32 * a.val + b.val)
    (x : Fin 32) (L : Fin 128)
    (h : sq (fz (shr x d) (lan o L)) (fx (shr x d) (lan o L)) (fy (shr x d) (lan o L))
      (gz (row x) (lan 128 L)) (gx (row x) (lan 128 L)) (gy (row x) (lan 128 L)) < thr) :
    ∃ (x' : Fin 32) (L' : Fin 128), shr x d = row x' ∧ lan o L = lan 128 L'
      ∧ (1024 * a.val + 32 * d.val + b.val < 2114 ↔ cell x' L' < cell x L) := by
  obtain ⟨x', L', e1, e2⟩ := inside hf hg thr ht _ _ x L h
  refine ⟨x', L', e1, e2, ?_⟩
  rw [e1, e2] at h
  obtain ⟨c, -⟩ := close_cells hf hg thr ht x' L' x L h
  have f1 : x.val + d.val + 2 = 4 + x'.val := congrArg Fin.val e1
  have f2 : o.val + L.val = 128 + L'.val := congrArg Fin.val e2
  show _ ↔ L'.val / 32 * 1024 + x'.val * 32 + L'.val % 32 < L.val / 32 * 1024 + x.val * 32 + L.val % 32
  have ha := a.isLt
  have hb := b.isLt
  omega

/-- A cell near the centre, as a window's place. -/
theorem shift_of (x x' : Fin 32) (L L' : Fin 128) (d a b : Fin 5) (o : Fin 257) (ho : o.val = 62 + 32 * a.val + b.val)
    (hd : (d.val : ℤ) = (x'.val : ℤ) - x.val + 2) (ha : (a.val : ℤ) = ((L'.val / 32 : ℕ) : ℤ) - (L.val / 32 : ℕ) + 2)
    (hb : (b.val : ℤ) = ((L'.val % 32 : ℕ) : ℤ) - (L.val % 32 : ℕ) + 2) :
    shr x d = row x' ∧ lan o L = lan 128 L' ∧ (1024 * a.val + 32 * d.val + b.val < 2114 ↔ cell x' L' < cell x L) := by
  refine ⟨Fin.ext ?_, Fin.ext ?_, ?_⟩
  · show x.val + d.val + 2 = 4 + x'.val
    omega
  · show o.val + L.val = 128 + L'.val
    omega
  · show _ ↔ L'.val / 32 * 1024 + x'.val * 32 + L'.val % 32 < L.val / 32 * 1024 + x.val * 32 + L.val % 32
    omega

/-- The earlier of two predictions. -/
def Before (ci cj : EReal) (i j : Fin 4096) : Prop := cj < ci ∨ (ci = cj ∧ i < j)

/-- A window's test is the test at the cell it shows. -/
theorem hit_cell {k : Fld} {q : Fin 8} (hk : Grid (k 1 q) (k 2 q) (k 3 q)) (thr : EReal) (ht : thr ≤ ((27 / 25 : ℝ) : EReal))
    (s : Sh) (a b : Fin 5) (hs : s.1.val = 62 + 32 * a.val + b.val) (hc : okCmp a b s.2) (d : Fin 5) (x : Fin 32)
    (L : Fin 128) (h : HitP thr k q d s x L) :
    ∃ (x' : Fin 32) (L' : Fin 128), shr x d = row x' ∧ lan s.1 L = lan 128 L'
      ∧ sq (k 1 q (row x') (lan 128 L')) (k 2 q (row x') (lan 128 L')) (k 3 q (row x') (lan 128 L'))
          (k 1 q (row x) (lan 128 L)) (k 2 q (row x) (lan 128 L)) (k 3 q (row x) (lan 128 L)) < thr
      ∧ Before (k 0 q (row x') (lan 128 L')) (k 0 q (row x) (lan 128 L)) (cell x' L') (cell x L) ∧ sureC k q x' L' := by
  obtain ⟨⟨h1, h2⟩, h3⟩ := h
  obtain ⟨x', L', e1, e2, e3⟩ := window hk hk thr ht d a b s.1 hs x L h1
  rw [e1, e2] at h1 h2 h3
  refine ⟨x', L', e1, e2, h1, ?_, h3⟩
  have := (rank_before d a b s.2 hc _ _).1 h2
  rwa [e3] at this

/-- The test at a cell, found in some window. -/
theorem cell_hit {k : Fld} {q : Fin 8} (thr : EReal) (s : Sh) (a b d : Fin 5)
    (hs : s.1.val = 62 + 32 * a.val + b.val) (hc : okCmp a b s.2) (x x' : Fin 32) (L L' : Fin 128)
    (hd : (d.val : ℤ) = (x'.val : ℤ) - x.val + 2) (ha : (a.val : ℤ) = ((L'.val / 32 : ℕ) : ℤ) - (L.val / 32 : ℕ) + 2)
    (hb : (b.val : ℤ) = ((L'.val % 32 : ℕ) : ℤ) - (L.val % 32 : ℕ) + 2)
    (h1 : sq (k 1 q (row x') (lan 128 L')) (k 2 q (row x') (lan 128 L')) (k 3 q (row x') (lan 128 L'))
          (k 1 q (row x) (lan 128 L)) (k 2 q (row x) (lan 128 L)) (k 3 q (row x) (lan 128 L)) < thr)
    (h2 : Before (k 0 q (row x') (lan 128 L')) (k 0 q (row x) (lan 128 L)) (cell x' L') (cell x L))
    (h3 : sureC k q x' L') :
    HitP thr k q d s x L ∧ shr x d = row x' ∧ lan s.1 L = lan 128 L' := by
  obtain ⟨e1, e2, e3⟩ := shift_of x x' L L' d a b s.1 hs hd ha hb
  refine ⟨⟨⟨?_, ?_⟩, ?_⟩, e1, e2⟩
  · rw [e1, e2]; exact h1
  · rw [e1, e2, rank_before d a b s.2 hc, e3]; exact h2
  · rw [e1, e2]; exact h3

/-- All the windows of a group together look at all the cells. -/
theorem any_iff {k : Fld} {q : Fin 8} (hk : Grid (k 1 q) (k 2 q) (k 3 q)) (g : ℕ) (thr : EReal)
    (ht : thr ≤ ((27 / 25 : ℝ) : EReal)) (hg : g ≠ 0 → thr ≤ ((9 / 16 : ℝ) : EReal)) (Q : Fin 40 → Fin 384 → Prop)
    (x : Fin 32) (L : Fin 128) :
    (Any g fun d s => HitP thr k q d s x L ∧ Q (shr x d) (lan s.1 L))
      ↔ ∃ (x' : Fin 32) (L' : Fin 128), (sq (k 1 q (row x') (lan 128 L')) (k 2 q (row x') (lan 128 L')) (k 3 q (row x') (lan 128 L'))
          (k 1 q (row x) (lan 128 L)) (k 2 q (row x) (lan 128 L)) (k 3 q (row x) (lan 128 L)) < thr
        ∧ Before (k 0 q (row x') (lan 128 L')) (k 0 q (row x) (lan 128 L)) (cell x' L') (cell x L) ∧ sureC k q x' L')
        ∧ Q (row x') (lan 128 L') := by
  have fwd : ∀ (d : Fin 5) (s : Sh) (a b : Fin 5), s.1.val = 62 + 32 * a.val + b.val → okCmp a b s.2 →
      HitP thr k q d s x L → Q (shr x d) (lan s.1 L) → ∃ (x' : Fin 32) (L' : Fin 128), (sq (k 1 q (row x') (lan 128 L')) (k 2 q (row x') (lan 128 L')) (k 3 q (row x') (lan 128 L'))
          (k 1 q (row x) (lan 128 L)) (k 2 q (row x) (lan 128 L)) (k 3 q (row x) (lan 128 L)) < thr
        ∧ Before (k 0 q (row x') (lan 128 L')) (k 0 q (row x) (lan 128 L)) (cell x' L') (cell x L) ∧ sureC k q x' L')
        ∧ Q (row x') (lan 128 L') := fun d s a b hs hc h hq => by
    obtain ⟨x', L', e1, e2, r⟩ := hit_cell hk thr ht s a b hs hc d x L h
    rw [e1, e2] at hq
    exact ⟨x', L', r, hq⟩
  constructor
  · intro h
    unfold Any at h
    split at h
    · rcases h with ⟨d, -, s, hs, h, hq⟩ | ⟨d, -, s, hs, h, hq⟩
      · obtain ⟨a, b, e, hc⟩ := code21 s hs
        exact fwd d s a b e hc h hq
      · obtain ⟨a, b, e, hc⟩ := code9 s hs
        exact fwd d s a b e hc h hq
    · obtain ⟨d, -, s, hs, h, hq⟩ := h
      obtain ⟨a, b, e, hc⟩ := code9 s hs
      exact fwd d s a b e hc h hq
  · rintro ⟨x', L', ⟨h1, h2, h3⟩, hq⟩
    obtain ⟨c1, c2, c3, c4⟩ := close_cells hk hk thr ht x' L' x L h1
    obtain ⟨d, hd⟩ : ∃ d : Fin 5, (d.val : ℤ) = (x'.val : ℤ) - x.val + 2 := ⟨⟨((x'.val : ℤ) - x.val + 2).toNat, by omega⟩, by
      show (((x'.val : ℤ) - x.val + 2).toNat : ℤ) = _; omega⟩
    obtain ⟨a, ha⟩ : ∃ a : Fin 5, (a.val : ℤ) = ((L'.val / 32 : ℕ) : ℤ) - (L.val / 32 : ℕ) + 2 :=
      ⟨⟨(((L'.val / 32 : ℕ) : ℤ) - (L.val / 32 : ℕ) + 2).toNat, by omega⟩, by
        show ((((L'.val / 32 : ℕ) : ℤ) - (L.val / 32 : ℕ) + 2).toNat : ℤ) = _; omega⟩
    obtain ⟨b, hb⟩ : ∃ b : Fin 5, (b.val : ℤ) = ((L'.val % 32 : ℕ) : ℤ) - (L.val % 32 : ℕ) + 2 :=
      ⟨⟨(((L'.val % 32 : ℕ) : ℤ) - (L.val % 32 : ℕ) + 2).toNat, by omega⟩, by
        show ((((L'.val % 32 : ℕ) : ℤ) - (L.val % 32 : ℕ) + 2).toNat : ℤ) = _; omega⟩
    have dm : ∀ d : Fin 5, (1 ≤ d.val ∧ d.val ≤ 3) → d ∈ ([1, 2, 3] : List (Fin 5)) := by decide
    have dm' : ∀ d : Fin 5, ¬(1 ≤ d.val ∧ d.val ≤ 3) → d ∈ ([0, 4] : List (Fin 5)) := by decide
    have am : (a = 0 ∨ a = 4) → a.val = 0 ∨ a.val = 4 := fun h => h.imp (congrArg Fin.val) (congrArg Fin.val)
    have put : ∀ s : Sh, s.1.val = 62 + 32 * a.val + b.val → okCmp a b s.2 →
        HitP thr k q d s x L ∧ Q (shr x d) (lan s.1 L) := fun s hs hc => by
      obtain ⟨r, e1, e2⟩ := cell_hit thr s a b d hs hc x x' L L' hd ha hb h1 h2 h3
      rw [e1, e2]
      exact ⟨r, hq⟩
    unfold Any
    split
    · by_cases hm : 1 ≤ d.val ∧ d.val ≤ 3
      · obtain ⟨s, hs, e, hc⟩ := of_code21 a b (fun h => by have := am h; omega)
        exact .inl ⟨d, dm d hm, s, hs, put s e hc⟩
      · obtain ⟨s, hs, e, hc⟩ := of_code9 a b (by omega) (by omega)
        exact .inr ⟨d, dm' d hm, s, hs, put s e hc⟩
    · rename_i h0
      have := c4 (hg h0)
      obtain ⟨s, hs, e, hc⟩ := of_code9 a b (by omega) (by omega)
      exact ⟨d, dm d (by omega), s, hs, put s e hc⟩

/-- The nine shifts of three planes look at all the cells near a centre, for a small threshold. -/
theorem nine_iff {fz fx fy gz gx gy : Fin 40 → Fin 384 → EReal} (hf : Grid fz fx fy) (hg : Grid gz gx gy) (thr : EReal)
    (ht : thr ≤ ((9 / 16 : ℝ) : EReal)) (Q : Fin 40 → Fin 384 → Prop) (x : Fin 32) (L : Fin 128) (ds : List (Fin 5))
    (hds : ∀ d : Fin 5, (1 ≤ d.val ∧ d.val ≤ 3) → d ∈ ds) :
    (∃ d ∈ ds, ∃ s ∈ shifts9, sq (fz (shr x d) (lan s.1 L)) (fx (shr x d) (lan s.1 L)) (fy (shr x d) (lan s.1 L))
        (gz (row x) (lan 128 L)) (gx (row x) (lan 128 L)) (gy (row x) (lan 128 L)) < thr ∧ Q (shr x d) (lan s.1 L))
      ↔ ∃ (x' : Fin 32) (L' : Fin 128), sq (fz (row x') (lan 128 L')) (fx (row x') (lan 128 L')) (fy (row x') (lan 128 L'))
        (gz (row x) (lan 128 L)) (gx (row x) (lan 128 L)) (gy (row x) (lan 128 L)) < thr ∧ Q (row x') (lan 128 L') := by
  have ht' : thr ≤ ((27 / 25 : ℝ) : EReal) := ht.trans (EReal.coe_le_coe_iff.2 (by norm_num))
  constructor
  · rintro ⟨d, -, s, hs, h, hq⟩
    obtain ⟨a, b, e, -⟩ := code9 s hs
    obtain ⟨x', L', e1, e2, -⟩ := window hf hg thr ht' d a b s.1 e x L h
    rw [e1, e2] at h hq
    exact ⟨x', L', h, hq⟩
  · rintro ⟨x', L', h, hq⟩
    obtain ⟨-, -, -, c4⟩ := close_cells hf hg thr ht' x' L' x L h
    have c := c4 ht
    obtain ⟨d, hd⟩ : ∃ d : Fin 5, (d.val : ℤ) = (x'.val : ℤ) - x.val + 2 := ⟨⟨((x'.val : ℤ) - x.val + 2).toNat, by omega⟩, by
      show (((x'.val : ℤ) - x.val + 2).toNat : ℤ) = _; omega⟩
    obtain ⟨a, ha⟩ : ∃ a : Fin 5, (a.val : ℤ) = ((L'.val / 32 : ℕ) : ℤ) - (L.val / 32 : ℕ) + 2 :=
      ⟨⟨(((L'.val / 32 : ℕ) : ℤ) - (L.val / 32 : ℕ) + 2).toNat, by omega⟩, by
        show ((((L'.val / 32 : ℕ) : ℤ) - (L.val / 32 : ℕ) + 2).toNat : ℤ) = _; omega⟩
    obtain ⟨b, hb⟩ : ∃ b : Fin 5, (b.val : ℤ) = ((L'.val % 32 : ℕ) : ℤ) - (L.val % 32 : ℕ) + 2 :=
      ⟨⟨(((L'.val % 32 : ℕ) : ℤ) - (L.val % 32 : ℕ) + 2).toNat, by omega⟩, by
        show ((((L'.val % 32 : ℕ) : ℤ) - (L.val % 32 : ℕ) + 2).toNat : ℤ) = _; omega⟩
    obtain ⟨s, hs, e, -⟩ := of_code9 a b (by omega) (by omega)
    obtain ⟨e1, e2, -⟩ := shift_of x x' L L' d a b s.1 e hd ha hb
    exact ⟨d, hds d (by omega), s, hs, by rw [e1, e2]; exact ⟨h, hq⟩⟩

end Cert.KernelIdeal.Body

end
-- ==== Proof.Spec.lean ====
module

public import Idealize.ShloMosaic.Lib.IdealHost
public import Idealize.ShloMosaic.Lib.Pointwise

@[expose] public section

noncomputable section

namespace Cert.Nms

open Idealize.ShloMosaic

/-! What both programs compute for one batch of one group: predictions and targets are lists of 4096 places, each with a
confidence and three coordinates. -/

/-- A confidence and three coordinates for each cell. -/
abbrev Pl := Fin 4 → Fin 4096 → EReal

/-- The squared distance of a place of one list to a place of another. -/
def sqd (P Q : Pl) (i j : Fin 4096) : EReal :=
  (P 1 i - Q 1 j) * (P 1 i - Q 1 j) + (P 2 i - Q 2 j) * (P 2 i - Q 2 j) + (P 3 i - Q 3 j) * (P 3 i - Q 3 j)

/-- A prediction is confident. -/
def Sure (P : Pl) (i : Fin 4096) : Prop := Ideal.ofBits .f32 0x3F333333#32 < P 0 i

/-- A target counts. -/
def Real' (T : Pl) (i : Fin 4096) : Prop := Ideal.ofBits .f32 0x3F000000#32 < T 0 i

/-- A prediction comes before another: by confidence, then by position. -/
def Bef (P : Pl) (i j : Fin 4096) : Prop := P 0 j < P 0 i ∨ (P 0 i = P 0 j ∧ i < j)

/-- A prediction holds another back: it is near, comes before, and both are confident. -/
def Holds (thr : EReal) (P : Pl) (i j : Fin 4096) : Prop := (sqd P P i j < thr ∧ Bef P i j ∧ Sure P i) ∧ Sure P j

/-- A prediction is held back. -/
def Held (thr : EReal) (P : Pl) (j : Fin 4096) : Prop := ∃ i, Holds thr P i j

/-- A prediction is kept: no prediction that is not held back itself holds it back. -/
def Kept (thr : EReal) (P : Pl) (j : Fin 4096) : Prop := (¬∃ i, Holds thr P i j ∧ ¬Held thr P i) ∧ Sure P j

/-- A target lies near a kept prediction. -/
def Hit (thr : EReal) (P T : Pl) (j : Fin 4096) : Prop :=
  ∃ i, sqd P T i j < Ideal.ofBits .f32 0x3E800000#32 ∧ Kept thr P i

/-- A prediction lies near a target that counts. -/
def Good (P T : Pl) (i : Fin 4096) : Prop := ∃ j, sqd P T i j < Ideal.ofBits .f32 0x3E800000#32 ∧ Real' T j

/-- The number of cells with a property. -/
def num (Q : Fin 4096 → Prop) : EReal := ((Nat.card {i // Q i} : ℕ) : EReal)

/-- The found targets, the wrong predictions and the missed targets. -/
def res (thr : EReal) (P T : Pl) : Fin 3 → EReal
  | 0 => num fun j => Hit thr P T j ∧ Real' T j
  | 1 => num fun i => Kept thr P i ∧ ¬Good P T i
  | 2 => num fun j => ¬Hit thr P T j ∧ Real' T j

/-- The places of one batch of one group: a cell's confidence, and its scaled coordinates. -/
def places (X : (⟨5, ![4, 8, 4, 32, 32]⟩ : Shape).Idx → EReal) (b : Fin 4) (e : Fin 2) : Pl := fun ch i =>
  let v := X (ix5 b ⟨4 * e.val + ch.val, by omega⟩ ⟨i.val / 1024, by omega⟩ ⟨i.val / 32 % 32, by omega⟩ ⟨i.val % 32, by omega⟩)
  match ch with
  | 0 => v
  | 1 => (v + (((i.val / 1024 : ℕ) : ℝ) : EReal)) * Ideal.ofBits .f32 0x3F400000#32
  | 2 => (v + (((i.val / 32 % 32 : ℕ) : ℝ) : EReal)) * Ideal.ofBits .f32 0x3F480000#32
  | 3 => (v + (((i.val % 32 : ℕ) : ℝ) : EReal)) * Ideal.ofBits .f32 0x3F480000#32

/-- The squared distance below which one prediction holds back another, for each group. -/
def thr (e : Fin 2) : EReal := if e = 0 then Ideal.ofBits .f32 0x3F8961C3#32 else Ideal.ofBits .f32 0x3F0BE1F6#32

/-- The results: for each batch and group the three counts. -/
def out (X T : (⟨5, ![4, 8, 4, 32, 32]⟩ : Shape).Idx → EReal) : (⟨3, ![4, 2, 3]⟩ : Shape).Idx → EReal := fun i =>
  res (thr (i 1)) (places X (i 0) (i 1)) (places T (i 0) (i 1)) (i 2)

end Cert.Nms

end
-- ==== Proof.Kept.lean ====
module

public import proofs.«01_k».proof.Proof.Geo
public import proofs.«01_k».proof.Proof.Spec

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem

/-! The kernel's counts are those of the lists of places. -/

/-- The row of a cell. -/
def xOf (i : Fin 4096) : Fin 32 := ⟨i.val / 32 % 32, by omega⟩

/-- The lane of a cell. -/
def lOf (i : Fin 4096) : Fin 128 := ⟨i.val / 1024 * 32 + i.val % 32, by omega⟩

/-- A cell is the one of its own row and lane. -/
theorem cell_of (i : Fin 4096) : cell (xOf i) (lOf i) = i := Fin.ext (by
  show (i.val / 1024 * 32 + i.val % 32) / 32 * 1024 + i.val / 32 % 32 * 32 + (i.val / 1024 * 32 + i.val % 32) % 32 = i.val
  omega)

/-- The row of the cell of a row and lane is that row. -/
theorem xOf_cell (x : Fin 32) (L : Fin 128) : xOf (cell x L) = x := Fin.ext (by
  show (L.val / 32 * 1024 + x.val * 32 + L.val % 32) / 32 % 32 = x.val
  omega)

/-- The lane of the cell of a row and lane is that lane. -/
theorem lOf_cell (x : Fin 32) (L : Fin 128) : lOf (cell x L) = L := Fin.ext (by
  show (L.val / 32 * 1024 + x.val * 32 + L.val % 32) / 1024 * 32 + (L.val / 32 * 1024 + x.val * 32 + L.val % 32) % 32 = L.val
  omega)

/-- The cells are the rows and lanes. -/
def cells : Fin 32 × Fin 128 ≃ Fin 4096 where
  toFun p := cell p.1 p.2
  invFun i := (xOf i, lOf i)
  left_inv p := by show (xOf (cell p.1 p.2), lOf (cell p.1 p.2)) = p; rw [xOf_cell, lOf_cell]
  right_inv i := cell_of i

/-- Some row and lane has a property just when some cell has it. -/
theorem ex_cell (Q : Fin 32 → Fin 128 → Prop) (Q' : Fin 4096 → Prop) (h : ∀ x L, Q x L ↔ Q' (cell x L)) :
    (∃ x L, Q x L) ↔ ∃ i, Q' i :=
  ⟨fun ⟨x, L, q⟩ => ⟨_, (h x L).1 q⟩, fun ⟨i, q⟩ => ⟨xOf i, lOf i, (h _ _).2 ((cell_of i).symm ▸ q)⟩⟩

/-- Counting rows and lanes is counting cells. -/
theorem num_cell (Q : Fin 32 → Fin 128 → Prop) (Q' : Fin 4096 → Prop) (h : ∀ x L, Q x L ↔ Q' (cell x L)) :
    num Q = Nms.num Q' :=
  congrArg (Nat.cast (R := EReal)) (Nat.card_congr (cells.subtypeEquiv fun p => h p.1 p.2))

/-- The list of places of four channels. -/
def pl (k : Fld) (q : Fin 8) (a : Fin 2) : Nms.Pl := fun ch i =>
  k ⟨4 * a.val + ch.val, by omega⟩ q (row (xOf i)) (lan 128 (lOf i))

/-- The list of places at a cell is the channel at its row and lane. -/
theorem pl_cell (k : Fld) (q : Fin 8) (a : Fin 2) (ch : Fin 4) (x : Fin 32) (L : Fin 128) :
    pl k q a ch (cell x L) = k ⟨4 * a.val + ch.val, by omega⟩ q (row x) (lan 128 L) := by
  unfold pl
  rw [xOf_cell, lOf_cell]

/-- The first group's threshold is at most 27/25. -/
theorem thrO_le : thrO ≤ ((27 / 25 : ℝ) : EReal) := by
  unfold thrO
  norm_num [Ideal.ofBits, Ideal.ieee, show (1065968067 >>> 23 % 256 : ℕ) = 127 from rfl,
    show BitVec.extractLsb' 31 1 1065968067#32 = 0#1 from rfl]
  try norm_cast
  try norm_num

/-- The second group's threshold is at most 9/16. -/
theorem thrH_le : thrH ≤ ((9 / 16 : ℝ) : EReal) := by
  unfold thrH
  norm_num [Ideal.ofBits, Ideal.ieee, show (1057743350 >>> 23 % 256 : ℕ) = 126 from rfl,
    show BitVec.extractLsb' 31 1 1057743350#32 = 0#1 from rfl]
  try norm_cast
  try norm_num

/-- The matching's threshold is at most 9/16. -/
theorem quarter_le : Ideal.ofBits .f32 0x3E800000#32 ≤ ((9 / 16 : ℝ) : EReal) := by
  norm_num [Ideal.ofBits, Ideal.ieee, show (1048576000 >>> 23 % 256 : ℕ) = 125 from rfl,
    show BitVec.extractLsb' 31 1 1048576000#32 = 0#1 from rfl]
  try norm_cast
  try norm_num

/-- A confident centre is a confident place of the list. -/
theorem sure_cell (k : Fld) (q : Fin 8) (x : Fin 32) (L : Fin 128) : sureC k q x L ↔ Nms.Sure (pl k q 0) (cell x L) := by
  unfold sureC Nms.Sure
  rw [pl_cell]
  exact Iff.rfl

/-- A target that counts is a place of the list that counts. -/
theorem sureT_cell (k : Fld) (q : Fin 8) (x : Fin 32) (L : Fin 128) : sureT k q x L ↔ Nms.Real' (pl k q 1) (cell x L) := by
  unfold sureT Nms.Real'
  rw [pl_cell]
  exact Iff.rfl

/-- The tests of the two cells. -/
theorem pair_cell (k : Fld) (q : Fin 8) (thr : EReal) (x' x : Fin 32) (L' L : Fin 128) :
    (sq (k 1 q (row x') (lan 128 L')) (k 2 q (row x') (lan 128 L')) (k 3 q (row x') (lan 128 L'))
          (k 1 q (row x) (lan 128 L)) (k 2 q (row x) (lan 128 L)) (k 3 q (row x) (lan 128 L)) < thr
        ∧ Before (k 0 q (row x') (lan 128 L')) (k 0 q (row x) (lan 128 L)) (cell x' L') (cell x L) ∧ sureC k q x' L')
      ↔ (Nms.sqd (pl k q 0) (pl k q 0) (cell x' L') (cell x L) < thr
        ∧ Nms.Bef (pl k q 0) (cell x' L') (cell x L) ∧ Nms.Sure (pl k q 0) (cell x' L')) := by
  unfold Nms.sqd Nms.Bef
  simp only [pl_cell, ← sure_cell]
  exact Iff.rfl

/-- A prediction held back, by the windows. -/
theorem held_iff {k : Fld} {q : Fin 8} (hk : Grid (k 1 q) (k 2 q) (k 3 q)) (g : ℕ) (thr : EReal)
    (ht : thr ≤ ((27 / 25 : ℝ) : EReal)) (hg : g ≠ 0 → thr ≤ ((9 / 16 : ℝ) : EReal)) (x : Fin 32) (L : Fin 128) :
    ((Any g fun d s => HitP thr k q d s x L) ∧ sureC k q x L) ↔ Nms.Held thr (pl k q 0) (cell x L) := by
  have h := any_iff hk g thr ht hg (fun _ _ => True) x L
  simp only [and_true] at h
  rw [h, sure_cell]
  refine (and_congr (ex_cell _ (fun i => Nms.sqd (pl k q 0) (pl k q 0) i (cell x L) < thr
    ∧ Nms.Bef (pl k q 0) i (cell x L) ∧ Nms.Sure (pl k q 0) i) fun x' L' => pair_cell k q thr x' x L' L) Iff.rfl).trans ?_
  exact exists_and_right.symm

/-- A prediction kept, by the windows and a plane that tells which are held back. -/
theorem kept_iff {k : Fld} {q : Fin 8} (hk : Grid (k 1 q) (k 2 q) (k 3 q)) (g : ℕ) (thr : EReal)
    (ht : thr ≤ ((27 / 25 : ℝ) : EReal)) (hg : g ≠ 0 → thr ≤ ((9 / 16 : ℝ) : EReal)) (R : Fin 40 → Fin 384 → EReal)
    (hR : ∀ x L, Ind (R (row x) (lan 128 L)) ((Any g fun d s => HitP thr k q d s x L) ∧ sureC k q x L))
    (x : Fin 32) (L : Fin 128) :
    (¬(Any g fun d s => HitP thr k q d s x L ∧ R (shr x d) (lan s.1 L) = 0) ∧ sureC k q x L)
      ↔ Nms.Kept thr (pl k q 0) (cell x L) := by
  rw [any_iff hk g thr ht hg (fun r l => R r l = 0) x L, sure_cell]
  refine and_congr_left fun hs => not_congr (ex_cell _ _ fun x' L' => ?_)
  refine and_congr ((pair_cell k q thr x' x L' L).trans (and_iff_left hs).symm) ?_
  exact ((hR x' L').congr (held_iff hk g thr ht hg x' L')).eq_zero

/-- A target near a kept prediction, by the windows and a plane that tells which are kept. -/
theorem met_iff {k : Fld} {q : Fin 8} (hk : Grid (k 1 q) (k 2 q) (k 3 q)) (hk' : Grid (k 5 q) (k 6 q) (k 7 q)) (thr : EReal)
    (S : Fin 8 → Fin 40 → Fin 384 → EReal) (hS : ∀ x L, Ind (S q (row x) (lan 128 L)) (Nms.Kept thr (pl k q 0) (cell x L)))
    (x : Fin 32) (L : Fin 128) : MetT S k q x L ↔ Nms.Hit thr (pl k q 0) (pl k q 1) (cell x L) := by
  refine (nine_iff hk hk' _ quarter_le (fun r l => S q r l ≠ 0) x L _ (by decide)).trans (ex_cell _ _ fun x' L' => ?_)
  refine and_congr ?_ ((not_congr (hS x' L').eq_zero).trans not_not)
  unfold Nms.sqd
  simp only [pl_cell]
  exact Iff.rfl

/-- The squared distance does not depend on the order of the two places. -/
theorem sq_comm (a1 a2 a3 b1 b2 b3 : ℝ) : sq (a1 : EReal) (a2 : EReal) (a3 : EReal) (b1 : EReal) (b2 : EReal) (b3 : EReal)
    = sq (b1 : EReal) (b2 : EReal) (b3 : EReal) (a1 : EReal) (a2 : EReal) (a3 : EReal) := by
  rw [sq_real, sq_real]
  congr 1
  ring

/-- A prediction near a target, by the windows. -/
theorem good_iff {k : Fld} {q : Fin 8} (hk : Grid (k 1 q) (k 2 q) (k 3 q)) (hk' : Grid (k 5 q) (k 6 q) (k 7 q))
    (x : Fin 32) (L : Fin 128) : MetP k q x L ↔ Nms.Good (pl k q 0) (pl k q 1) (cell x L) := by
  refine (nine_iff hk' hk _ quarter_le (fun r l => Ideal.ofBits .f32 0x3F000000#32 < k 4 q r l) x L _ (by decide)).trans
    (ex_cell _ _ fun x' L' => and_congr ?_ (sureT_cell k q x' L'))
  unfold Nms.sqd
  simp only [pl_cell]
  obtain ⟨o1, o2, o3, h1, h2, h3, e1, e2, e3⟩ := hk'.inn x' L'
  obtain ⟨p1, p2, p3, g1, g2, g3, k1, k2, k3⟩ := hk.inn x L
  rw [e1, e2, e3, k1, k2, k3, sq_comm]
  show sq (((p1 + (L.val / 32 : ℕ)) * (3 / 4) : ℝ) : EReal) _ _ _ _ _ < _ ↔ sq (k 1 q (row x) (lan 128 L)) (k 2 q (row x) (lan 128 L)) (k 3 q (row x) (lan 128 L))
    (k 5 q (row x') (lan 128 L')) (k 6 q (row x') (lan 128 L')) (k 7 q (row x') (lan 128 L')) < _
  rw [e1, e2, e3, k1, k2, k3]
variable (c : Dev nD)
  (M0 : Memref sig .tc .vmem S8x4x40x384 .f32) (h0 : M0.IsWhole) (M1 : Memref sig .tc .vmem S8x4x40x384 .f32) (h1 : M1.IsWhole)
  (M2 : Memref sig .tc .vmem S8x128 .f32) (h2 : M2.IsWhole) (M3 : Memref sig .tc .vmem S8x5x8x40x384 .f32) (h3 : M3.IsWhole)
  (M4 : Memref sig .tc .vmem S8x40x384 .f32) (h4 : M4.IsWhole) (M5 : Memref sig .tc .vmem S8x40x384 .f32) (h5 : M5.IsWhole)
  (M6 : Memref sig .tc .vmem S5x8x40x384 .f32) (h6 : M6.IsWhole) (M7 : Memref sig .tc .vmem S5x8x40x384 .f32) (h7 : M7.IsWhole)
  (M8 : Memref sig .tc .vmem S5x8x32x128 .i32) (h8 : M8.IsWhole)
  (f0 : Bf (F := Ideal) c M0) (f1 : Bf (F := Ideal) c M1) (f3 : Bf (F := Ideal) c M3)
  (f6 : Bf (F := Ideal) c M6) (f7 : Bf (F := Ideal) c M7) (f8 : Bf (F := Ideal) c M8)

/-- The predictions the kernel keeps in the first group are those the specification keeps. -/
theorem kept0 (b : Fin 4) (hk : Grid ((kf c M0 M1 f0 f1) 1 (gr 0 (by decide) b)) ((kf c M0 M1 f0 f1) 2 (gr 0 (by decide) b)) ((kf c M0 M1 f0 f1) 3 (gr 0 (by decide) b))) (x : Fin 32) (L : Fin 128) :
    SelO c M0 h0 M1 h1 M2 h2 M3 h3 M4 h4 M5 h5 M6 h6 M7 h7 M8 h8 f0 f1 f3 b x L ↔ Nms.Kept thrO (pl (kf c M0 M1 f0 f1) (gr 0 (by decide) b) 0) (cell x L) :=
  kept_iff hk 0 thrO thrO_le (fun h => absurd rfl h) (Rp c M0 h0 M1 h1 M2 h2 M3 h3 M4 h4 M5 h5 M6 h6 M7 h7 M8 h8 f0 f1 f3 (gr 0 (by decide) b)) (fun x L => R0_ind c M0 h0 M1 h1 M2 h2 M3 h3 M4 h4 M5 h5 M6 h6 M7 h7 M8 h8 f0 f1 f3 b x L) x L

/-- The rows of results of a group. -/
theorem row0_res (f2 : BufTy.Contents (Elt Ideal) M2.view.ty) (b : Fin 4) (l : Fin 128)
    (hk : Grid ((kf c M0 M1 f0 f1) 1 (gr 0 (by decide) b)) ((kf c M0 M1 f0 f1) 2 (gr 0 (by decide) b)) ((kf c M0 M1 f0 f1) 3 (gr 0 (by decide) b))) (hk' : Grid ((kf c M0 M1 f0 f1) 5 (gr 0 (by decide) b)) ((kf c M0 M1 f0 f1) 6 (gr 0 (by decide) b)) ((kf c M0 M1 f0 f1) 7 (gr 0 (by decide) b))) :
    M2.view.read (Elt Ideal) (M2.view.writes (Elt Ideal) f2 (kernelRun.sl.H2_2 c M0 h0 M1 h1 M2 h2 M3 h3 M4 h4 M5 h5 M6 h6 M7 h7 M8 h8 f0 f1 f3 f6 f7 f8)) (ix2 (gr 0 (by decide) b) l)
      = lanes (Nms.res thrO (pl (kf c M0 M1 f0 f1) (gr 0 (by decide) b) 0) (pl (kf c M0 M1 f0 f1) (gr 0 (by decide) b) 1) 0) (Nms.res thrO (pl (kf c M0 M1 f0 f1) (gr 0 (by decide) b) 0) (pl (kf c M0 M1 f0 f1) (gr 0 (by decide) b) 1) 1)
          (Nms.res thrO (pl (kf c M0 M1 f0 f1) (gr 0 (by decide) b) 0) (pl (kf c M0 M1 f0 f1) (gr 0 (by decide) b) 1) 2) l := by
  have hK := kept0 c M0 h0 M1 h1 M2 h2 M3 h3 M4 h4 M5 h5 M6 h6 M7 h7 M8 h8 f0 f1 f3 b hk
  have hM := met_iff hk hk' thrO (Sp c M0 h0 M1 h1 M2 h2 M3 h3 M4 h4 M5 h5 M6 h6 M7 h7 M8 h8 f0 f1 f3 f6 f8) fun x L => (S0_ind c M0 h0 M1 h1 M2 h2 M3 h3 M4 h4 M5 h5 M6 h6 M7 h7 M8 h8 f0 f1 f3 f6 f8 b x L).congr (hK x L)
  rw [out0]
  refine congr (congr (congr (congrArg lanes ?_) ?_) ?_) rfl
  · exact num_cell _ _ fun x L => and_congr (hM x L) (sureT_cell _ _ x L)
  · exact num_cell _ _ fun x L => and_congr (hK x L) (not_congr (good_iff hk hk' x L))
  · exact num_cell _ _ fun x L => and_congr (not_congr (hM x L)) (sureT_cell _ _ x L)

/-- The predictions the kernel keeps in the second group are those the specification keeps. -/
theorem kept4 (b : Fin 4) (hk : Grid ((kf c M0 M1 f0 f1) 1 (gr 4 (by decide) b)) ((kf c M0 M1 f0 f1) 2 (gr 4 (by decide) b)) ((kf c M0 M1 f0 f1) 3 (gr 4 (by decide) b))) (x : Fin 32) (L : Fin 128) :
    SelH c M0 h0 M1 h1 M2 h2 M3 h3 M4 h4 M5 h5 M6 h6 M7 h7 M8 h8 f0 f1 f3 b x L ↔ Nms.Kept thrH (pl (kf c M0 M1 f0 f1) (gr 4 (by decide) b) 0) (cell x L) :=
  kept_iff hk 4 thrH (thrH_le.trans (EReal.coe_le_coe_iff.2 (by norm_num))) (fun _ => thrH_le) (Rp c M0 h0 M1 h1 M2 h2 M3 h3 M4 h4 M5 h5 M6 h6 M7 h7 M8 h8 f0 f1 f3 (gr 4 (by decide) b)) (fun x L => R4_ind c M0 h0 M1 h1 M2 h2 M3 h3 M4 h4 M5 h5 M6 h6 M7 h7 M8 h8 f0 f1 f3 b x L) x L

/-- The rows of results of a group. -/
theorem row4_res (f2 : BufTy.Contents (Elt Ideal) M2.view.ty) (b : Fin 4) (l : Fin 128)
    (hk : Grid ((kf c M0 M1 f0 f1) 1 (gr 4 (by decide) b)) ((kf c M0 M1 f0 f1) 2 (gr 4 (by decide) b)) ((kf c M0 M1 f0 f1) 3 (gr 4 (by decide) b))) (hk' : Grid ((kf c M0 M1 f0 f1) 5 (gr 4 (by decide) b)) ((kf c M0 M1 f0 f1) 6 (gr 4 (by decide) b)) ((kf c M0 M1 f0 f1) 7 (gr 4 (by decide) b))) :
    M2.view.read (Elt Ideal) (M2.view.writes (Elt Ideal) f2 (kernelRun.sl.H2_2 c M0 h0 M1 h1 M2 h2 M3 h3 M4 h4 M5 h5 M6 h6 M7 h7 M8 h8 f0 f1 f3 f6 f7 f8)) (ix2 (gr 4 (by decide) b) l)
      = lanes (Nms.res thrH (pl (kf c M0 M1 f0 f1) (gr 4 (by decide) b) 0) (pl (kf c M0 M1 f0 f1) (gr 4 (by decide) b) 1) 0) (Nms.res thrH (pl (kf c M0 M1 f0 f1) (gr 4 (by decide) b) 0) (pl (kf c M0 M1 f0 f1) (gr 4 (by decide) b) 1) 1)
          (Nms.res thrH (pl (kf c M0 M1 f0 f1) (gr 4 (by decide) b) 0) (pl (kf c M0 M1 f0 f1) (gr 4 (by decide) b) 1) 2) l := by
  have hK := kept4 c M0 h0 M1 h1 M2 h2 M3 h3 M4 h4 M5 h5 M6 h6 M7 h7 M8 h8 f0 f1 f3 b hk
  have hM := met_iff hk hk' thrH (Sp c M0 h0 M1 h1 M2 h2 M3 h3 M4 h4 M5 h5 M6 h6 M7 h7 M8 h8 f0 f1 f3 f6 f8) fun x L => (S4_ind c M0 h0 M1 h1 M2 h2 M3 h3 M4 h4 M5 h5 M6 h6 M7 h7 M8 h8 f0 f1 f3 f6 f8 b x L).congr (hK x L)
  rw [out4]
  refine congr (congr (congr (congrArg lanes ?_) ?_) ?_) rfl
  · exact num_cell _ _ fun x L => and_congr (hM x L) (sureT_cell _ _ x L)
  · exact num_cell _ _ fun x L => and_congr (hK x L) (not_congr (good_iff hk hk' x L))
  · exact num_cell _ _ fun x L => and_congr (not_congr (hM x L)) (sureT_cell _ _ x L)

end Cert.KernelIdeal.Body

end
-- ==== Proof.RunValue.lean ====
module

public import proofs.«01_k».proof.Proof.Kept
public import proofs.«01_k».proof.Proof.FrameIdeal

@[expose] public section

set_option maxRecDepth 16384

noncomputable section

namespace Cert.KernelIdeal.Body

open Cert.KernelIdeal Cert.KernelIdeal.Gen Cert.KernelIdeal.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat)

/-! The kernel's run ends with the counts. -/

/-- The padded input holds places in cells: inside the grid offsets between zero and one, outside far away. -/
def InCells (x : S8x4x40x384.Idx → EReal) : Prop := ∀ q, Grid (chan x 1 q) (chan x 2 q) (chan x 3 q)

/-- The block of results of the two padded inputs. -/
def blk (x0 x1 : S8x4x40x384.Idx → EReal) : S8x128.Idx → EReal := fun i =>
  lanes (Nms.res (Nms.thr ⟨(i 0).val / 4, by have : (i 0).val < 8 := (i 0).isLt; omega⟩) (pl (K x0 x1) (i 0) 0) (pl (K x0 x1) (i 0) 1) 0)
    (Nms.res (Nms.thr ⟨(i 0).val / 4, by have : (i 0).val < 8 := (i 0).isLt; omega⟩) (pl (K x0 x1) (i 0) 0) (pl (K x0 x1) (i 0) 1) 1)
    (Nms.res (Nms.thr ⟨(i 0).val / 4, by have : (i 0).val < 8 := (i 0).isLt; omega⟩) (pl (K x0 x1) (i 0) 0) (pl (K x0 x1) (i 0) 1) 2) (i 1)

/-- What the body leaves in the result's block is what its stores of results make there. -/
theorem left_writes (c : Dev nD) (x0 x1 : Vec Ideal S8x4x40x384 .f32) (f2 f3 f4 f5 f6 f7 f8) :
    left (F := Ideal) c x0 x1 f2 f3 f4 f5 f6 f7 f8 = (stage0_2 0).view.read (Elt Ideal) ((stage0_2 0).view.writes (Elt Ideal) (stage0_2 0).view.junk
      (kernelRun.sl.H2_2 c (stage0_0 0) (hstage0_0 0) (stage0_1 0) (hstage0_1 0) (stage0_2 0) (hstage0_2 0)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      ((hstage0_0 0).unread x0) ((hstage0_1 0).unread x1) f3 f6 f7 f8)) := by
  unfold left; delta kernelRun; rfl

/-- The result's buffer ends at the block of results. -/
theorem left_eq (c : Dev nD) (x0 x1 : Vec Ideal S8x4x40x384 .f32) (h0 : InCells x0) (h1 : InCells x1) (f2 f3 f4 f5 f6 f7 f8) :
    left (F := Ideal) c x0 x1 f2 f3 f4 f5 f6 f7 f8 = blk x0 x1 := by
  rw [left_writes]
  have hK : kf c (stage0_0 0) (stage0_1 0) ((hstage0_0 0).unread x0) ((hstage0_1 0).unread x1) = K x0 x1 := by
    unfold kf; rw [(hstage0_0 0).read_unread, (hstage0_1 0).read_unread]
  have hg : ∀ q, Grid (K x0 x1 1 q) (K x0 x1 2 q) (K x0 x1 3 q) := h0
  have hg' : ∀ q, Grid (K x0 x1 5 q) (K x0 x1 6 q) (K x0 x1 7 q) := h1
  funext i
  obtain ⟨q, l, rfl⟩ : ∃ (q : Fin 8) (l : Fin 128), i = ix2 q l := ⟨i 0, i 1, by funext a; fin_cases a <;> rfl⟩
  by_cases hq : q.val < 4
  · obtain ⟨b, rfl⟩ : ∃ b : Fin 4, q = gr 0 (by decide) b := ⟨⟨q.val, hq⟩, Fin.ext (Nat.zero_add _).symm⟩
    rw [row0_res _ _ _ _ _ _ _ _ _ _ _ _ _ _ _ _ _ _ _ _ _ _ _ _ _ _ _ _ (by rw [hK]; exact hg _) (by rw [hK]; exact hg' _), hK]
    unfold blk
    rw [show (⟨((ix2 (gr 0 (by decide) b) l : S8x128.Idx) 0).val / 4, by show (gr 0 (by decide) b).val / 4 < 2; omega⟩ : Fin 2) = 0 from Fin.ext (by show (0 + b.val) / 4 = 0; omega)]
    rfl
  · obtain ⟨b, rfl⟩ : ∃ b : Fin 4, q = gr 4 (by decide) b := ⟨⟨q.val - 4, by omega⟩, Fin.ext (by show q.val = 4 + (q.val - 4); omega)⟩
    rw [row4_res _ _ _ _ _ _ _ _ _ _ _ _ _ _ _ _ _ _ _ _ _ _ _ _ _ _ _ _ (by rw [hK]; exact hg _) (by rw [hK]; exact hg' _), hK]
    unfold blk
    rw [show (⟨((ix2 (gr 4 (by decide) b) l : S8x128.Idx) 0).val / 4, by show (gr 4 (by decide) b).val / 4 < 2; omega⟩ : Fin 2) = 1 from Fin.ext (by show (4 + b.val) / 4 = 1; omega)]
    rfl

variable (m : (ℓ : Loc nD τ sig) → Buf (Elt Ideal) ℓ) (ρ : Dev nD → PrngReg)

local notation "𝕄" => MT nD τ sig Unit (Elt Ideal) ℕ (UR sig nD τ) ℕ

/-- The library's body obligation with the result's block named. -/
theorem body_exact (G : Dev nD → Vec Ideal S8x128 .f32) (c : Dev nD)
    (h : ∀ f2 f3 f4 f5 f6 f7 f8, left (F := Ideal) c (iblk m c 0 t0_0) (iblk m c 1 t0_0) f2 f3 f4 f5 f6 f7 f8 = G c) :
    BodyObligationLoose (dats m G 0 c) (defs₀ (F := Ideal)) Variants.none () Set.univ := fun t => by
  obtain rfl := slot_eq t
  rw [bigSep_W0, bigSep_W0]
  sl_whnfR [defs₀, Defs.onTc]
  simp only [before0_0, before0_1]
  rw [show (dats m G 0 c).Φ t0_0.succ = Pipeline.ΦA spec0 c from rfl, show (dats m G 0 c).Φ t0_0.castSucc = Pipeline.ΦA spec0 c from rfl,
    show (dats m G 0 c).owesAt () t0_0.succ = (dats m G 0 c).owesAt () t0_0.castSucc from rfl]
  iintro ⟨HΦ, Ho, ⟨%d0, H0⟩, ⟨%d1, H1⟩, ⟨%d2, H2⟩⟩
  iapply (body_run c (iblk m c 0 t0_0) (iblk m c 1 t0_0) _)
  isplitl [HΦ]; · iexact HΦ
  isplitl [H0]; · iexact H0
  isplitl [H1]; · iexact H1
  isplitl [H2]; · iexists _; iexact H2
  iintro ⟨HΦ, H0, H1, ⟨%f2, %f3, %f4, %f5, %f6, %f7, %f8, H2⟩⟩
  rw [h f2 f3 f4 f5 f6 f7 f8]
  isplitl [HΦ]; · iexact HΦ
  isplitl [Ho]; · iexact Ho
  isplitl [H0]; · iexact H0
  isplitl [H1]; · iexact H1
  iexact H2

end Cert.KernelIdeal.Body

end
-- ==== Proof.HostVal.lean ====
module

public import proofs.«01_k».proof.Proof.RunValue
public import Idealize.ShloMosaic.Lib.Pipeline.ValueKit.Point
public import Idealize.ShloMosaic.Lib.KernelVsHost

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem
open Idealize.ShloMosaic.Pipeline (Dat Cfg)

/-! The lines before and after the body. -/

/-- The boxes of an input, a row of 128 lanes for each row of the grid. -/
def flat (X : S4x8x4x32x32.Idx → EReal) : S8x4x32x128.Idx → EReal :=
  shapeCast S8x4x32x128 (transpose S2x4x4x32x4x32 [1, 0, 2, 4, 3, 5] (shapeCast S4x2x4x4x32x32 X shapeCasts_S4x8x4x32x32_S4x2x4x4x32x32)
    transposes_S4x2x4x4x32x32_S2x4x4x32x4x32_1_0_2_4_3_5) shapeCasts_S2x4x4x32x4x32_S8x4x32x128

/-- The padded input. -/
def padded (X : S4x8x4x32x32.Idx → EReal) : S8x4x40x384.Idx → EReal :=
  pad S8x4x40x384 ![0, 0, 4, 128] ![0, 0, 4, 128] ![0, 0, 0, 0] (flat X) (constant (F := Ideal) S_ .f32 0xCE6E6B28#32) pads_S8x4x32x128_S8x4x40x384_000_000_440_1281280 h_S_

variable (X : S4x8x4x32x32.Idx → EReal)

/-- A box of the flattened input is a box of the input. -/
theorem flat_at (q : Fin 8) (ch : Fin 4) (x : Fin 32) (L : Fin 128) :
    flat X (ix4 q ch x L) = X (ix5 ⟨q.val % 4, by omega⟩ ⟨4 * (q.val / 4) + ch.val, by omega⟩ ⟨L.val / 32, by omega⟩ x ⟨L.val % 32, by omega⟩) := by
  unfold flat
  rw [shapeCast_apply _ _ _ (ix6 (⟨q.val / 4, by omega⟩ : Fin 2) (⟨q.val % 4, by omega⟩ : Fin 4) ch x (⟨L.val / 32, by omega⟩ : Fin 4) (⟨L.val % 32, by omega⟩ : Fin 32)) ?_,
    transpose_apply _ _ _ _ (ix6 (⟨q.val % 4, by omega⟩ : Fin 4) (⟨q.val / 4, by omega⟩ : Fin 2) ch (⟨L.val / 32, by omega⟩ : Fin 4) x (⟨L.val % 32, by omega⟩ : Fin 32)) ?_,
    shapeCast_apply _ _ _ (ix5 (⟨q.val % 4, by omega⟩ : Fin 4) (⟨4 * (q.val / 4) + ch.val, by omega⟩ : Fin 8) (⟨L.val / 32, by omega⟩ : Fin 4) x (⟨L.val % 32, by omega⟩ : Fin 32)) ?_]
  · rw [rowMajor_val5 _ 32768 4096 1024 32 rfl rfl rfl rfl, rowMajor_val6 _ 32768 16384 4096 1024 32 rfl rfl rfl rfl rfl]
    show (q.val % 4) * 32768 + (4 * (q.val / 4) + ch.val) * 4096 + (L.val / 32) * 1024 + x.val * 32 + L.val % 32
      = (q.val % 4) * 32768 + (q.val / 4) * 16384 + ch.val * 4096 + (L.val / 32) * 1024 + x.val * 32 + L.val % 32
    omega
  · intro b; fin_cases b <;> rfl
  · rw [rowMajor_val4 _ 16384 4096 128 rfl rfl rfl, rowMajor_val6 _ 65536 16384 4096 128 32 rfl rfl rfl rfl rfl]
    show (q.val / 4) * 65536 + (q.val % 4) * 16384 + ch.val * 4096 + x.val * 128 + (L.val / 32) * 32 + L.val % 32
      = q.val * 16384 + ch.val * 4096 + x.val * 128 + L.val
    omega

/-- Inside the padding lies the input. -/
theorem padded_in (q : Fin 8) (ch : Fin 4) (x : Fin 32) (L : Fin 128) : padded X (ix4 q ch (row x) (lan 128 L)) = flat X (ix4 q ch x L) := by
  unfold padded
  exact pad_apply_of_inside _ _ _ _ _ _ _ _ _ fun a => by
    fin_cases a
    · show q.val = 0 + q.val * 1; omega
    · show ch.val = 0 + ch.val * 1; omega
    · show 4 + x.val = 4 + x.val * 1; omega
    · show 128 + L.val = 128 + L.val * 1; omega

/-- The padding lies far away. -/
theorem padded_out (q : Fin 8) (ch : Fin 4) (r : Fin 40) (l : Fin 384) (h : ¬(4 ≤ r.val ∧ r.val < 36 ∧ 128 ≤ l.val ∧ l.val < 256)) :
    padded X (ix4 q ch r l) = ((-1000000000 : ℝ) : EReal) := by
  have hc : Ideal.ofBits .f32 0xCE6E6B28#32 = ((-1000000000 : ℝ) : EReal) := by
    norm_num [Ideal.ofBits, Ideal.ieee, show (3463342888 >>> 23 % 256 : ℕ) = 156 from rfl, show BitVec.extractLsb' 31 1 3463342888#32 = 1#1 from rfl]
  refine Eq.trans ?_ hc
  unfold padded
  by_cases hr : 4 ≤ r.val ∧ r.val < 36
  · exact pad_apply_of_not_inside _ _ _ _ _ _ _ _ 3 fun g => h ⟨hr.1, hr.2, g.1, by
      have : (l.val - 128) / 1 < 128 := g.2.2
      have : 128 ≤ l.val := g.1
      omega⟩
  · exact pad_apply_of_not_inside _ _ _ _ _ _ _ _ 2 fun g => hr ⟨g.1, by
      have : (r.val - 4) / 1 < 32 := g.2.2
      have : 4 ≤ r.val := g.1
      omega⟩

/-- The first scale's bits are three quarters. -/
theorem bits_34 : Ideal.ofBits .f32 0x3F400000#32 = ((3 / 4 : ℝ) : EReal) := by
  norm_num [Ideal.ofBits, Ideal.ieee, show (1061158912 >>> 23 % 256 : ℕ) = 126 from rfl, show BitVec.extractLsb' 31 1 1061158912#32 = 0#1 from rfl]

/-- The other scale's bits are twenty-five thirty-seconds. -/
theorem bits_2532 : Ideal.ofBits .f32 0x3F480000#32 = ((25 / 32 : ℝ) : EReal) := by
  norm_num [Ideal.ofBits, Ideal.ieee, show (1061683200 >>> 23 % 256 : ℕ) = 126 from rfl, show BitVec.extractLsb' 31 1 1061683200#32 = 0#1 from rfl]

/-- A middle lane stands for the layer it encodes. -/
theorem zi_lan (L : Fin 128) : zi (lan 128 L) = (L.val / 32 : ℕ) := by
  unfold zi; show (((128 + L.val + 128) / 32 : ℕ) : ℤ) - 8 = _; omega

/-- An inner row stands for the row it encodes. -/
theorem xi_row (x : Fin 32) : xi (row x) = x.val := by
  unfold xi; show ((4 + x.val : ℕ) : ℤ) - 4 = _; omega

/-- A middle lane stands for the column it encodes. -/
theorem yi_lan (L : Fin 128) : yi (lan 128 L) = (L.val % 32 : ℕ) := by
  unfold yi; show (((128 + L.val + 128) % 32 : ℕ) : ℤ) = _; omega

/-- The list of places the kernel sees are the places of the input. -/
theorem chan_places (q : Fin 8) (ch : Fin 4) (i : Fin 4096) :
    chan (padded X) ch q (row (xOf i)) (lan 128 (lOf i)) = Nms.places X ⟨q.val % 4, by omega⟩ ⟨q.val / 4, by omega⟩ ch i := by
  have hv : ∀ ch, padded X (ix4 q ch (row (xOf i)) (lan 128 (lOf i)))
      = X (ix5 ⟨q.val % 4, by omega⟩ ⟨4 * (q.val / 4) + ch.val, by omega⟩ ⟨i.val / 1024, by omega⟩ ⟨i.val / 32 % 32, by omega⟩ ⟨i.val % 32, by omega⟩) := by
    intro ch
    rw [padded_in, flat_at]
    congr 2
    · exact Fin.ext (by show (i.val / 1024 * 32 + i.val % 32) / 32 = i.val / 1024; omega)
    · exact Fin.ext (by show (i.val / 1024 * 32 + i.val % 32) % 32 = i.val % 32; omega)
  have h1 : ((lOf i).val / 32 : ℕ) = i.val / 1024 := by show (i.val / 1024 * 32 + i.val % 32) / 32 = i.val / 1024; omega
  have h3 : ((lOf i).val % 32 : ℕ) = i.val % 32 := by show (i.val / 1024 * 32 + i.val % 32) % 32 = i.val % 32; omega
  unfold Nms.places
  match ch with
  | 0 => exact hv 0
  | 1 => show (_ + co (zi _)) * _ = _; rw [hv, zi_lan, h1]; simp only [co, Int.cast_natCast]
  | 2 => show (_ + co (xi _)) * _ = _; rw [hv, xi_row]; simp only [co, Int.cast_natCast]; rfl
  | 3 => show (_ + co (yi _)) * _ = _; rw [hv, yi_lan, h3]; simp only [co, Int.cast_natCast]

/-- Offsets lie between zero and one. -/
def Unit01 : Prop := ∀ (b : Fin 4) (e : Fin 2) (ch : Fin 3) (z : Fin 4) (x y : Fin 32),
  0 ≤ X (ix5 b ⟨4 * e.val + (ch.val + 1), by omega⟩ z x y) ∧ X (ix5 b ⟨4 * e.val + (ch.val + 1), by omega⟩ z x y) ≤ 1

/-- Then the padded input holds places in cells. -/
theorem in_cells (h : Unit01 X) : InCells (padded X) := fun q => by
  have ho : ∀ (ch : Fin 3) (x : Fin 32) (L : Fin 128), ∃ o : ℝ, (0 ≤ o ∧ o ≤ 1) ∧ padded X (ix4 q ⟨ch.val + 1, by omega⟩ (row x) (lan 128 L)) = (o : EReal) := by
    intro ch x L
    rw [padded_in, flat_at]
    obtain ⟨h0, h1⟩ := h ⟨q.val % 4, by omega⟩ ⟨q.val / 4, by omega⟩ ch ⟨L.val / 32, by omega⟩ x ⟨L.val % 32, by omega⟩
    generalize X _ = v at h0 h1 ⊢
    induction v with
    | bot => exact absurd h0 (by simp)
    | top => exact absurd h1 (by decide)
    | coe o => exact ⟨o, ⟨by exact_mod_cast h0, by exact_mod_cast h1⟩, rfl⟩
  constructor
  · intro x L
    obtain ⟨oz, hz, ez⟩ := ho 0 x L
    obtain ⟨ox, hx, ex⟩ := ho 1 x L
    obtain ⟨oy, hy, ey⟩ := ho 2 x L
    refine ⟨oz, ox, oy, hz, hx, hy, ?_, ?_, ?_⟩
    · show (padded X (ix4 q 1 _ _) + co (zi _)) * Ideal.ofBits .f32 0x3F400000#32 = _
      rw [show padded X (ix4 q 1 (row x) (lan 128 L)) = _ from ez, zi_lan, bits_34]
      simp only [co, Int.cast_natCast]; norm_cast
    · show (padded X (ix4 q 2 _ _) + co (xi _)) * Ideal.ofBits .f32 0x3F480000#32 = _
      rw [show padded X (ix4 q 2 (row x) (lan 128 L)) = _ from ex, xi_row, bits_2532]
      simp only [co, Int.cast_natCast]; rfl
    · show (padded X (ix4 q 3 _ _) + co (yi _)) * Ideal.ofBits .f32 0x3F480000#32 = _
      rw [show padded X (ix4 q 3 (row x) (lan 128 L)) = _ from ey, yi_lan, bits_2532]
      simp only [co, Int.cast_natCast]; rfl
  · intro r l hrl
    refine ⟨(-1000000000 + zi l) * (3 / 4), (-1000000000 + xi r) * (25 / 32), (-1000000000 + yi l) * (25 / 32), ?_, ?_, ?_, ?_⟩
    · have : (zi l : ℝ) ≤ 100 := by
        have : zi l ≤ 100 := by unfold zi; omega
        exact_mod_cast this
      linarith
    · show (padded X (ix4 q 1 r l) + co (zi _)) * Ideal.ofBits .f32 0x3F400000#32 = _
      rw [padded_out X q 1 r l hrl, bits_34]; unfold co; norm_cast
    · show (padded X (ix4 q 2 r l) + co (xi _)) * Ideal.ofBits .f32 0x3F480000#32 = _
      rw [padded_out X q 2 r l hrl, bits_2532]; unfold co; norm_cast
    · show (padded X (ix4 q 3 r l) + co (yi _)) * Ideal.ofBits .f32 0x3F480000#32 = _
      rw [padded_out X q 3 r l hrl, bits_2532]; unfold co; norm_cast

/-- The planes of the padded inputs hold the lists of places of the two inputs. -/
theorem pl_places (X T : S4x8x4x32x32.Idx → EReal) (q : Fin 8) :
    pl (K (padded X) (padded T)) q 0 = Nms.places X ⟨q.val % 4, by omega⟩ ⟨q.val / 4, by omega⟩ ∧
    pl (K (padded X) (padded T)) q 1 = Nms.places T ⟨q.val % 4, by omega⟩ ⟨q.val / 4, by omega⟩ := by
  constructor
  · funext ch i
    refine Eq.trans ?_ (chan_places X q ch i)
    fin_cases ch <;> rfl
  · funext ch i
    refine Eq.trans ?_ (chan_places T q ch i)
    fin_cases ch <;> rfl

/-- The block's first three lanes are the results. -/
theorem blk_at (X T : S4x8x4x32x32.Idx → EReal) (q : Fin 8) (j : Fin 3) :
    blk (padded X) (padded T) (ix2 q ⟨j.val, by omega⟩) = Nms.out X T (ix3 ⟨q.val % 4, by omega⟩ ⟨q.val / 4, by omega⟩ j) := by
  unfold blk Nms.out
  show lanes (Nms.res (Nms.thr ⟨q.val / 4, _⟩) (pl (K (padded X) (padded T)) q 0) (pl (K (padded X) (padded T)) q 1) 0)
      (Nms.res (Nms.thr ⟨q.val / 4, _⟩) (pl (K (padded X) (padded T)) q 0) (pl (K (padded X) (padded T)) q 1) 1)
      (Nms.res (Nms.thr ⟨q.val / 4, _⟩) (pl (K (padded X) (padded T)) q 0) (pl (K (padded X) (padded T)) q 1) 2) _ = _
  rw [(pl_places X T q).1, (pl_places X T q).2]
  fin_cases j <;> rfl

variable (m : (ℓ : Loc nD τ sig) → Buf (Elt Ideal) ℓ) (ρ : Dev nD → PrngReg)

/-- The region's first input is the padded predictions. -/
theorem V_pred (c : Dev nD) : V m c main_v3 = padded (m ((c : Thread nD τ).loc main_arg0)) := by
  show StableHlo.after (List.flatten [hostOps0, hostOps0_1, hostOps0_2, hostOps0_3]) (fun b => m (c, b)) (Proc.devRef .tc main_v3) = _
  simp only [List.flatten_cons, List.flatten_nil, List.append_nil, hostOps0, hostOps0_1, hostOps0_2, hostOps0_3, List.cons_append, List.nil_append]
  after_results
  rfl

/-- The region's second input is the padded targets. -/
theorem V_targ (c : Dev nD) : V m c main_v7 = padded (m ((c : Thread nD τ).loc main_arg1)) := by
  show StableHlo.after (List.flatten [hostOps0, hostOps0_1, hostOps0_2, hostOps0_3]) (fun b => m (c, b)) (Proc.devRef .tc main_v7) = _
  simp only [List.flatten_cons, List.flatten_nil, List.append_nil, hostOps0, hostOps0_1, hostOps0_2, hostOps0_3, List.cons_append, List.nil_append]
  after_results
  rfl

end Cert.KernelIdeal.Body

end
-- ==== Proof.KernelRun.lean ====
module

public import proofs.«01_k».proof.Proof.HostVal
public import proofs.«01_k».proof.Pre_offsets_in_cells

@[expose] public section

set_option maxRecDepth 16384

noncomputable section

namespace Cert.KernelIdeal.Body

open Cert.KernelIdeal Cert.KernelIdeal.Gen Cert.KernelIdeal.Trips
open Idealize.ShloMosaic Idealize.ShloMosaic.TcCoe
open Idealize.SL Idealize.SL.RA Idealize.SL.BI Idealize.SL.Sem
open Idealize.ShloMosaic.Pipeline (Dat Cfg)

/-! The kernel's program ends with the results of the two inputs. -/

variable (m : (ℓ : Loc nD τ sig) → Buf (Elt Ideal) ℓ) (ρ : Dev nD → PrngReg)

/-- The block the body leaves. -/
def leaves (c : Dev nD) : Vec Ideal S8x128 .f32 := blk (iblk m c 0 t0_0) (iblk m c 1 t0_0)

/-- The block of the first input is the padded predictions. -/
theorem blk0_eq (c : Dev nD) : iblk m c 0 t0_0 = padded (m ((c : Thread nD τ).loc main_arg0)) := by
  rw [← V_pred]
  have hz : (fun a => win0_0.index t0_0 a * main_v3.ty.shape.size a) = fun _ => 0 := funext fun a => by fin_cases a <;> decide
  exact Memref.read_access_unit_zero (Elt Ideal) main_v3 hz (fun a => by rw [congrFun hz a]; simp) (V m c main_v3)

/-- The block of the second input is the padded targets. -/
theorem blk1_eq (c : Dev nD) : iblk m c 1 t0_0 = padded (m ((c : Thread nD τ).loc main_arg1)) := by
  rw [← V_targ]
  have hz : (fun a => win0_1.index t0_0 a * main_v7.ty.shape.size a) = fun _ => 0 := funext fun a => by fin_cases a <;> decide
  exact Memref.read_access_unit_zero (Elt Ideal) main_v7 hz (fun a => by rw [congrFun hz a]; simp) (V m c main_v7)

/-- The result array ends holding the block. -/
theorem final (c : Dev nD) : (dats m (leaves m) 0 c).arrAt 2 cfg0.N = leaves m c := by
  refine (dats m (leaves m) 0 c).arrAt_eq_of_cover 2 (leaves m c) (fun t _ => ?_) fun i => ⟨t0_0, flush0_2 t0_0, ?_⟩
  · obtain rfl := slot_eq t
    show (cfg0.win 2).cut (grid0.coords t0_0) ((dats m (leaves m) 0 c).after 2 t0_0) = _
    rw [after0_2]
    have hz : (fun a => win0_2.index t0_0 a * main_v8.ty.shape.size a) = fun _ => 0 := funext fun a => by fin_cases a <;> decide
    exact (Memref.read_access_unit_zero (Elt Ideal) main_v8 hz (fun a => by rw [congrFun hz a]; simp) (leaves m c)).symm
  · show i ∈ ((View.whole main_v8).slice (win0_2.rect t0_0)).set
    rw [View.set_slice_whole, Rect.mem_set_unit]
    intro a
    have h0 : (i 0 : Nat) < 8 := (i 0).isLt
    have h1 : (i 1 : Nat) < 128 := (i 1).isLt
    match a with
    | ⟨0, _⟩ => show win0_2.index t0_0 0 * win0_2.size 0 ≤ (i 0 : Nat) ∧ (i 0 : Nat) < win0_2.index t0_0 0 * win0_2.size 0 + win0_2.xsize (grid0.coords t0_0) 0
                rw [show win0_2.index t0_0 0 * win0_2.size 0 = 0 from by decide +kernel, show win0_2.xsize (grid0.coords t0_0) 0 = 8 from by decide +kernel]; omega
    | ⟨1, _⟩ => show win0_2.index t0_0 1 * win0_2.size 1 ≤ (i 1 : Nat) ∧ (i 1 : Nat) < win0_2.index t0_0 1 * win0_2.size 1 + win0_2.xsize (grid0.coords t0_0) 1
                rw [show win0_2.index t0_0 1 * win0_2.size 1 = 0 from by decide +kernel, show win0_2.xsize (grid0.coords t0_0) 1 = 128 from by decide +kernel]; omega

/-- The lines after the body: the first three lanes, batch first. -/
def after8 (B : S8x128.Idx → EReal) : S4x2x3.Idx → EReal :=
  transpose S4x2x3 [1, 0, 2] (shapeCast S2x4x3 (extractStridedSlice S8x3 ![0, 0] B slices_S8x128_S8x3_0_0) shapeCasts_S8x3_S2x4x3)
    transposes_S2x4x3_S4x2x3_1_0_2

/-- The host's last lines turn the block of results into the specified result. -/
theorem after8_blk (X T : S4x8x4x32x32.Idx → EReal) : after8 (blk (padded X) (padded T)) = Nms.out X T := by
  funext i
  obtain ⟨b, e, j, rfl⟩ : ∃ (b : Fin 4) (e : Fin 2) (j : Fin 3), i = ix3 b e j := ⟨i 0, i 1, i 2, by funext a; fin_cases a <;> rfl⟩
  unfold after8
  rw [transpose_apply _ _ _ _ (ix3 e b j) (by intro a; fin_cases a <;> rfl),
    shapeCast_apply _ _ _ (ix2 (⟨e.val * 4 + b.val, by omega⟩ : Fin 8) j) ?_]
  · refine Eq.trans ?_ ((blk_at X T ⟨e.val * 4 + b.val, by omega⟩ j).trans ?_)
    · unfold extractStridedSlice
      refine congrArg _ (funext fun a => Fin.ext ?_)
      fin_cases a
      · show 0 + (e.val * 4 + b.val) = e.val * 4 + b.val; omega
      · show 0 + j.val = j.val; omega
    · congr 1
      congr 1
      · exact Fin.ext (by show (e.val * 4 + b.val) % 4 = b.val; omega)
      · exact Fin.ext (by show (e.val * 4 + b.val) / 4 = e.val; omega)
  · rw [rowMajor_val2 _ 3 rfl, rowMajor_val3 _ 12 3 rfl rfl]
    show (e.val * 4 + b.val) * 3 + j.val = e.val * 12 + b.val * 3 + j.val
    omega

/-- After the run the result's buffer holds the last host lines' value of what the region left. -/
theorem tail_val (c : Dev nD) :
    Pipeline.afterTail₀ cfgs (dats m (leaves m)) 0 (V0 m) [hostOps1] c main_v11 = after8 (leaves m c) := by
  unfold Pipeline.afterTail₀
  show StableHlo.after (List.flatten [hostOps1]) _ (Proc.devRef .tc main_v11) = _
  simp only [List.flatten_cons, List.flatten_nil, List.append_nil, hostOps1]
  after_results
  have h := Pipeline.withArrays_arr spec0 launch0.win.arr_inj c (V0 m c) (fun w => (dats m (leaves m) 0 c).arrAt w cfg0.N) 2
  have h' := h.trans (final m c)
  unfold after8
  rw [← h']
  rfl

/-- Every run of the kernel's program from offsets between zero and one ends with the results, the inputs unchanged. -/
theorem kernel_run (hX : ∀ c : Dev nD, Unit01 (m ((c : Thread nD τ).loc main_arg0)) ∧ Unit01 (m ((c : Thread nD τ).loc main_arg1))) :
    θ_run defs (onTc (τ := τ) (main (F := Ideal))) ⟨m, fun _ => 0, ρ⟩ (fun r => ∀ c : Dev nD,
      r.2.mem ((c.tc : Thread nD τ).loc main_v11) = Nms.out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame_around (Q' := _) cfgs (dats m (leaves m)) (0 : Fin 1) launch0 defs₀ Variants.none m ρ main
    (hbody := fun c => body_exact m _ c fun f2 f3 f4 f5 f6 f7 f8 =>
      left_eq c _ _ (by rw [blk0_eq]; exact in_cells _ (hX c).1) (by rw [blk1_eq]; exact in_cells _ (hX c).2) f2 f3 f4 f5 f6 f7 f8)
    (hshare := fun c => (dats m _ 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)
    (hQ' := fun r h c =>
      ⟨((h.1 c).2 main_v11 (Pipeline.mem_restRefs_of main_v11 (by decide) (by decide))).trans ((tail_val m c).trans (by
          unfold leaves; rw [blk0_eq, blk1_eq]; exact after8_blk _ _)),
       ((h.1 c).2 main_arg0 (Pipeline.mem_restRefs_of main_arg0 (by decide) (by decide))).trans (W_main_arg0 m _ c),
       ((h.1 c).2 main_arg1 (Pipeline.mem_restRefs_of main_arg1 (by decide) (by decide))).trans (W_main_arg1 m _ c)⟩)

/-- The precondition says that the offsets lie between zero and one. -/
theorem unit01_of [Cert.Pre_offsets_in_cells.Facts] (X T : S4x8x4x32x32.Idx → EReal)
    (h : Cert.Pre_offsets_in_cells.fn (F := Ideal) X T = fun _ => 1#1) : Unit01 X ∧ Unit01 T := by
  have key : ∀ (b : Fin 4) (e : Fin 2) (ch : Fin 3) (z : Fin 4) (x y : Fin 32) (Y : S4x8x4x32x32.Idx → EReal)
      (hs : (⟨5, ![4, 8, 4, 32, 32]⟩ : Shape).ShapeCasts ⟨6, ![4, 2, 4, 4, 32, 32]⟩) (hl : (⟨6, ![4, 2, 4, 4, 32, 32]⟩ : Shape).Slices ![0, 0, 1, 0, 0, 0] ⟨6, ![4, 2, 3, 4, 32, 32]⟩),
      extractStridedSlice ⟨6, ![4, 2, 3, 4, 32, 32]⟩ ![0, 0, 1, 0, 0, 0] (shapeCast ⟨6, ![4, 2, 4, 4, 32, 32]⟩ Y hs) hl (ix6 b e ch z x y)
        = Y (ix5 b ⟨4 * e.val + (ch.val + 1), by omega⟩ z x y) := by
    intro b e ch z x y Y hs hl
    have h1 : extractStridedSlice ⟨6, ![4, 2, 3, 4, 32, 32]⟩ ![0, 0, 1, 0, 0, 0] (shapeCast ⟨6, ![4, 2, 4, 4, 32, 32]⟩ Y hs) hl (ix6 b e ch z x y)
        = shapeCast ⟨6, ![4, 2, 4, 4, 32, 32]⟩ Y hs (ix6 b e (⟨ch.val + 1, by omega⟩ : Fin 4) z x y) := by
      unfold extractStridedSlice
      refine congrArg _ (funext fun a => Fin.ext ?_)
      fin_cases a
      · show 0 + b.val = b.val; omega
      · show 0 + e.val = e.val; omega
      · show 1 + ch.val = ch.val + 1; omega
      · show 0 + z.val = z.val; omega
      · show 0 + x.val = x.val; omega
      · show 0 + y.val = y.val; omega
    rw [h1]
    refine shapeCast_apply _ _ _ _ ?_
    rw [rowMajor_val5 _ 32768 4096 1024 32 rfl rfl rfl rfl, rowMajor_val6 _ 32768 16384 4096 1024 32 rfl rfl rfl rfl rfl]
    show b.val * 32768 + (4 * e.val + (ch.val + 1)) * 4096 + z.val * 1024 + x.val * 32 + y.val
      = b.val * 32768 + e.val * 16384 + (ch.val + 1) * 4096 + z.val * 1024 + x.val * 32 + y.val
    omega
  have bits : ∀ {p : Bool}, BitVec.ofBool p = 1#1 → p = true := by decide
  have both : ∀ {u v : BitVec 1}, u &&& v = 1#1 → u = 1#1 ∧ v = 1#1 := by decide
  constructor
  all_goals
    intro b e ch z x y
    have hi := congrFun h (ix6 b e ch z x y)
    unfold Cert.Pre_offsets_in_cells.fn at hi
    obtain ⟨hi, h4⟩ := both hi
    obtain ⟨hi, h3⟩ := both hi
    obtain ⟨h1, h2⟩ := both hi
  · refine ⟨?_, ?_⟩
    · rw [← key b e ch z x y X Cert.Pre_offsets_in_cells.Facts.shapeCasts_S4x8x4x32x32_S4x2x4x4x32x32 Cert.Pre_offsets_in_cells.Facts.slices_S4x2x4x4x32x32_S4x2x3x4x32x32_0_0_1_0_0_0, ← Ideal.ofBits_zero_f32]
      exact of_decide_eq_true (bits h1)
    · rw [← key b e ch z x y X Cert.Pre_offsets_in_cells.Facts.shapeCasts_S4x8x4x32x32_S4x2x4x4x32x32 Cert.Pre_offsets_in_cells.Facts.slices_S4x2x4x4x32x32_S4x2x3x4x32x32_0_0_1_0_0_0, ← Ideal.ofBits_one_f32]
      exact of_decide_eq_true (bits h2)
  · refine ⟨?_, ?_⟩
    · rw [← key b e ch z x y T Cert.Pre_offsets_in_cells.Facts.shapeCasts_S4x8x4x32x32_S4x2x4x4x32x32 Cert.Pre_offsets_in_cells.Facts.slices_S4x2x4x4x32x32_S4x2x3x4x32x32_0_0_1_0_0_0, ← Ideal.ofBits_zero_f32]
      exact of_decide_eq_true (bits h3)
    · rw [← key b e ch z x y T Cert.Pre_offsets_in_cells.Facts.shapeCasts_S4x8x4x32x32_S4x2x4x4x32x32 Cert.Pre_offsets_in_cells.Facts.slices_S4x2x4x4x32x32_S4x2x3x4x32x32_0_0_1_0_0_0, ← Ideal.ofBits_one_f32]
      exact of_decide_eq_true (bits h4)

end Cert.KernelIdeal.Body

end
-- ==== Proof.Order.lean ====
module

public import Idealize.ShloMosaic.Lib.SortFacts
public import Idealize.ShloMosaic.Lib.Routing.OpsOrder
public import Idealize.ShloMosaic.Lib.IndicatorCount
public import Idealize.ShloMosaic.Lib.ReduceAll
public import proofs.«01_k».proof.Proof.Spec

@[expose] public section

noncomputable section

namespace Cert.Nms

open Idealize.ShloMosaic

/-! Facts about sorting, counting and sums of zeros and ones. -/

/-- One position precedes another: by its key, then by its place. -/
def Prec {n : ℕ} (κ : Fin n → EReal) (a b : Fin n) : Prop := κ a < κ b ∨ (κ a = κ b ∧ a < b)

/-- Putting a position that stands left of a sorted list into the list keeps it sorted. -/
theorem prec_put {n : ℕ} (κ : Fin n → EReal) (q : Fin n → Fin n → Bool) (hq : ∀ a b, q a b = true ↔ κ a < κ b) (a : Fin n)
    (l : List (Fin n)) (hl : l.Pairwise (Prec κ)) (ha : ∀ b ∈ l, a < b) : (insertBefore q a l).Pairwise (Prec κ) := by
  induction l with
  | nil => exact List.pairwise_singleton _ _
  | cons b l ih =>
    have ⟨h1, h2⟩ := List.pairwise_cons.mp hl
    by_cases h : q b a = true
    · rw [insertBefore, if_pos h, List.pairwise_cons]
      refine ⟨fun c hc => ?_, ih h2 fun c hc => ha c (List.mem_cons_of_mem _ hc)⟩
      obtain rfl | hc := List.mem_cons.mp ((perm_insertBefore q a l).mem_iff.mp hc)
      · exact Or.inl ((hq _ _).mp h)
      · exact h1 c hc
    · rw [insertBefore, if_neg h, List.pairwise_cons]
      have hab : κ a ≤ κ b := not_lt.mp fun k => h ((hq _ _).mpr k)
      refine ⟨fun c hc => ?_, hl⟩
      have hac : κ a ≤ κ c := by
        obtain rfl | hc := List.mem_cons.mp hc
        · exact hab
        · exact hab.trans ((h1 c hc).elim le_of_lt fun k => k.1.le)
      exact hac.lt_or_eq.imp id fun k => ⟨k, ha c hc⟩

/-- A list of positions in increasing order is sorted by the stable sort. -/
theorem prec_sort {n : ℕ} (κ : Fin n → EReal) (q : Fin n → Fin n → Bool) (hq : ∀ a b, q a b = true ↔ κ a < κ b)
    (l : List (Fin n)) (hl : l.Pairwise (· < ·)) : (stableSort q l).Pairwise (Prec κ) := by
  induction l with
  | nil => exact List.Pairwise.nil
  | cons a l ih =>
    have ⟨h1, h2⟩ := List.pairwise_cons.mp hl
    exact prec_put κ q hq a _ (ih h2) fun b hb => h1 b ((perm_stableSort q l).mem_iff.mp hb)

/-- The stable sort lists the positions by key and then by place. -/
theorem prec_sorted {n : ℕ} (κ : Fin n → EReal) (q : Fin n → Fin n → Bool) (hq : ∀ a b, q a b = true ↔ κ a < κ b)
    {i j : Fin n} (hij : i < j) : Prec κ (sortedFrom q i) (sortedFrom q j) :=
  List.pairwise_iff_get.mp (prec_sort κ q hq _ (List.pairwise_lt_finRange n)) _ _
    (show (i.cast (length_sortPositions n q).symm) < (j.cast (length_sortPositions n q).symm) from hij)

/-- Two positions precede each other in one way only. -/
theorem prec_asymm {n : ℕ} {κ : Fin n → EReal} {a b : Fin n} (h : Prec κ a b) : ¬Prec κ b a := by
  rintro (k | k) <;> rcases h with h | h
  · exact lt_asymm h k
  · exact absurd k (h.1 ▸ lt_irrefl _)
  · exact absurd h (k.1 ▸ lt_irrefl _)
  · exact lt_asymm h.2 k.2

/-- Sorted places stand left of each other exactly when their positions precede each other. -/
theorem prec_iff {n : ℕ} (κ : Fin n → EReal) (q : Fin n → Fin n → Bool) (hq : ∀ a b, q a b = true ↔ κ a < κ b)
    (i j : Fin n) : i < j ↔ Prec κ (sortedFrom q i) (sortedFrom q j) := by
  refine ⟨prec_sorted κ q hq, fun h => ?_⟩
  rcases lt_trichotomy i j with k | k | k
  · exact k
  · subst k; exact absurd h (prec_asymm h)
  · exact absurd h (prec_asymm (prec_sorted κ q hq k))

/-- With the confidence turned round as key, preceding is coming before. -/
theorem prec_neg (P : Pl) (i j : Fin 4096) : Prec (fun n => -P 0 n) i j ↔ Bef P i j := by
  unfold Prec Bef
  rw [EReal.neg_lt_neg_iff, neg_inj]

open Classical in
/-- One for a true statement and zero for a false one. -/
def bit (p : Prop) : EReal := if p then 1 else 0

/-- A word of one bit as a number. -/
theorem bit_word (w : BitVec 1) : (((w.toNat : ℕ) : ℝ) : EReal) = bit (w = 1#1) := by
  have h : w = 0#1 ∨ w = 1#1 := by revert w; decide
  rcases h with rfl | rfl <;> simp [bit]

open Classical in
/-- A sum of zeros and ones counts. -/
theorem bit_sum {n : ℕ} (p : Fin n → Prop) : ∑ i, bit (p i) = (((Finset.univ.filter p).card : ℕ) : ℝ) := by
  unfold bit
  rw [Finset.sum_boole]
  rfl

/-- The product of two such numbers. -/
theorem bit_mul (p q : Prop) : bit p * bit q = bit (p ∧ q) := by
  unfold bit
  by_cases hp : p <;> by_cases hq : q <;> simp [hp, hq]

/-- A sum of zeros and ones is zero exactly when no statement is true. -/
theorem bit_sum_ne {n : ℕ} (p : Fin n → Prop) : (∑ i, bit (p i)) ≠ 0 ↔ ∃ i, p i := by
  classical
  rw [bit_sum, Ne, EReal.coe_eq_zero, Nat.cast_eq_zero, Finset.card_eq_zero, Finset.filter_eq_empty_iff]
  simp

/-- All that hold back are held back themselves exactly when the two sums agree. -/
theorem bit_sum_sub {n : ℕ} (p q : Fin n → Prop) :
    (∑ i, bit (p i)) - (∑ i, bit (q i) * bit (p i)) = 0 ↔ ¬∃ i, p i ∧ ¬q i := by
  classical
  simp only [bit_mul]
  rw [bit_sum, bit_sum, ← EReal.coe_sub, EReal.coe_eq_zero, sub_eq_zero, Nat.cast_inj]
  have hs : (Finset.univ.filter fun i => q i ∧ p i) ⊆ Finset.univ.filter p := fun i hi => by
    simp only [Finset.mem_filter] at hi ⊢; exact ⟨hi.1, hi.2.2⟩
  constructor
  · rintro h ⟨i, hp, hq⟩
    have e := Finset.eq_of_subset_of_card_le hs (le_of_eq (h.trans (by congr)))
    have hi : i ∈ Finset.univ.filter p := by simp [hp]
    rw [← e] at hi
    simp only [Finset.mem_filter] at hi
    exact hq hi.2.1
  · intro h
    congr 1
    ext i
    simp only [Finset.mem_filter, Finset.mem_univ, true_and]
    exact ⟨fun k => ⟨by_contra fun c => h ⟨i, k, c⟩, k⟩, And.right⟩

/-- A count of places is the same in every order. -/
theorem num_perm (Q : Fin 4096 → Prop) (σ : Fin 4096 → Fin 4096) (h : Function.Bijective σ) :
    num (fun i => Q (σ i)) = num Q := by
  unfold num
  rw [Nat.card_congr (Equiv.subtypeEquiv (Equiv.ofBijective σ h) (p := fun i => Q (σ i)) (q := Q) fun _ => Iff.rfl)]

/-- Adding up bits as words of 32 counts the places where they are set. -/
theorem num_word (w : Fin 4096 → BitVec 1) (Q : Fin 4096 → Prop) (h : ∀ i, w i = 1#1 ↔ Q i) :
    (((Finset.univ.fold IntOp.addi 0#32 fun i => (w i).setWidth 32).toInt : ℝ) : EReal) = num Q := by
  classical
  rw [IndicatorCount.fold_addi_setWidth_eq_card]
  have hc : (Finset.univ.filter fun i => w i = 1#1).card = Nat.card {i // Q i} := by
    rw [Nat.card_eq_fintype_card, Fintype.card_subtype]
    simp only [h]
  have hle : (Finset.univ.filter fun i => w i = 1#1).card ≤ 4096 := by
    simpa using Finset.card_filter_le (Finset.univ : Finset (Fin 4096)) fun i => w i = 1#1
  unfold num
  rw [← hc, BitVec.toInt_eq_toNat_of_lt (by rw [BitVec.toNat_ofNat]; omega), BitVec.toNat_ofNat, Nat.mod_eq_of_lt (by omega)]
  rfl

/-- Set bits joined by and give a set bit. -/
theorem fold_one {ι : Type} (s : Finset ι) (f : ι → BitVec 1) (hf : ∀ i, f i = 1#1) : s.fold IntOp.andi 1#1 f = 1#1 := by
  classical
  induction s using Finset.induction_on with
  | empty => rfl
  | insert a s h ih => rw [Finset.fold_insert h, ih, hf]; rfl

/-- A bit is set when its statement is true. -/
theorem ofBool_iff (c : Bool) : BitVec.ofBool c = 1#1 ↔ c = true := by cases c <;> decide

/-- Two bits joined by and. -/
theorem andi_iff (v w : BitVec 1) : IntOp.andi v w = 1#1 ↔ v = 1#1 ∧ w = 1#1 := by revert v w; decide

/-- A bit turned round. -/
theorem noti_iff (w : BitVec 1) : ~~~w = 1#1 ↔ ¬w = 1#1 := by revert w; decide

end Cert.Nms

end
-- ==== Proof.RefPlaces.lean ====
module

public import proofs.«01_k».proof.Proof.Order
public import proofs.«01_k».proof.Proof.Gen.ReferenceIdeal.Run

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

/-- The number of a cell in each of the three directions, as the plain program adds it to the offsets. -/
theorem v15_at (ch : Fin 4) (i : Fin 4096) : res_main_v15 V0 (ix2 ch i)
    = match ch with
      | 0 => (0 : EReal)
      | 1 => (((i.val / 1024 : ℕ) : ℝ) : EReal)
      | 2 => (((i.val / 32 % 32 : ℕ) : ℝ) : EReal)
      | 3 => (((i.val % 32 : ℕ) : ℝ) : EReal) := by
  have hw : ∀ k : ℕ, k < 4096 → FloatOps.sitofp (F := Ideal) .f32 (BitVec.ofNat 32 k) = (((k : ℕ) : ℝ) : EReal) := by
    intro k hk
    show (((BitVec.ofNat 32 k).toInt : ℝ) : EReal) = _
    rw [BitVec.toInt_eq_toNat_of_lt (by rw [BitVec.toNat_ofNat]; omega), BitVec.toNat_ofNat, Nat.mod_eq_of_lt (by omega)]
    rfl
  pointwise [res_main_v15]
  match ch with
  | 0 => exact (hw 0 (by omega)).trans (by simp)
  | 1 => exact hw _ (by omega)
  | 2 => exact hw _ (by omega)
  | 3 => exact hw _ (by omega)

/-- The comparison of the sort compares the keys. -/
theorem cmp_iff (l r : EReal × BitVec 32) : comparator_f32_i32_d2 (F := Ideal) l r = BitVec.ofBool (decide (l.1 < r.1)) := by
  have hs : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    have h1 : Ideal.cmp .une x x = 0#1 := by simp [Ideal.cmp]
    rw [h1]
    by_cases h : x = 0
    · subst h; simp [Ideal.cmp, Scalar.select, Ideal.ofBits_zero_f32]
    · simp [Ideal.cmp, Scalar.select, Ideal.ofBits_zero_f32, h]
  exact congrArg₂ (Ideal.cmp .olt) (hs l.1) (hs r.1)

/-- The scaled places of an input. -/
def body (X : FVec Ideal S4x8x4x32x32 .f32) : FVec Ideal S4x2x4096x4 .f32 :=
  transpose S4x2x4096x4 [0, 1, 3, 2] (mulf (addf (shapeCast S4x2x4x4096 X shapeCasts_S4x8x4x32x32_S4x2x4x4096) (broadcastInDim S4x2x4x4096 ![0, 1, 2, 3] bcast_S1x1x4x4096_S4x2x4x4096_0_1_2_3 (broadcastInDim S1x1x4x4096 ![2, 3] bcast_S4x4096_S1x1x4x4096_2_3 (res_main_v15 V0 : FVec Ideal S4x4096 .f32)))) (broadcastInDim S4x2x4x4096 ![0, 1, 2, 3] bcast_S1x1x4x1_S4x2x4x4096_0_1_2_3 (broadcastInDim S1x1x4x1 ![2] bcast_S4_S1x1x4x1_2 (res_main_cst V0 : FVec Ideal S4 .f32)))) transposes_S4x2x4x4096_S4x2x4096x4_0_1_3_2

/-- The reference's scaled predictions are the common steps applied to the first argument. -/
theorem v23_eq : res_main_v23 V0 = body V0 (V0 (Proc.devRef .tc main_arg0)) := rfl

/-- The reference's scaled targets are the common steps applied to the second argument. -/
theorem v31_eq : res_main_v31 V0 = body V0 (V0 (Proc.devRef .tc main_arg1)) := rfl

/-- They are the places of the specification. -/
theorem body_at (X : FVec Ideal S4x8x4x32x32 .f32) (b : Fin 4) (e : Fin 2) (n : Fin 4096) (ch : Fin 4) :
    body V0 X (ix4 b e n ch) = Nms.places X b e ch n := by
  pointwise [body, res_main_cst]
  rw [v15_at]
  have hx : (⟨e.val * 4 + ch.val, by omega⟩ : Fin 8) = ⟨4 * e.val + ch.val, by omega⟩ := Fin.ext (by show e.val * 4 + ch.val = 4 * e.val + ch.val; omega)
  rw [hx]
  unfold Nms.places
  match ch with
  | 0 => show (_ + 0) * Ideal.ofBits .f32 0x3F800000#32 = _; rw [Ideal.ofBits_one_f32, add_zero, mul_one]
  | 1 => rfl
  | 2 => rfl
  | 3 => rfl

variable (b : Fin 4) (e : Fin 2)

/-- The places of the predictions in one batch and group. -/
abbrev P : Nms.Pl := Nms.places (V0 (Proc.devRef .tc main_arg0)) b e
/-- The places of the targets in one batch and group. -/
abbrev T : Nms.Pl := Nms.places (V0 (Proc.devRef .tc main_arg1)) b e

/-- The prediction that stands at a sorted place. -/
def ord (n : Fin 4096) : Fin 4096 := sortedFrom (fun k l => decide (-P V0 b e 0 k < -P V0 b e 0 l)) n

/-- The sorted order visits every place exactly once. -/
theorem ord_bij : Function.Bijective (ord V0 b e) := ⟨sortedFrom_injective _, sortedFrom_surjective _⟩

/-- Sorted places stand left of each other exactly when their predictions come before each other. -/
theorem ord_lt (i j : Fin 4096) : i < j ↔ Nms.Bef (P V0 b e) (ord V0 b e i) (ord V0 b e j) := by
  rw [← Nms.prec_neg]
  exact Nms.prec_iff _ _ (fun _ _ => decide_eq_true_iff) i j

/-- The sort's keys are the negated confidences. -/
theorem v34_at (n : Fin 4096) : res_main_v34 V0 (ix3 b e n) = -P V0 b e 0 n := by
  pointwise [res_main_v34]
  rw [v23_eq, body_at]

/-- A sort of two lists moves the second one along. -/
theorem sort2_at {α β : Type} (cmp : α × β → α × β → BitVec 1) (x : S4x2x4096.Idx → α) (y : S4x2x4096.Idx → β) (n : Fin 4096) :
    (Host.sort2 S4x2x4096 2 cmp x y).2 (ix3 b e n)
      = y (ix3 b e (sortedFrom (fun k l => cmp (x (ix3 b e k), y (ix3 b e k)) (x (ix3 b e l), y (ix3 b e l)) == 1#1) n)) := by
  have hc : ∀ k : Fin 4096, Shape.Idx.along (s := S4x2x4096) (ix3 b e n) (2 : Fin 3) k = ix3 b e k := fun k => by
    funext a; fin_cases a <;> rfl
  unfold Host.sort2
  rw [dif_pos (by decide)]
  refine (congrArg y (hc _)).trans (congrArg (fun f => y (ix3 b e (sortedFrom f n))) (funext fun k => funext fun l => ?_))
  rw [← hc k, ← hc l]
  rfl

/-- The sorted list of positions. -/
theorem v36_at (n : Fin 4096) : res_main_v36 V0 (ix4 b e n (0 : Fin 1)) = BitVec.ofNat 32 (ord V0 b e n).val := by
  have h := sort2_at b e comparator_f32_i32_d2 (res_main_v34 V0) (res_main_call0_v0 V0) n
  have hq : (fun k l : Fin 4096 => (comparator_f32_i32_d2 (F := Ideal) (res_main_v34 V0 (ix3 b e k), res_main_call0_v0 V0 (ix3 b e k))
        (res_main_v34 V0 (ix3 b e l), res_main_call0_v0 V0 (ix3 b e l)) == 1#1))
        = fun k l => decide (-P V0 b e 0 k < -P V0 b e 0 l) := by
    funext k l
    rw [cmp_iff, v34_at, v34_at]
    cases decide (-P V0 b e 0 k < -P V0 b e 0 l) <;> rfl
  have hi : ∀ k, res_main_call0_v0 V0 (ix3 b e k) = BitVec.ofNat 32 k.val := fun k => by pointwise [res_main_call0_v0]
  rw [hq, hi] at h
  pointwise [res_main_v36]
  unfold ord
  exact h

/-- A position as a word is not below zero and not above the last position. -/
theorem word_pos (k : Fin 4096) : IntOp.cmpi .slt (BitVec.ofNat 32 k.val) 0#32 = 0#1 ∧ IntOp.cmpi .sge (BitVec.ofNat 32 k.val) 0#32 = 1#1
    ∧ IntOp.cmpi .sle (BitVec.ofNat 32 k.val) 4095#32 = 1#1 := by
  have ht : (BitVec.ofNat 32 k.val).toInt = (k.val : ℤ) := by
    rw [BitVec.toInt_eq_toNat_of_lt (by rw [BitVec.toNat_ofNat]; omega), BitVec.toNat_ofNat, Nat.mod_eq_of_lt (by omega)]
  have := k.isLt
  have h1 : ¬((k.val : ℤ) < 0) := by omega
  have h2 : (k.val : ℤ) ≤ 4095 := by omega
  have h3 : (0 : ℤ) ≤ k.val := by omega
  refine ⟨?_, ?_, ?_⟩ <;> simp only [IntOp.cmpi, BitVec.slt, BitVec.sle, ht]
  · rw [show (0#32).toInt = 0 from rfl, decide_eq_false h1]; rfl
  · rw [show (0#32).toInt = 0 from rfl, decide_eq_true h3]; rfl
  · rw [show (4095#32).toInt = 4095 from rfl, decide_eq_true h2]; rfl

/-- The gather's indices are the words of the sorted order. -/
theorem call1_v4_at (n : Fin 4096) : res_main_call1_v4 V0 (ix4 b e n (0 : Fin 1)) = BitVec.ofNat 32 (ord V0 b e n).val := by
  pointwise [res_main_call1_v4]
  rw [v36_at, (word_pos _).1]
  rfl

/-- A gather along the list of places reads the place its index names. -/
theorem gather_at (x : FVec Ideal S4x2x4096x4 .f32) (idx : IVec S4x2x4096x1 32) (n k : Fin 4096) (ch : Fin 4)
    (h : idx (ix4 b e n (0 : Fin 1)) = BitVec.ofNat 32 k.val) :
    Host.gather gather_S4x2x4096x4_S4x2x4096x1_S4x2x4096x4_3_2_01_01_2_3_1114 x idx (ix4 b e n ch) = x (ix4 b e k ch) := by
  unfold Host.gather
  refine congrArg x (funext fun a => Fin.ext ?_)
  show GatherDims.start _ _ _ a + GatherDims.batchCoord _ _ a + GatherDims.offCoord _ _ a = _
  fin_cases a
  · rw [GatherDims.start_batching _ _ _ _ (by decide), GatherDims.offCoord_eq_zero _ _ _ (by decide), Nat.zero_add, Nat.add_zero]
    unfold GatherDims.batchCoord
    rw [dif_pos (by decide)]
    rfl
  · rw [GatherDims.start_batching _ _ _ _ (by decide), GatherDims.offCoord_eq_zero _ _ _ (by decide), Nat.zero_add, Nat.add_zero]
    unfold GatherDims.batchCoord
    rw [dif_pos (by decide)]
    rfl
  · rw [GatherDims.batchCoord_eq_zero _ _ _ (by decide), GatherDims.offCoord_eq_zero _ _ _ (by decide), Nat.add_zero]
    unfold GatherDims.start
    rw [dif_pos (by decide)]
    rw [show GatherDims.siIdx _ _ _ = (ix4 b e n (0 : Fin 1) : S4x2x4096x1.Idx) from by funext a; fin_cases a <;> rfl, h]
    have ht : (BitVec.ofNat 32 k.val).toInt = (k.val : ℤ) := by
      rw [BitVec.toInt_eq_toNat_of_lt (by rw [BitVec.toNat_ofNat]; omega), BitVec.toNat_ofNat, Nat.mod_eq_of_lt (by omega)]
    rw [ht]
    show min ((k.val : ℤ).toNat) 4095 = k.val
    omega
  · rw [GatherDims.batchCoord_eq_zero _ _ _ (by decide)]
    unfold GatherDims.start GatherDims.offCoord
    rw [dif_neg (by decide), dif_pos (by decide), Nat.zero_add]
    rfl

/-- The sorted predictions. -/
theorem v37_at (n : Fin 4096) (ch : Fin 4) : res_main_v37 V0 (ix4 b e n ch) = P V0 b e ch (ord V0 b e n) := by
  pointwise [res_main_v37]
  rw [Nms.fold_one]
  · rw [gather_at b e _ _ n _ ch (call1_v4_at V0 b e n), v23_eq, body_at]
    rfl
  · intro x
    obtain ⟨b', e', n', hx⟩ : ∃ (b' : Fin 4) (e' : Fin 2) (n' : Fin 4096), x = ix4 b' e' n' (0 : Fin 1) :=
      ⟨x 0, x 1, x 2, by funext a; fin_cases a <;> first | rfl | exact Subsingleton.elim (α := Fin 1) _ _⟩
    rw [hx, call1_v4_at, (word_pos _).2.1, (word_pos _).2.2]
    rfl

/-- The reference's bit for a confident prediction, in sorted order. -/
theorem v41_at (n : Fin 4096) : res_main_v41 V0 (ix3 b e n) = 1#1 ↔ Nms.Sure (P V0 b e) (ord V0 b e n) := by
  pointwise [res_main_v41]
  rw [v37_at, Nms.ofBool_iff, decide_eq_true_iff]
  rfl

/-- The reference's bit for a target that counts. -/
theorem v45_at (n : Fin 4096) : res_main_v45 V0 (ix3 b e n) = 1#1 ↔ Nms.Real' (T V0 b e) n := by
  pointwise [res_main_v45]
  rw [v31_eq, body_at, Nms.ofBool_iff, decide_eq_true_iff]
  rfl

end Cert.ReferenceIdeal.Read

end
-- ==== Proof.RefPairs.lean ====
module

public import proofs.«01_k».proof.Proof.RefPlaces

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal)) (b : Fin 4) (e : Fin 2)

/-- The differences of the coordinates of two sorted predictions. -/
theorem v52_at (i j : Fin 4096) (c : Fin 3) : res_main_v52 V0 (ix5 b e i j c)
    = P V0 b e ⟨1 + c.val, by omega⟩ (ord V0 b e i) - P V0 b e ⟨1 + c.val, by omega⟩ (ord V0 b e j) := by
  pointwise [res_main_v52]
  rw [v37_at, v37_at]

/-- The differences of the coordinates of a sorted prediction and a target. -/
theorem v85_at (i j : Fin 4096) (c : Fin 3) : res_main_v85 V0 (ix5 b e i j c)
    = P V0 b e ⟨1 + c.val, by omega⟩ (ord V0 b e i) - T V0 b e ⟨1 + c.val, by omega⟩ j := by
  pointwise [res_main_v85]
  rw [v37_at, v31_eq, body_at]

/-- The upper triangle: the first place stands left of the second. -/
theorem left_iff (i j : Fin 4096) : Scalar.select (IntOp.cmpi .sge (IntOp.addi (BitVec.ofNat 32 i.val) 0#32) (BitVec.ofNat 32 j.val)) 0#1 1#1 = 1#1
    ↔ i < j := by
  have ht : ∀ k : Fin 4096, (BitVec.ofNat 32 k.val).toInt = (k.val : ℤ) := fun k => by
    rw [BitVec.toInt_eq_toNat_of_lt (by rw [BitVec.toNat_ofNat]; omega), BitVec.toNat_ofNat, Nat.mod_eq_of_lt (by omega)]
  have h0 : IntOp.addi (BitVec.ofNat 32 i.val) 0#32 = BitVec.ofNat 32 i.val := BitVec.add_zero _
  rw [h0]
  simp only [IntOp.cmpi, BitVec.sle, ht]
  by_cases h : i < j
  · rw [decide_eq_false (by rw [Fin.lt_def] at h; omega)]; exact iff_of_true rfl h
  · rw [decide_eq_true (by rw [Fin.lt_def] at h; omega)]; exact iff_of_false (by decide) h

/-- The table of the predictions that hold each other back, with ones and zeros. -/
theorem v69_at (i j : Fin 4096) : res_main_v69 V0 (ix4 b e i j)
    = Nms.bit (Nms.Holds (Nms.thr e) (P V0 b e) (ord V0 b e i) (ord V0 b e j)) := by
  pointwise [res_main_v69]
  refine (Nms.bit_word _).trans (congrArg Nms.bit (propext ?_))
  rw [Nms.andi_iff, Nms.andi_iff, Nms.andi_iff, left_iff, v41_at, v41_at, Nms.ofBool_iff, decide_eq_true_iff, Fin.sum_univ_three,
    ord_lt V0 b e, and_assoc (b := Nms.Bef _ _ _)]
  simp only [v52_at]
  have ht : Ideal.ofBits .f32 (lit1 (S2.rowMajor (ix1 e))) = Nms.thr e := by
    match e with
    | 0 => rfl
    | 1 => rfl
  rw [ht]
  rfl

/-- How many predictions hold a prediction back. -/
theorem v70_at (j : Fin 4096) : res_main_v70 V0 (ix3 b e j)
    = ∑ i, Nms.bit (Nms.Holds (Nms.thr e) (P V0 b e) (ord V0 b e i) (ord V0 b e j)) := by
  pointwise [res_main_v70]
  simp only [v69_at]

/-- A prediction is held back when one at a sorted place holds it back. -/
theorem held_iff (j : Fin 4096) : (∃ i, Nms.Holds (Nms.thr e) (P V0 b e) (ord V0 b e i) j) ↔ Nms.Held (Nms.thr e) (P V0 b e) j :=
  ((ord_bij V0 b e).surjective.exists (p := fun k => Nms.Holds (Nms.thr e) (P V0 b e) k j)).symm

/-- The kept predictions. -/
theorem v78_at (j : Fin 4096) : res_main_v78 V0 (ix3 b e j) = 1#1 ↔ Nms.Kept (Nms.thr e) (P V0 b e) (ord V0 b e j) := by
  pointwise [res_main_v78]
  rw [Nms.andi_iff, Nms.ofBool_iff, decide_eq_true_iff, v41_at]
  have hq : ∀ x : Fin 4096, FloatOps.uitofp (F := Ideal) .f32 (BitVec.ofBool (decide (@Ne EReal (res_main_v70 V0 (ix3 b e x)) 0)))
      = Nms.bit (Nms.Held (Nms.thr e) (P V0 b e) (ord V0 b e x)) := fun x => by
    refine (Nms.bit_word _).trans (congrArg Nms.bit (propext ?_))
    rw [Nms.ofBool_iff, decide_eq_true_iff, v70_at, Nms.bit_sum_ne, held_iff]
  simp only [hq, v69_at]
  rw [v70_at, Nms.bit_sum_sub]
  unfold Nms.Kept
  rw [(ord_bij V0 b e).surjective.exists (p := fun k => Nms.Holds (Nms.thr e) (P V0 b e) k (ord V0 b e j) ∧ ¬Nms.Held (Nms.thr e) (P V0 b e) k)]

/-- A kept prediction lies near a target that counts. -/
theorem v95_at (i j : Fin 4096) : res_main_v95 V0 (ix4 b e i j) = 1#1
    ↔ (Nms.sqd (P V0 b e) (T V0 b e) (ord V0 b e i) j < Ideal.ofBits .f32 0x3E800000#32 ∧ Nms.Kept (Nms.thr e) (P V0 b e) (ord V0 b e i))
      ∧ Nms.Real' (T V0 b e) j := by
  pointwise [res_main_v95]
  rw [Nms.andi_iff, Nms.andi_iff, v78_at, v45_at, Nms.ofBool_iff, decide_eq_true_iff, Fin.sum_univ_three]
  simp only [v85_at]
  rfl

/-- Whether a bit of a table is set in a column. -/
theorem any_col (x : IVec S4x2x4096x4096 1) (j : Fin 4096) :
    Host.reduce IntOp.ori x (constantI S_ 1 0#1) reducesTo_S4x2x4096x4096_S4x2x4096_d2 h_S_ (ix3 b e j) = 1#1 ↔ ∃ i, x (ix4 b e i j) = 1#1 := by
  have hR : S4x2x4096x4096.Reduces [(2 : Fin 4)] S4x2x4096 := by decide
  rw [Host.reduce_eq_fold_single IntOp.ori x _ _ hR h_S_ (ix3 b e j)]
  refine (Routing.fold_ori _ _).trans ?_
  simp only [Finset.mem_univ, true_and, Function.comp]
  exact exists_congr fun i => by
    rw [show hR.lift (ix3 b e j) i = (ix4 b e i j : S4x2x4096x4096.Idx) from by funext a; fin_cases a <;> rfl]

/-- Whether a bit of a table is set in a row. -/
theorem any_row (x : IVec S4x2x4096x4096 1) (i : Fin 4096) :
    Host.reduce IntOp.ori x (constantI S_ 1 0#1) reducesTo_S4x2x4096x4096_S4x2x4096_d3 h_S_ (ix3 b e i) = 1#1 ↔ ∃ j, x (ix4 b e i j) = 1#1 := by
  have hR : S4x2x4096x4096.Reduces [(3 : Fin 4)] S4x2x4096 := by decide
  rw [Host.reduce_eq_fold_single IntOp.ori x _ _ hR h_S_ (ix3 b e i)]
  refine (Routing.fold_ori _ _).trans ?_
  simp only [Finset.mem_univ, true_and, Function.comp]
  exact exists_congr fun j => by
    rw [show hR.lift (ix3 b e i) j = (ix4 b e i j : S4x2x4096x4096.Idx) from by funext a; fin_cases a <;> rfl]

/-- The targets that count and lie near a kept prediction. -/
theorem v96_at (j : Fin 4096) : res_main_v96 V0 (ix3 b e j) = 1#1
    ↔ Nms.Hit (Nms.thr e) (P V0 b e) (T V0 b e) j ∧ Nms.Real' (T V0 b e) j := by
  unfold res_main_v96
  refine (any_col b e _ j).trans ((exists_congr fun i => v95_at V0 b e i j).trans ?_)
  rw [exists_and_right]
  unfold Nms.Hit
  rw [(ord_bij V0 b e).surjective.exists (p := fun k => Nms.sqd (P V0 b e) (T V0 b e) k j < Ideal.ofBits .f32 0x3E800000#32 ∧ Nms.Kept (Nms.thr e) (P V0 b e) k)]

/-- The count of the set bits in a list. -/
theorem count_at (w : IVec S4x2x4096 1) (Q : Fin 4096 → Prop) (h : ∀ i, w (ix3 b e i) = 1#1 ↔ Q i) :
    FloatOps.sitofp (F := Ideal) .f32 (Host.reduce IntOp.addi (extui 32 w natLt_1_32) (constantI S_ 32 0#32) reducesTo_S4x2x4096_S4x2_d2 h_S_ (ix2 b e))
      = Nms.num Q := by
  have hR : S4x2x4096.Reduces [(2 : Fin 3)] S4x2 := by decide
  rw [Host.reduce_eq_fold_single IntOp.addi _ _ _ hR h_S_ (ix2 b e), ← Nms.num_word (fun i => w (ix3 b e i)) Q h]
  have hf : (extui 32 w natLt_1_32 ∘ hR.lift (ix2 b e)) = fun i : Fin 4096 => (w (ix3 b e i)).setWidth 32 := by
    funext i
    show (w (hR.lift (ix2 b e) i)).setWidth 32 = _
    rw [show hR.lift (ix2 b e) i = (ix3 b e i : S4x2x4096.Idx) from by funext a; fin_cases a <;> rfl]
  rw [hf]
  rfl

end Cert.ReferenceIdeal.Read

end
-- ==== Proof.RefRun.lean ====
module

public import proofs.«01_k».proof.Proof.RefPairs

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal)) (b : Fin 4) (e : Fin 2)

/-- A found target. -/
theorem found_iff (j : Fin 4096) : andi (res_main_v96 V0) (res_main_v45 V0) (ix3 b e j) = 1#1
    ↔ Nms.Hit (Nms.thr e) (P V0 b e) (T V0 b e) j ∧ Nms.Real' (T V0 b e) j := by
  refine (Nms.andi_iff _ _).trans ?_
  rw [v96_at, v45_at, and_assoc, and_self]

/-- A missed target. -/
theorem missed_iff (j : Fin 4096) : andi (noti (res_main_v96 V0)) (res_main_v45 V0) (ix3 b e j) = 1#1
    ↔ ¬Nms.Hit (Nms.thr e) (P V0 b e) (T V0 b e) j ∧ Nms.Real' (T V0 b e) j := by
  refine (Nms.andi_iff _ _).trans ?_
  rw [show noti (res_main_v96 V0) (ix3 b e j) = 1#1 ↔ ¬res_main_v96 V0 (ix3 b e j) = 1#1 from Nms.noti_iff _, v96_at, v45_at]
  exact ⟨fun h => ⟨fun k => h.1 ⟨k, h.2⟩, h.2⟩, fun h => ⟨fun k => h.1 k.1, h.2⟩⟩

/-- A wrong prediction at a sorted place. -/
theorem wrong_iff (i : Fin 4096) : andi (res_main_v78 V0) (noti (Host.reduce IntOp.ori (res_main_v95 V0) (constantI S_ 1 0#1) reducesTo_S4x2x4096x4096_S4x2x4096_d3 h_S_)) (ix3 b e i) = 1#1
    ↔ Nms.Kept (Nms.thr e) (P V0 b e) (ord V0 b e i) ∧ ¬Nms.Good (P V0 b e) (T V0 b e) (ord V0 b e i) := by
  refine (Nms.andi_iff _ _).trans ?_
  rw [v78_at]
  refine and_congr_right fun hk => (Nms.noti_iff _).trans (not_congr ((any_row b e _ i).trans (exists_congr fun j => (v95_at V0 b e i j).trans ?_)))
  exact ⟨fun h => ⟨h.1.1, h.2⟩, fun h => ⟨⟨h.1, hk⟩, h.2⟩⟩

/-- The three counts are those of the specification. -/
theorem out_at (c : Fin 3) : (sitofp .f32 ((concatenate S4x2x3 2 [⟨S4x2x1, ((broadcastInDim S4x2x1 ![0, 1] bcast_S4x2_S4x2x1_0_1 (Host.reduce IntOp.addi (extui 32 (andi (res_main_v96 V0) (res_main_v45 V0)) natLt_1_32) (constantI S_ 32 0#32) reducesTo_S4x2x4096_S4x2_d2 h_S_)) : (⟨S4x2x1, .i32⟩ : BufTy).Contents (Elt Ideal))⟩, ⟨S4x2x1, ((broadcastInDim S4x2x1 ![0, 1] bcast_S4x2_S4x2x1_0_1 (Host.reduce IntOp.addi (extui 32 (andi (res_main_v78 V0) (noti (Host.reduce IntOp.ori (res_main_v95 V0) (constantI S_ 1 0#1) reducesTo_S4x2x4096x4096_S4x2x4096_d3 h_S_))) natLt_1_32) (constantI S_ 32 0#32) reducesTo_S4x2x4096_S4x2_d2 h_S_)) : (⟨S4x2x1, .i32⟩ : BufTy).Contents (Elt Ideal))⟩, ⟨S4x2x1, ((broadcastInDim S4x2x1 ![0, 1] bcast_S4x2_S4x2x1_0_1 (Host.reduce IntOp.addi (extui 32 (andi (noti (res_main_v96 V0)) (res_main_v45 V0)) natLt_1_32) (constantI S_ 32 0#32) reducesTo_S4x2x4096_S4x2_d2 h_S_)) : (⟨S4x2x1, .i32⟩ : BufTy).Contents (Elt Ideal))⟩] concatenates_S4x2x1_S4x2x1_S4x2x1_S4x2x3_d2 : (⟨S4x2x3, .i32⟩ : BufTy).Contents (Elt Ideal))) : FVec Ideal S4x2x3 .f32) (ix3 b e c)
    = Nms.out (V0 (Proc.devRef .tc main_arg0)) (V0 (Proc.devRef .tc main_arg1)) (ix3 b e c) := by
  have h0 := count_at b e _ _ (found_iff V0 b e)
  have h1 := (count_at b e _ _ (wrong_iff V0 b e)).trans (Nms.num_perm (fun i => Nms.Kept (Nms.thr e) (P V0 b e) i ∧ ¬Nms.Good (P V0 b e) (T V0 b e) i) _ (ord_bij V0 b e))
  have h2 := count_at b e _ _ (missed_iff V0 b e)
  generalize Host.reduce IntOp.addi (extui 32 (andi (res_main_v96 V0) (res_main_v45 V0)) natLt_1_32) (constantI S_ 32 0#32) reducesTo_S4x2x4096_S4x2_d2 h_S_ = x0 at h0 ⊢
  generalize Host.reduce IntOp.addi (extui 32 (andi (noti (res_main_v96 V0)) (res_main_v45 V0)) natLt_1_32) (constantI S_ 32 0#32) reducesTo_S4x2x4096_S4x2_d2 h_S_ = x2 at h2 ⊢
  generalize Host.reduce IntOp.addi (extui 32 (andi (res_main_v78 V0) (noti (Host.reduce IntOp.ori (res_main_v95 V0) (constantI S_ 1 0#1) reducesTo_S4x2x4096x4096_S4x2x4096_d3 h_S_))) natLt_1_32) (constantI S_ 32 0#32) reducesTo_S4x2x4096_S4x2_d2 h_S_ = x1 at h1 ⊢
  pointwise []
  match c with
  | 0 => exact h0
  | 1 => exact h1
  | 2 => exact h2

/-- The plain program ends with the counts of the specification and leaves its arguments alone. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113) = Nms.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => by
      obtain ⟨b, e, k, rfl⟩ : ∃ (b : Fin 4) (e : Fin 2) (k : Fin 3), i = ix3 b e k :=
        ⟨i 0, i 1, i 2, by funext a; fin_cases a <;> rfl⟩
      exact out_at (launchContents m c) b e k), (h c).2⟩)
    (run m ρ)

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameBits
public import proofs.«01_k».proof.Proof.FrameIdeal
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel ends, with its arguments as they were and every counter at zero. -/
theorem frame_kernel : Cert.quiescent_Kernel := fun m ρ _ => Cert.Kernel.Body.run_frame m ρ
/-- The same of the kernel read over the extended reals. -/
theorem frame_kernelIdeal : Cert.quiescent_KernelIdeal := fun m ρ _ => Cert.KernelIdeal.Body.run_frame m ρ
/-- The same of the reference read over the extended reals. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The shape relations the precondition takes. -/
theorem pre_facts : Cert.Pre_offsets_in_cells.Facts := ⟨by decide, by decide, by decide⟩

/-- From the same arguments, with every offset inside its cell, kernel and reference end with the same counts. -/
theorem same_counts : Cert.algebraic_KernelIdeal_ReferenceIdeal_pre_offsets_in_cells (hPre_offsets_in_cells := pre_facts) :=
  fun m g m' g' hpre hargs => by
    haveI := pre_facts
    refine ⟨fun c => Cert.Nms.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
      Cert.KernelIdeal.Body.kernel_run m g fun c => Cert.KernelIdeal.Body.unit01_of _ _ (hpre c), ?_⟩
    refine (θ_run Cert.ReferenceIdeal.defs _ _).mono (fun r h c => ⟨(h c).1.trans ?_, (h c).2⟩) (Cert.ReferenceIdeal.Read.reference_run m' g')
    rw [(hargs c).1, (hargs c).2]

/-- Everything claimed. -/
theorem claim : Cert.Claim :=
  ⟨Cert.Kernel.Gen.facts, Cert.KernelIdeal.Gen.facts, Cert.ReferenceIdeal.Gen.facts, pre_facts, frame_kernel, frame_kernelIdeal,
    fun m g _ => frame_kernelIdeal m g trivial, frame_referenceIdeal, fun m g _ => frame_referenceIdeal m g trivial, trivial, same_counts⟩

end Cert.Proof

end
